-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S9216x256 : Shape := ⟨2, ![9216, 256]⟩
abbrev S8192x256 : Shape := ⟨2, ![8192, 256]⟩
abbrev S_ : Shape := ⟨0, ![]⟩
abbrev S9216 : Shape := ⟨1, ![9216]⟩
abbrev S9216x1 : Shape := ⟨2, ![9216, 1]⟩
abbrev S256x8192 : Shape := ⟨2, ![256, 8192]⟩
abbrev S9216x8192 : Shape := ⟨2, ![9216, 8192]⟩
abbrev S8192 : Shape := ⟨1, ![8192]⟩
abbrev S1x8192 : Shape := ⟨2, ![1, 8192]⟩
abbrev S9216x15 : Shape := ⟨2, ![9216, 15]⟩
abbrev S9216x8191 : Shape := ⟨2, ![9216, 8191]⟩

class Facts : Prop where
  reducesTo_S9216x256_S9216_d1 : S9216x256.ReducesTo [1] S9216
  h_S_ : 0 < S_.numel
  bcast_S9216_S9216x1_0 : S9216.BroadcastsInDim S9216x1 (![0] : Fin 1 → Fin S9216x1.rank)
  transposes_S8192x256_S256x8192_1_0 : S8192x256.Transposes [1, 0] S256x8192
  bcast_S_S9216x8192 : S_.BroadcastsInDim S9216x8192 (![] : Fin 0 → Fin S9216x8192.rank)
  bcast_S9216x1_S9216x8192_0_1 : S9216x1.BroadcastsInDim S9216x8192 (![0, 1] : Fin 2 → Fin S9216x8192.rank)
  reducesTo_S8192x256_S8192_d1 : S8192x256.ReducesTo [1] S8192
  bcast_S8192_S1x8192_1 : S8192.BroadcastsInDim S1x8192 (![1] : Fin 1 → Fin S1x8192.rank)
  bcast_S1x8192_S9216x8192_0_1 : S1x8192.BroadcastsInDim S9216x8192 (![0, 1] : Fin 2 → Fin S9216x8192.rank)
  sliceFits_S9216x8192_S9216x15 : S9216x8192.Slices (fun _ => 0) S9216x15
  slices_S9216x15_S9216x1_0_14 : S9216x15.Slices ![0, 14] S9216x1
  bcast_S_S8192 : S_.BroadcastsInDim S8192 (![] : Fin 0 → Fin S8192.rank)
  sliceFits_S9216x8192_S9216x8192 : S9216x8192.Slices (fun _ => 0) S9216x8192
  slices_S9216x8192_S9216x8191_0_1 : S9216x8192.Slices ![0, 1] S9216x8191
  slices_S9216x8192_S9216x8191_0_0 : S9216x8192.Slices ![0, 0] S9216x8191
  reducesTo_S9216x8192_S_d0_1 : S9216x8192.ReducesTo [0, 1] S_
  reducesTo_S9216x8191_S_d0_1 : S9216x8191.ReducesTo [0, 1] S_
  dot_S9216x256_S256x8192_S9216x8192_1_0_0_1_n_n_wf : DotDims.WF S9216x256 S256x8192 S9216x8192 [1] [0] [0] [1] [] []

variable [Facts]

def dot_S9216x256_S256x8192_S9216x8192_1_0_0_1_n_n : DotDims S9216x256 S256x8192 S9216x8192 where
  lhsContracting := [1]
  rhsContracting := [0]
  lhsNonContracting := [0]
  rhsNonContracting := [1]
  lhsBatch := []
  rhsBatch := []
  wf := dot_S9216x256_S256x8192_S9216x8192_1_0_0_1_n_n_wf
def fn_part2 {F : FTy → Type} [FloatOps F] (main_v35 : IVec S9216x8191 1) (main_v36 : IVec S9216x8192 1) (main_c : IVec S_ 1) : IVec S_ 1 :=
  let main_v37 : IVec S_ 1 := (fun x v => Host.reduce IntOp.andi x v reducesTo_S9216x8192_S_d0_1 h_S_) main_v36 main_c
  let main_c_7 : IVec S_ 1 := constantI S_ 1 1#1
  let main_v38 : IVec S_ 1 := (fun x v => Host.reduce IntOp.andi x v reducesTo_S9216x8191_S_d0_1 h_S_) main_v35 main_c_7
  let main_v39 : IVec S_ 1 := andi main_v37 main_v38
  main_v39

def fn_part1 {F : FTy → Type} [FloatOps F] (main_v13 : FVec F S9216x8192 .f32) (main_v16 : IVec S9216x8192 1) (main_v17 : FVec F S9216x8192 .f32) (main_values : FVec F S9216x15 .f32) : IVec S_ 1 :=
  let main_v18 : FVec F S9216x1 .f32 := (extractStridedSlice S9216x1 ![0, 14] · slices_S9216x15_S9216x1_0_14) main_values
  let main_v19 : FVec F S9216x8192 .f32 := broadcastInDim S9216x8192 ![0, 1] bcast_S9216x1_S9216x8192_0_1 main_v18
  let main_v20 : IVec S9216x8192 1 := cmpf .oeq main_v17 main_v19
  let main_v21 : FVec F S9216x8192 .f32 := broadcastInDim S9216x8192 ![0, 1] bcast_S9216x1_S9216x8192_0_1 main_v18
  let main_v22 : FVec F S9216x8192 .f32 := subf main_v17 main_v21
  let main_v23 : FVec F S9216x8192 .f32 := Host.absf main_v22
  let main_cst_3 : FVec F S_ .f32 := constant S_ .f32 0x37800000#32
  let main_v24 : FVec F S9216x8192 .f32 := broadcastInDim S9216x8192 ![] bcast_S_S9216x8192 main_cst_3
  let main_v25 : IVec S9216x8192 1 := cmpf .oge main_v23 main_v24
  let main_v26 : IVec S9216x8192 1 := ori main_v20 main_v25
  let main_v27 : FVec F S8192 .f32 := sitofp .f32 (iotaInDim S8192 32 0)
  let main_cst_4 : FVec F S_ .f32 := constant S_ .f32 0x31000000#32
  let main_v28 : FVec F S8192 .f32 := broadcastInDim S8192 ![] bcast_S_S8192 main_cst_4
  let main_v29 : FVec F S8192 .f32 := mulf main_v27 main_v28
  let main_v30 : FVec F S1x8192 .f32 := broadcastInDim S1x8192 ![1] bcast_S8192_S1x8192_1 main_v29
  let main_v31 : FVec F S9216x8192 .f32 := broadcastInDim S9216x8192 ![0, 1] bcast_S1x8192_S9216x8192_0_1 main_v30
  let main_v32 : FVec F S9216x8192 .f32 := addf main_v13 main_v31
  let main_values_5 : FVec F S9216x8192 .f32 := (fun x => (Host.topK S9216x8192 1 (FloatOps.cmpfTotal .gt) x sliceFits_S9216x8192_S9216x8192).1) main_v32
  let main_indices_6 : IVec S9216x8192 32 := (fun x => (Host.topK S9216x8192 1 (FloatOps.cmpfTotal .gt) x sliceFits_S9216x8192_S9216x8192).2) main_v32
  let main_v33 : FVec F S9216x8191 .f32 := (extractStridedSlice S9216x8191 ![0, 1] · slices_S9216x8192_S9216x8191_0_1) main_values_5
  let main_v34 : FVec F S9216x8191 .f32 := (extractStridedSlice S9216x8191 ![0, 0] · slices_S9216x8192_S9216x8191_0_0) main_values_5
  let main_v35 : IVec S9216x8191 1 := cmpf .olt main_v33 main_v34
  let main_v36 : IVec S9216x8192 1 := andi main_v16 main_v26
  let main_c : IVec S_ 1 := constantI S_ 1 1#1
  fn_part2 (F := F) main_v35 main_v36 main_c

def fn {F : FTy → Type} [FloatOps F] (main_arg0 : FVec F S9216x256 .f32) (main_arg1 : FVec F S8192x256 .f32) : IVec S_ 1 :=
  let main_v0 : FVec F S9216x256 .f32 := mulf main_arg0 main_arg0
  let main_cst : FVec F S_ .f32 := constant S_ .f32 0x00000000#32
  let main_v1 : FVec F S9216 .f32 := (fun x v => Host.reduceAdd x v reducesTo_S9216x256_S9216_d1 h_S_) main_v0 main_cst
  let main_v2 : FVec F S9216x1 .f32 := broadcastInDim S9216x1 ![0] bcast_S9216_S9216x1_0 main_v1
  let main_v3 : FVec F S256x8192 .f32 := (transpose S256x8192 [1, 0] · transposes_S8192x256_S256x8192_1_0) main_arg1
  let main_v4 : FVec F S9216x8192 .f32 := (fun l r => Host.dotGeneral dot_S9216x256_S256x8192_S9216x8192_1_0_0_1_n_n none l r) main_arg0 main_v3
  let main_cst_0 : FVec F S_ .f32 := constant S_ .f32 0x40000000#32
  let main_v5 : FVec F S9216x8192 .f32 := broadcastInDim S9216x8192 ![] bcast_S_S9216x8192 main_cst_0
  let main_v6 : FVec F S9216x8192 .f32 := mulf main_v5 main_v4
  let main_v7 : FVec F S9216x8192 .f32 := broadcastInDim S9216x8192 ![0, 1] bcast_S9216x1_S9216x8192_0_1 main_v2
  let main_v8 : FVec F S9216x8192 .f32 := subf main_v7 main_v6
  let main_v9 : FVec F S8192x256 .f32 := mulf main_arg1 main_arg1
  let main_cst_1 : FVec F S_ .f32 := constant S_ .f32 0x00000000#32
  let main_v10 : FVec F S8192 .f32 := (fun x v => Host.reduceAdd x v reducesTo_S8192x256_S8192_d1 h_S_) main_v9 main_cst_1
  let main_v11 : FVec F S1x8192 .f32 := broadcastInDim S1x8192 ![1] bcast_S8192_S1x8192_1 main_v10
  let main_v12 : FVec F S9216x8192 .f32 := broadcastInDim S9216x8192 ![0, 1] bcast_S1x8192_S9216x8192_0_1 main_v11
  let main_v13 : FVec F S9216x8192 .f32 := addf main_v8 main_v12
  let main_v14 : FVec F S9216x8192 .f32 := Host.absf main_v13
  let main_cst_2 : FVec F S_ .f32 := constant S_ .f32 0x7F800000#32
  let main_v15 : FVec F S9216x8192 .f32 := broadcastInDim S9216x8192 ![] bcast_S_S9216x8192 main_cst_2
  let main_v16 : IVec S9216x8192 1 := cmpf .olt main_v14 main_v15
  let main_v17 : FVec F S9216x8192 .f32 := Host.negf main_v13
  let main_values : FVec F S9216x15 .f32 := (fun x => (Host.topK S9216x15 1 (FloatOps.cmpfTotal .gt) x sliceFits_S9216x8192_S9216x15).1) main_v17
  let main_indices : IVec S9216x15 32 := (fun x => (Host.topK S9216x15 1 (FloatOps.cmpfTotal .gt) x sliceFits_S9216x8192_S9216x15).2) main_v17
  fn_part1 (F := F) main_v13 main_v16 main_v17 main_values
-- ==== Kernel.lean ====
abbrev S9216x256 : Shape := ⟨2, ![9216, 256]⟩
abbrev S8192x256 : Shape := ⟨2, ![8192, 256]⟩
abbrev S_ : Shape := ⟨0, ![]⟩
abbrev S9216 : Shape := ⟨1, ![9216]⟩
abbrev S9216x1 : Shape := ⟨2, ![9216, 1]⟩
abbrev S8192 : Shape := ⟨1, ![8192]⟩
abbrev S1x8192 : Shape := ⟨2, ![1, 8192]⟩
abbrev S9216x8192 : Shape := ⟨2, ![9216, 8192]⟩
abbrev S1x1 : Shape := ⟨2, ![1, 1]⟩
abbrev S256x256 : Shape := ⟨2, ![256, 256]⟩
abbrev S256x1 : Shape := ⟨2, ![256, 1]⟩
abbrev S256x8192 : Shape := ⟨2, ![256, 8192]⟩
abbrev S256x128 : Shape := ⟨2, ![256, 128]⟩
abbrev S256 : Shape := ⟨1, ![256]⟩
abbrev S256x384 : Shape := ⟨2, ![256, 384]⟩
abbrev S1x256x1 : Shape := ⟨3, ![1, 256, 1]⟩
abbrev S1 : Shape := ⟨1, ![1]⟩
abbrev S1x1x1 : Shape := ⟨3, ![1, 1, 1]⟩
abbrev S1x256x256 : Shape := ⟨3, ![1, 256, 256]⟩

abbrev nBuf : Space → Nat
  | .hbm => 19
  | .vmem => 11
  | .smem => 0
  | _ => 0

abbrev bufTy : (tb : Table) → Fin (tcTables nBuf tb) → BufTy
  | .hbm, ⟨0, _⟩ => ⟨S9216x256, .f32⟩
  | .hbm, ⟨1, _⟩ => ⟨S8192x256, .f32⟩
  | .hbm, ⟨2, _⟩ => ⟨S9216x256, .f32⟩
  | .hbm, ⟨3, _⟩ => ⟨S_, .f32⟩
  | .hbm, ⟨4, _⟩ => ⟨S9216, .f32⟩
  | .hbm, ⟨5, _⟩ => ⟨S9216x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S9216x256, .f32⟩
  | .hbm, ⟨11, _⟩ => ⟨S9216x8192, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x1, .f32⟩
  | .local _ .vmem, ⟨3, _⟩ => ⟨S256x1, .f32⟩
  | .local _ .vmem, ⟨4, _⟩ => ⟨S8192x256, .f32⟩
  | .local _ .vmem, ⟨5, _⟩ => ⟨S1x8192, .f32⟩
  | .local _ .vmem, ⟨6, _⟩ => ⟨S256x256, .f32⟩
  | .local _ .vmem, ⟨7, _⟩ => ⟨S256x256, .f32⟩
  | .local _ .vmem, ⟨8, _⟩ => ⟨S256x8192, .f32⟩
  | .local _ .vmem, ⟨9, _⟩ => ⟨S256x8192, .f32⟩
  | .local _ .vmem, ⟨10, _⟩ => ⟨S1x1, .f32⟩
  | _, _ => ⟨S9216x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0_0 : Ref sig .tc := ⟨.hbm, 10, rfl⟩
abbrev main_v0_2 : Ref sig .tc := ⟨.hbm, 11, rfl⟩
abbrev main_call0_v6_2 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_cst_2 : Ref sig .tc := ⟨.hbm, 16, rfl⟩
abbrev main_call0_v9 : Ref sig .tc := ⟨.hbm, 17, rfl⟩
abbrev main_v0_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v644 : BitVec 1 := Scalar.cmpi .eq arg0 c0_i32
  let v645 : BitVec 32 := Scalar.extui v644
  let c0_i32_48 : BitVec 32 := 0#32
  let v646 : BitVec 1 := Scalar.cmpi .ne v645 c0_i32_48
  v646

def k0_cond2 (i : grid0.Coords) : BitVec 1 :=
  let arg0 : BitVec 32 := BitVec.ofNat 32 (i 0).val
  let c0_i32_49 : BitVec 32 := 0#32
  let v647 : BitVec 1 := Scalar.cmpi .ne arg0 c0_i32_49
  let v648 : BitVec 32 := Scalar.extui v647
  let c0_i32_50 : BitVec 32 := 0#32
  let v649 : BitVec 1 := Scalar.cmpi .ne v648 c0_i32_50
  v649

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S9216x256 : Shape := ⟨2, ![9216, 256]⟩
abbrev S8192x256 : Shape := ⟨2, ![8192, 256]⟩
abbrev S_ : Shape := ⟨0, ![]⟩
abbrev S9216 : Shape := ⟨1, ![9216]⟩
abbrev S9216x1 : Shape := ⟨2, ![9216, 1]⟩
abbrev S256x8192 : Shape := ⟨2, ![256, 8192]⟩
abbrev S9216x8192 : Shape := ⟨2, ![9216, 8192]⟩
abbrev S8192 : Shape := ⟨1, ![8192]⟩
abbrev S1x8192 : Shape := ⟨2, ![1, 8192]⟩
abbrev S9216x15 : Shape := ⟨2, ![9216, 15]⟩
abbrev S9216x15x1 : Shape := ⟨3, ![9216, 15, 1]⟩
abbrev S1 : Shape := ⟨1, ![1]⟩
abbrev S1x1x1 : Shape := ⟨3, ![1, 1, 1]⟩
abbrev S9216x15x256 : Shape := ⟨3, ![9216, 15, 256]⟩
abbrev S9216x15x2 : Shape := ⟨3, ![9216, 15, 2]⟩

abbrev nBuf : Space → Nat
  | .hbm => 89
  | .vmem => 0
  | .smem => 0
  | _ => 0

abbrev bufTy : (tb : Table) → Fin (tcTables nBuf tb) → BufTy
  | .hbm, ⟨0, _⟩ => ⟨S9216x256, .f32⟩
  | .hbm, ⟨1, _⟩ => ⟨S8192x256, .f32⟩
  | .hbm, ⟨2, _⟩ => ⟨S9216x256, .f32⟩
  | .hbm, ⟨3, _⟩ => ⟨S_, .f32⟩
  | .hbm, ⟨4, _⟩ => ⟨S9216, .f32⟩
  | .hbm, ⟨5, _⟩ => ⟨S9216x1, .f32⟩
  | .hbm, ⟨6, _⟩ => ⟨S256x8192, .f32⟩
  | .hbm, ⟨7, _⟩ => ⟨S9216x8192, .f32⟩
  | .hbm, ⟨8, _⟩ => ⟨S_, .f32⟩
  | .hbm, ⟨9, _⟩ => ⟨S9216x8192, .f32⟩
  | .hbm, ⟨10, _⟩ => ⟨S9216x8192, .f32⟩
  | .hbm, ⟨11, _⟩ => ⟨S9216x8192, .f32⟩
  | .hbm, ⟨12, _⟩ => ⟨S9216x8192, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S9216x8192, .f32⟩
  | .hbm, ⟨18, _⟩ => ⟨S9216x8192, .f32⟩
  | .hbm, ⟨19, _⟩ => ⟨S9216x8192, .f32⟩
  | .hbm, ⟨20, _⟩ => ⟨S9216x15, .f32⟩
  | .hbm, ⟨21, _⟩ => ⟨S9216x15, .i32⟩
  | .hbm, ⟨22, _⟩ => ⟨S_, .i32⟩
  | .hbm, ⟨23, _⟩ => ⟨S9216x15, .i32⟩
  | .hbm, ⟨24, _⟩ => ⟨S9216x15, .i1⟩
  | .hbm, ⟨25, _⟩ => ⟨S_, .i32⟩
  | .hbm, ⟨26, _⟩ => ⟨S9216x15, .i32⟩
  | .hbm, ⟨27, _⟩ => ⟨S9216x15, .i32⟩
  | .hbm, ⟨28, _⟩ => ⟨S9216x15, .i32⟩
  | .hbm, ⟨29, _⟩ => ⟨S9216x15x1, .i32⟩
  | .hbm, ⟨30, _⟩ => ⟨S1, .i32⟩
  | .hbm, ⟨31, _⟩ => ⟨S_, .i32⟩
  | .hbm, ⟨32, _⟩ => ⟨S9216x15x1, .i32⟩
  | .hbm, ⟨33, _⟩ => ⟨S9216x15x1, .i1⟩
  | .hbm, ⟨34, _⟩ => ⟨S1x1x1, .i32⟩
  | .hbm, ⟨35, _⟩ => ⟨S9216x15x1, .i32⟩
  | .hbm, ⟨36, _⟩ => ⟨S9216x15x1, .i1⟩
  | .hbm, ⟨37, _⟩ => ⟨S9216x15x1, .i1⟩
  | .hbm, ⟨38, _⟩ => ⟨S_, .i1⟩
  | .hbm, ⟨39, _⟩ => ⟨S9216x15, .i1⟩
  | .hbm, ⟨40, _⟩ => ⟨S9216x15x256, .f32⟩
  | .hbm, ⟨41, _⟩ => ⟨S9216x15x256, .i1⟩
  | .hbm, ⟨42, _⟩ => ⟨S_, .f32⟩
  | .hbm, ⟨43, _⟩ => ⟨S9216x15x256, .f32⟩
  | .hbm, ⟨44, _⟩ => ⟨S9216x15x256, .f32⟩
  | .hbm, ⟨45, _⟩ => ⟨S_, .f32⟩
  | .hbm, ⟨46, _⟩ => ⟨S9216x8192, .f32⟩
  | .hbm, ⟨47, _⟩ => ⟨S9216, .i32⟩
  | .hbm, ⟨48, _⟩ => ⟨S9216x1, .i32⟩
  | .hbm, ⟨49, _⟩ => ⟨S_, .i32⟩
  | .hbm, ⟨50, _⟩ => ⟨S9216x1, .i32⟩
  | .hbm, ⟨51, _⟩ => ⟨S9216x1, .i1⟩
  | .hbm, ⟨52, _⟩ => ⟨S_, .i32⟩
  | .hbm, ⟨53, _⟩ => ⟨S9216x1, .i32⟩
  | .hbm, ⟨54, _⟩ => ⟨S9216x1, .i32⟩
  | .hbm, ⟨55, _⟩ => ⟨S9216x1, .i32⟩
  | .hbm, ⟨56, _⟩ => ⟨S_, .i32⟩
  | .hbm, ⟨57, _⟩ => ⟨S9216x15, .i32⟩
  | .hbm, ⟨58, _⟩ => ⟨S9216x15, .i1⟩
  | .hbm, ⟨59, _⟩ => ⟨S_, .i32⟩
  | .hbm, ⟨60, _⟩ => ⟨S9216x15, .i32⟩
  | .hbm, ⟨61, _⟩ => ⟨S9216x15, .i32⟩
  | .hbm, ⟨62, _⟩ => ⟨S9216x15, .i32⟩
  | .hbm, ⟨63, _⟩ => ⟨S9216x15, .i32⟩
  | .hbm, ⟨64, _⟩ => ⟨S9216x15x1, .i32⟩
  | .hbm, ⟨65, _⟩ => ⟨S9216x15x1, .i32⟩
  | .hbm, ⟨66, _⟩ => ⟨S9216x15x2, .i32⟩
  | .hbm, ⟨67, _⟩ => ⟨S_, .f32⟩
  | .hbm, ⟨68, _⟩ => ⟨S9216x15, .f32⟩
  | .hbm, ⟨69, _⟩ => ⟨S9216x8192, .f32⟩
  | .hbm, ⟨70, _⟩ => ⟨S_, .f32⟩
  | .hbm, ⟨71, _⟩ => ⟨S9216x256, .f32⟩
  | .hbm, ⟨72, _⟩ => ⟨S9216x256, .f32⟩
  | .hbm, ⟨73, _⟩ => ⟨S9216x256, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S9216x256, .f32⟩
  | .hbm, ⟨79, _⟩ => ⟨S9216x256, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S9216x256, .f32⟩
  | .hbm, ⟨88, _⟩ => ⟨S9216x256, .f32⟩
  | _, _ => ⟨S9216x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c : Ref sig .tc := ⟨.hbm, 49, rfl⟩
abbrev main_v19 : Ref sig .tc := ⟨.hbm, 50, rfl⟩
abbrev main_v20 : Ref sig .tc := ⟨.hbm, 51, rfl⟩
abbrev main_c_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_4 : Ref sig .tc := ⟨.hbm, 56, rfl⟩
abbrev main_v24 : Ref sig .tc := ⟨.hbm, 57, rfl⟩
abbrev main_v25 : Ref sig .tc := ⟨.hbm, 58, rfl⟩
abbrev main_c_5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_8 : Ref sig .tc := ⟨.hbm, 74, rfl⟩
abbrev main_v38 : Ref sig .tc := ⟨.hbm, 75, rfl⟩
abbrev main_cst_9 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_10 : Ref sig .tc := ⟨.hbm, 80, rfl⟩
abbrev main_v42 : Ref sig .tc := ⟨.hbm, 81, rfl⟩
abbrev main_cst_11 : Ref sig .tc := ⟨.hbm, 82, rfl⟩
abbrev main_v43 : Ref sig .tc := ⟨.hbm, 83, rfl⟩
abbrev main_cst_12 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩

abbrev nD : Nat := 1
abbrev τ : Topo := Topo.v7x

variable {F : FTy → Type} [FloatOps F]
-- ==== Proof.Ideal.Chain.lean ====
module

public import proofs.«01_k».proof.Proof.Gen.KernelIdeal
public import proofs.«01_k».proof.Proof.Gen.KernelIdeal.Skeleton

/-!
# The values the body computes before its loop

Each definition is one vector that a stretch of the body hands to the next one, as a function of the
four blocks the body loads: `v0` the rows of `z_e`, `v1` the codebook, `v3` the rows' squared norms and
`v9` the codewords' squared norms. The names carry the number of the value in the printed program.
-/

@[expose] public section

noncomputable section

namespace Cert.KernelIdeal.Hand

open Idealize.ShloMosaic Cert.KernelIdeal Cert.KernelIdeal.Gen Cert.KernelIdeal.Facts

variable {F : FTy → Type} [FloatOps F]
variable (v0 : Vec F S256x256 .f32) (v1 : Vec F S8192x256 .f32) (v3 : Vec F S256x1 .f32) (v9 : Vec F S1x8192 .f32)

/-- The distances of the block. -/
def val_12 : FVec F S256x8192 .f32 := k0_pay5 v0 v1 v3 v9

/-- The column number times 2⁻²⁹. -/
def val_16 : FVec F S256x8192 .f32 := (k0_pay6 (F := F))

/-- Value 17 of part 1. -/
def val_17 : FVec F S256x128 .f32 := k0_pay7 v0 v1 v3 v9

/-- Value 18 of part 1. -/
def val_18 : FVec F S256x128 .f32 := k0_pay8 v0 v1 v3 v9

/-- Value 19 of part 1. -/
def val_19 : FVec F S256x128 .f32 := k0_pay9 v0 v1 v3 v9

/-- Value 20 of part 1. -/
def val_20 : FVec F S256x128 .f32 := k0_pay10 v0 v1 v3 v9

/-- Value 21 of part 1. -/
def val_21 : FVec F S256x128 .f32 := k0_pay11 v0 v1 v3 v9

/-- Value 22 of part 1. -/
def val_22 : FVec F S256x128 .f32 := k0_pay12 v0 v1 v3 v9

/-- Value 23 of part 1. -/
def val_23 : FVec F S256x128 .f32 := k0_pay13 v0 v1 v3 v9

/-- Value 24 of part 1. -/
def val_24 : FVec F S256x128 .f32 := k0_pay14 v0 v1 v3 v9

/-- Value 25 of part 1. -/
def val_25 : FVec F S256x128 .f32 := k0_pay15 v0 v1 v3 v9

/-- Value 26 of part 1. -/
def val_26 : FVec F S256x128 .f32 := k0_pay16 v0 v1 v3 v9

/-- Value 27 of part 1. -/
def val_27 : FVec F S256x128 .f32 := k0_pay17 v0 v1 v3 v9

/-- Value 28 of part 1. -/
def val_28 : FVec F S256x128 .f32 := k0_pay18 v0 v1 v3 v9

/-- Value 29 of part 1. -/
def val_29 : FVec F S256x128 .f32 := k0_pay19 v0 v1 v3 v9

/-- Value 30 of part 1. -/
def val_30 : FVec F S256x128 .f32 := k0_pay20 v0 v1 v3 v9

/-- Value 31 of part 1. -/
def val_31 : FVec F S256x128 .f32 := k0_pay21 v0 v1 v3 v9

/-- Value 32 of part 1. -/
def val_32 : FVec F S256x128 .f32 := k0_pay22 v0 v1 v3 v9

/-- Value 33 of part 1. -/
def val_33 : FVec F S256x128 .f32 := k0_pay23 v0 v1 v3 v9

/-- Value 34 of part 1. -/
def val_34 : FVec F S256x128 .f32 := k0_pay24 v0 v1 v3 v9

/-- Value 35 of part 1. -/
def val_35 : FVec F S256x128 .f32 := k0_pay25 v0 v1 v3 v9

/-- Value 36 of part 1. -/
def val_36 : FVec F S256x128 .f32 := k0_pay26 v0 v1 v3 v9

/-- Value 37 of part 1. -/
def val_37 : FVec F S256x128 .f32 := k0_pay27 v0 v1 v3 v9

/-- Value 38 of part 1. -/
def val_38 : FVec F S256x128 .f32 := k0_pay28 v0 v1 v3 v9

/-- Value 39 of part 1. -/
def val_39 : FVec F S256x128 .f32 := k0_pay29 v0 v1 v3 v9

/-- Value 40 of part 1. -/
def val_40 : FVec F S256x128 .f32 := k0_pay30 v0 v1 v3 v9

/-- Value 41 of part 1. -/
def val_41 : FVec F S256x128 .f32 := k0_pay31 v0 v1 v3 v9

/-- Value 42 of part 1. -/
def val_42 : FVec F S256x128 .f32 := k0_pay32 v0 v1 v3 v9

/-- Value 43 of part 1. -/
def val_43 : FVec F S256x128 .f32 := k0_pay33 v0 v1 v3 v9

/-- Value 44 of part 1. -/
def val_44 : FVec F S256x128 .f32 := k0_pay34 v0 v1 v3 v9

/-- Value 45 of part 1. -/
def val_45 : FVec F S256x128 .f32 := k0_pay35 v0 v1 v3 v9

/-- Value 46 of part 1. -/
def val_46 : FVec F S256x128 .f32 := k0_pay36 v0 v1 v3 v9

/-- Value 47 of part 1. -/
def val_47 : FVec F S256x128 .f32 := k0_pay37 v0 v1 v3 v9

/-- Value 48 of part 2. -/
def val_48 : FVec F S256x128 .f32 := k0_pay38 (val_12 v0 v1 v3 v9)

/-- Value 49 of part 2. -/
def val_49 : FVec F S256x128 .f32 := k0_pay39 (val_12 v0 v1 v3 v9)

/-- Value 50 of part 2. -/
def val_50 : FVec F S256x128 .f32 := k0_pay40 (val_12 v0 v1 v3 v9)

/-- Value 51 of part 2. -/
def val_51 : FVec F S256x128 .f32 := k0_pay41 (val_12 v0 v1 v3 v9)

/-- Value 52 of part 2. -/
def val_52 : FVec F S256x128 .f32 := k0_pay42 (val_12 v0 v1 v3 v9)

/-- Value 53 of part 2. -/
def val_53 : FVec F S256x128 .f32 := k0_pay43 (val_12 v0 v1 v3 v9)

/-- Value 54 of part 2. -/
def val_54 : FVec F S256x128 .f32 := k0_pay44 (val_12 v0 v1 v3 v9)

/-- Value 55 of part 2. -/
def val_55 : FVec F S256x128 .f32 := k0_pay45 (val_12 v0 v1 v3 v9)

/-- Value 56 of part 2. -/
def val_56 : FVec F S256x128 .f32 := k0_pay46 (val_12 v0 v1 v3 v9)

/-- Value 57 of part 2. -/
def val_57 : FVec F S256x128 .f32 := k0_pay47 (val_12 v0 v1 v3 v9)

/-- Value 58 of part 2. -/
def val_58 : FVec F S256x128 .f32 := k0_pay48 (val_12 v0 v1 v3 v9)

/-- Value 59 of part 2. -/
def val_59 : FVec F S256x128 .f32 := k0_pay49 (val_12 v0 v1 v3 v9)

/-- Value 60 of part 2. -/
def val_60 : FVec F S256x128 .f32 := k0_pay50 (val_12 v0 v1 v3 v9)

/-- Value 61 of part 2. -/
def val_61 : FVec F S256x128 .f32 := k0_pay51 (val_12 v0 v1 v3 v9)

/-- Value 62 of part 2. -/
def val_62 : FVec F S256x128 .f32 := k0_pay52 (val_12 v0 v1 v3 v9)

/-- Value 63 of part 2. -/
def val_63 : FVec F S256x128 .f32 := k0_pay53 (val_12 v0 v1 v3 v9)

/-- Value 64 of part 2. -/
def val_64 : FVec F S256x128 .f32 := k0_pay54 (val_12 v0 v1 v3 v9)

/-- Value 65 of part 2. -/
def val_65 : FVec F S256x128 .f32 := k0_pay55 (val_12 v0 v1 v3 v9)

/-- Value 66 of part 2. -/
def val_66 : FVec F S256x128 .f32 := k0_pay56 (val_12 v0 v1 v3 v9)

/-- Value 67 of part 2. -/
def val_67 : FVec F S256x128 .f32 := k0_pay57 (val_12 v0 v1 v3 v9)

/-- Value 68 of part 2. -/
def val_68 : FVec F S256x128 .f32 := k0_pay58 (val_12 v0 v1 v3 v9)

/-- Value 69 of part 2. -/
def val_69 : FVec F S256x128 .f32 := k0_pay59 (val_12 v0 v1 v3 v9)

/-- Value 70 of part 2. -/
def val_70 : FVec F S256x128 .f32 := k0_pay60 (val_12 v0 v1 v3 v9)

/-- Value 71 of part 2. -/
def val_71 : FVec F S256x128 .f32 := k0_pay61 (val_12 v0 v1 v3 v9)

/-- Value 72 of part 2. -/
def val_72 : FVec F S256x128 .f32 := k0_pay62 (val_12 v0 v1 v3 v9)

/-- Value 73 of part 2. -/
def val_73 : FVec F S256x128 .f32 := k0_pay63 (val_12 v0 v1 v3 v9)

/-- Value 74 of part 2. -/
def val_74 : FVec F S256x128 .f32 := k0_pay64 (val_12 v0 v1 v3 v9)

/-- Value 75 of part 2. -/
def val_75 : FVec F S256x128 .f32 := k0_pay65 (val_12 v0 v1 v3 v9)

/-- Value 76 of part 2. -/
def val_76 : FVec F S256x128 .f32 := k0_pay66 (val_12 v0 v1 v3 v9)

/-- Value 77 of part 2. -/
def val_77 : FVec F S256x128 .f32 := k0_pay67 (val_12 v0 v1 v3 v9)

/-- Value 78 of part 2. -/
def val_78 : FVec F S256x128 .f32 := k0_pay68 (val_12 v0 v1 v3 v9)

/-- Value 79 of part 2. -/
def val_79 : FVec F S256x128 .f32 := k0_pay69 (val_12 v0 v1 v3 v9)

/-- Value 80 of part 2. -/
def val_80 : FVec F S256x128 .f32 := k0_pay70 (val_12 v0 v1 v3 v9)

/-- Value 107 of part 2. -/
def val_107 : FVec F S256x128 .f32 := k0_pay71 (val_17 v0 v1 v3 v9) (val_18 v0 v1 v3 v9) (val_19 v0 v1 v3 v9) (val_20 v0 v1 v3 v9) (val_21 v0 v1 v3 v9) (val_22 v0 v1 v3 v9) (val_23 v0 v1 v3 v9) (val_24 v0 v1 v3 v9) (val_25 v0 v1 v3 v9) (val_26 v0 v1 v3 v9) (val_27 v0 v1 v3 v9) (val_28 v0 v1 v3 v9) (val_29 v0 v1 v3 v9) (val_30 v0 v1 v3 v9) (val_31 v0 v1 v3 v9) (val_32 v0 v1 v3 v9) (val_33 v0 v1 v3 v9) (val_34 v0 v1 v3 v9) (val_35 v0 v1 v3 v9) (val_36 v0 v1 v3 v9) (val_37 v0 v1 v3 v9) (val_38 v0 v1 v3 v9) (val_39 v0 v1 v3 v9) (val_40 v0 v1 v3 v9) (val_41 v0 v1 v3 v9) (val_42 v0 v1 v3 v9) (val_43 v0 v1 v3 v9) (val_44 v0 v1 v3 v9)

/-- The keys: distance, less the lane minimum, plus the column term. -/
def val_148 : FVec F S256x8192 .f32 := k0_pay72 (val_12 v0 v1 v3 v9) val_16 (val_45 v0 v1 v3 v9) (val_46 v0 v1 v3 v9) (val_47 v0 v1 v3 v9) (val_48 v0 v1 v3 v9) (val_49 v0 v1 v3 v9) (val_50 v0 v1 v3 v9) (val_51 v0 v1 v3 v9) (val_52 v0 v1 v3 v9) (val_53 v0 v1 v3 v9) (val_54 v0 v1 v3 v9) (val_55 v0 v1 v3 v9) (val_56 v0 v1 v3 v9) (val_57 v0 v1 v3 v9) (val_58 v0 v1 v3 v9) (val_59 v0 v1 v3 v9) (val_60 v0 v1 v3 v9) (val_61 v0 v1 v3 v9) (val_62 v0 v1 v3 v9) (val_63 v0 v1 v3 v9) (val_64 v0 v1 v3 v9) (val_65 v0 v1 v3 v9) (val_66 v0 v1 v3 v9) (val_67 v0 v1 v3 v9) (val_68 v0 v1 v3 v9) (val_69 v0 v1 v3 v9) (val_70 v0 v1 v3 v9) (val_71 v0 v1 v3 v9) (val_72 v0 v1 v3 v9) (val_73 v0 v1 v3 v9) (val_74 v0 v1 v3 v9) (val_75 v0 v1 v3 v9) (val_76 v0 v1 v3 v9) (val_77 v0 v1 v3 v9) (val_78 v0 v1 v3 v9) (val_79 v0 v1 v3 v9) (val_80 v0 v1 v3 v9) (val_107 v0 v1 v3 v9)

/-- Value 160 of part 3. -/
def val_160 : FVec F S256x128 .f32 := k0_pay81 (val_12 v0 v1 v3 v9) val_16 (val_45 v0 v1 v3 v9) (val_46 v0 v1 v3 v9) (val_47 v0 v1 v3 v9) (val_48 v0 v1 v3 v9) (val_49 v0 v1 v3 v9) (val_50 v0 v1 v3 v9) (val_51 v0 v1 v3 v9) (val_52 v0 v1 v3 v9) (val_53 v0 v1 v3 v9) (val_54 v0 v1 v3 v9) (val_55 v0 v1 v3 v9) (val_56 v0 v1 v3 v9) (val_57 v0 v1 v3 v9) (val_58 v0 v1 v3 v9) (val_59 v0 v1 v3 v9) (val_60 v0 v1 v3 v9) (val_61 v0 v1 v3 v9) (val_62 v0 v1 v3 v9) (val_63 v0 v1 v3 v9) (val_64 v0 v1 v3 v9) (val_65 v0 v1 v3 v9) (val_66 v0 v1 v3 v9) (val_67 v0 v1 v3 v9) (val_68 v0 v1 v3 v9) (val_69 v0 v1 v3 v9) (val_70 v0 v1 v3 v9) (val_71 v0 v1 v3 v9) (val_72 v0 v1 v3 v9) (val_73 v0 v1 v3 v9) (val_74 v0 v1 v3 v9) (val_75 v0 v1 v3 v9) (val_76 v0 v1 v3 v9) (val_77 v0 v1 v3 v9) (val_78 v0 v1 v3 v9) (val_79 v0 v1 v3 v9) (val_80 v0 v1 v3 v9) (val_107 v0 v1 v3 v9)

/-- Value 161 of part 3. -/
def val_161 : FVec F S256x128 .f32 := k0_pay82 (val_12 v0 v1 v3 v9) val_16 (val_45 v0 v1 v3 v9) (val_46 v0 v1 v3 v9) (val_47 v0 v1 v3 v9) (val_48 v0 v1 v3 v9) (val_49 v0 v1 v3 v9) (val_50 v0 v1 v3 v9) (val_51 v0 v1 v3 v9) (val_52 v0 v1 v3 v9) (val_53 v0 v1 v3 v9) (val_54 v0 v1 v3 v9) (val_55 v0 v1 v3 v9) (val_56 v0 v1 v3 v9) (val_57 v0 v1 v3 v9) (val_58 v0 v1 v3 v9) (val_59 v0 v1 v3 v9) (val_60 v0 v1 v3 v9) (val_61 v0 v1 v3 v9) (val_62 v0 v1 v3 v9) (val_63 v0 v1 v3 v9) (val_64 v0 v1 v3 v9) (val_65 v0 v1 v3 v9) (val_66 v0 v1 v3 v9) (val_67 v0 v1 v3 v9) (val_68 v0 v1 v3 v9) (val_69 v0 v1 v3 v9) (val_70 v0 v1 v3 v9) (val_71 v0 v1 v3 v9) (val_72 v0 v1 v3 v9) (val_73 v0 v1 v3 v9) (val_74 v0 v1 v3 v9) (val_75 v0 v1 v3 v9) (val_76 v0 v1 v3 v9) (val_77 v0 v1 v3 v9) (val_78 v0 v1 v3 v9) (val_79 v0 v1 v3 v9) (val_80 v0 v1 v3 v9) (val_107 v0 v1 v3 v9)

/-- Value 163 of part 3. -/
def val_163 : FVec F S256x128 .f32 := k0_pay84 (val_12 v0 v1 v3 v9) val_16 (val_45 v0 v1 v3 v9) (val_46 v0 v1 v3 v9) (val_47 v0 v1 v3 v9) (val_48 v0 v1 v3 v9) (val_49 v0 v1 v3 v9) (val_50 v0 v1 v3 v9) (val_51 v0 v1 v3 v9) (val_52 v0 v1 v3 v9) (val_53 v0 v1 v3 v9) (val_54 v0 v1 v3 v9) (val_55 v0 v1 v3 v9) (val_56 v0 v1 v3 v9) (val_57 v0 v1 v3 v9) (val_58 v0 v1 v3 v9) (val_59 v0 v1 v3 v9) (val_60 v0 v1 v3 v9) (val_61 v0 v1 v3 v9) (val_62 v0 v1 v3 v9) (val_63 v0 v1 v3 v9) (val_64 v0 v1 v3 v9) (val_65 v0 v1 v3 v9) (val_66 v0 v1 v3 v9) (val_67 v0 v1 v3 v9) (val_68 v0 v1 v3 v9) (val_69 v0 v1 v3 v9) (val_70 v0 v1 v3 v9) (val_71 v0 v1 v3 v9) (val_72 v0 v1 v3 v9) (val_73 v0 v1 v3 v9) (val_74 v0 v1 v3 v9) (val_75 v0 v1 v3 v9) (val_76 v0 v1 v3 v9) (val_77 v0 v1 v3 v9) (val_78 v0 v1 v3 v9) (val_79 v0 v1 v3 v9) (val_80 v0 v1 v3 v9) (val_107 v0 v1 v3 v9)

/-- Value 164 of part 3. -/
def val_164 : FVec F S256x128 .f32 := k0_pay85 (val_12 v0 v1 v3 v9) val_16 (val_45 v0 v1 v3 v9) (val_46 v0 v1 v3 v9) (val_47 v0 v1 v3 v9) (val_48 v0 v1 v3 v9) (val_49 v0 v1 v3 v9) (val_50 v0 v1 v3 v9) (val_51 v0 v1 v3 v9) (val_52 v0 v1 v3 v9) (val_53 v0 v1 v3 v9) (val_54 v0 v1 v3 v9) (val_55 v0 v1 v3 v9) (val_56 v0 v1 v3 v9) (val_57 v0 v1 v3 v9) (val_58 v0 v1 v3 v9) (val_59 v0 v1 v3 v9) (val_60 v0 v1 v3 v9) (val_61 v0 v1 v3 v9) (val_62 v0 v1 v3 v9) (val_63 v0 v1 v3 v9) (val_64 v0 v1 v3 v9) (val_65 v0 v1 v3 v9) (val_66 v0 v1 v3 v9) (val_67 v0 v1 v3 v9) (val_68 v0 v1 v3 v9) (val_69 v0 v1 v3 v9) (val_70 v0 v1 v3 v9) (val_71 v0 v1 v3 v9) (val_72 v0 v1 v3 v9) (val_73 v0 v1 v3 v9) (val_74 v0 v1 v3 v9) (val_75 v0 v1 v3 v9) (val_76 v0 v1 v3 v9) (val_77 v0 v1 v3 v9) (val_78 v0 v1 v3 v9) (val_79 v0 v1 v3 v9) (val_80 v0 v1 v3 v9) (val_107 v0 v1 v3 v9)

/-- Value 165 of part 3. -/
def val_165 : FVec F S256x128 .f32 := k0_pay86 (val_12 v0 v1 v3 v9) val_16 (val_45 v0 v1 v3 v9) (val_46 v0 v1 v3 v9) (val_47 v0 v1 v3 v9) (val_48 v0 v1 v3 v9) (val_49 v0 v1 v3 v9) (val_50 v0 v1 v3 v9) (val_51 v0 v1 v3 v9) (val_52 v0 v1 v3 v9) (val_53 v0 v1 v3 v9) (val_54 v0 v1 v3 v9) (val_55 v0 v1 v3 v9) (val_56 v0 v1 v3 v9) (val_57 v0 v1 v3 v9) (val_58 v0 v1 v3 v9) (val_59 v0 v1 v3 v9) (val_60 v0 v1 v3 v9) (val_61 v0 v1 v3 v9) (val_62 v0 v1 v3 v9) (val_63 v0 v1 v3 v9) (val_64 v0 v1 v3 v9) (val_65 v0 v1 v3 v9) (val_66 v0 v1 v3 v9) (val_67 v0 v1 v3 v9) (val_68 v0 v1 v3 v9) (val_69 v0 v1 v3 v9) (val_70 v0 v1 v3 v9) (val_71 v0 v1 v3 v9) (val_72 v0 v1 v3 v9) (val_73 v0 v1 v3 v9) (val_74 v0 v1 v3 v9) (val_75 v0 v1 v3 v9) (val_76 v0 v1 v3 v9) (val_77 v0 v1 v3 v9) (val_78 v0 v1 v3 v9) (val_79 v0 v1 v3 v9) (val_80 v0 v1 v3 v9) (val_107 v0 v1 v3 v9)

/-- Value 220 of part 4. -/
def val_220 : FVec F S256x128 .f32 := k0_pay123 (val_148 v0 v1 v3 v9) (val_160 v0 v1 v3 v9) (val_163 v0 v1 v3 v9) (val_164 v0 v1 v3 v9)

/-- Value 221 of part 4. -/
def val_221 : FVec F S256x128 .f32 := k0_pay124 (val_148 v0 v1 v3 v9) (val_160 v0 v1 v3 v9) (val_161 v0 v1 v3 v9) (val_163 v0 v1 v3 v9) (val_164 v0 v1 v3 v9) (val_165 v0 v1 v3 v9)

/-- Value 223 of part 4. -/
def val_223 : FVec F S256x128 .f32 := k0_pay126 (val_148 v0 v1 v3 v9) (val_164 v0 v1 v3 v9)

/-- Value 224 of part 4. -/
def val_224 : FVec F S256x128 .f32 := k0_pay127 (val_148 v0 v1 v3 v9) (val_164 v0 v1 v3 v9)

/-- Value 225 of part 4. -/
def val_225 : FVec F S256x128 .f32 := k0_pay128 (val_148 v0 v1 v3 v9) (val_160 v0 v1 v3 v9) (val_163 v0 v1 v3 v9) (val_164 v0 v1 v3 v9)

/-- Value 280 of part 5. -/
def val_280 : FVec F S256x128 .f32 := k0_pay165 (val_148 v0 v1 v3 v9) (val_220 v0 v1 v3 v9) (val_223 v0 v1 v3 v9) (val_224 v0 v1 v3 v9)

/-- Value 281 of part 5. -/
def val_281 : FVec F S256x128 .f32 := k0_pay166 (val_148 v0 v1 v3 v9) (val_220 v0 v1 v3 v9) (val_221 v0 v1 v3 v9) (val_223 v0 v1 v3 v9) (val_224 v0 v1 v3 v9) (val_225 v0 v1 v3 v9)

/-- Value 283 of part 5. -/
def val_283 : FVec F S256x128 .f32 := k0_pay168 (val_148 v0 v1 v3 v9) (val_224 v0 v1 v3 v9)

/-- Value 284 of part 5. -/
def val_284 : FVec F S256x128 .f32 := k0_pay169 (val_148 v0 v1 v3 v9) (val_224 v0 v1 v3 v9)

/-- Value 285 of part 5. -/
def val_285 : FVec F S256x128 .f32 := k0_pay170 (val_148 v0 v1 v3 v9) (val_220 v0 v1 v3 v9) (val_223 v0 v1 v3 v9) (val_224 v0 v1 v3 v9)

/-- Value 340 of part 6. -/
def val_340 : FVec F S256x128 .f32 := k0_pay207 (val_148 v0 v1 v3 v9) (val_280 v0 v1 v3 v9) (val_283 v0 v1 v3 v9) (val_284 v0 v1 v3 v9)

/-- Value 341 of part 6. -/
def val_341 : FVec F S256x128 .f32 := k0_pay208 (val_148 v0 v1 v3 v9) (val_280 v0 v1 v3 v9) (val_281 v0 v1 v3 v9) (val_283 v0 v1 v3 v9) (val_284 v0 v1 v3 v9) (val_285 v0 v1 v3 v9)

/-- Value 343 of part 6. -/
def val_343 : FVec F S256x128 .f32 := k0_pay210 (val_148 v0 v1 v3 v9) (val_284 v0 v1 v3 v9)

/-- Value 344 of part 6. -/
def val_344 : FVec F S256x128 .f32 := k0_pay211 (val_148 v0 v1 v3 v9) (val_284 v0 v1 v3 v9)

/-- Value 345 of part 6. -/
def val_345 : FVec F S256x128 .f32 := k0_pay212 (val_148 v0 v1 v3 v9) (val_280 v0 v1 v3 v9) (val_283 v0 v1 v3 v9) (val_284 v0 v1 v3 v9)

/-- Value 400 of part 7. -/
def val_400 : FVec F S256x128 .f32 := k0_pay249 (val_148 v0 v1 v3 v9) (val_340 v0 v1 v3 v9) (val_343 v0 v1 v3 v9) (val_344 v0 v1 v3 v9)

/-- Value 401 of part 7. -/
def val_401 : FVec F S256x128 .f32 := k0_pay250 (val_148 v0 v1 v3 v9) (val_340 v0 v1 v3 v9) (val_341 v0 v1 v3 v9) (val_343 v0 v1 v3 v9) (val_344 v0 v1 v3 v9) (val_345 v0 v1 v3 v9)

/-- Value 403 of part 7. -/
def val_403 : FVec F S256x128 .f32 := k0_pay252 (val_148 v0 v1 v3 v9) (val_344 v0 v1 v3 v9)

/-- Value 404 of part 7. -/
def val_404 : FVec F S256x128 .f32 := k0_pay253 (val_148 v0 v1 v3 v9) (val_344 v0 v1 v3 v9)

/-- Value 405 of part 7. -/
def val_405 : FVec F S256x128 .f32 := k0_pay254 (val_148 v0 v1 v3 v9) (val_340 v0 v1 v3 v9) (val_343 v0 v1 v3 v9) (val_344 v0 v1 v3 v9)

/-- Value 460 of part 8. -/
def val_460 : FVec F S256x128 .f32 := k0_pay291 (val_148 v0 v1 v3 v9) (val_400 v0 v1 v3 v9) (val_403 v0 v1 v3 v9) (val_404 v0 v1 v3 v9)

/-- Value 461 of part 8. -/
def val_461 : FVec F S256x128 .f32 := k0_pay292 (val_148 v0 v1 v3 v9) (val_400 v0 v1 v3 v9) (val_401 v0 v1 v3 v9) (val_403 v0 v1 v3 v9) (val_404 v0 v1 v3 v9) (val_405 v0 v1 v3 v9)

/-- Value 463 of part 8. -/
def val_463 : FVec F S256x128 .f32 := k0_pay294 (val_148 v0 v1 v3 v9) (val_404 v0 v1 v3 v9)

/-- Value 464 of part 8. -/
def val_464 : FVec F S256x128 .f32 := k0_pay295 (val_148 v0 v1 v3 v9) (val_404 v0 v1 v3 v9)

/-- Value 465 of part 8. -/
def val_465 : FVec F S256x128 .f32 := k0_pay296 (val_148 v0 v1 v3 v9) (val_400 v0 v1 v3 v9) (val_403 v0 v1 v3 v9) (val_404 v0 v1 v3 v9)

/-- Value 520 of part 9. -/
def val_520 : FVec F S256x128 .f32 := k0_pay333 (val_148 v0 v1 v3 v9) (val_460 v0 v1 v3 v9) (val_463 v0 v1 v3 v9) (val_464 v0 v1 v3 v9)

/-- Value 521 of part 9. -/
def val_521 : FVec F S256x128 .f32 := k0_pay334 (val_148 v0 v1 v3 v9) (val_460 v0 v1 v3 v9) (val_461 v0 v1 v3 v9) (val_463 v0 v1 v3 v9) (val_464 v0 v1 v3 v9) (val_465 v0 v1 v3 v9)

/-- Value 523 of part 9. -/
def val_523 : FVec F S256x128 .f32 := k0_pay336 (val_148 v0 v1 v3 v9) (val_464 v0 v1 v3 v9)

/-- Value 524 of part 9. -/
def val_524 : FVec F S256x128 .f32 := k0_pay337 (val_148 v0 v1 v3 v9) (val_464 v0 v1 v3 v9)

/-- Value 525 of part 9. -/
def val_525 : FVec F S256x128 .f32 := k0_pay338 (val_148 v0 v1 v3 v9) (val_460 v0 v1 v3 v9) (val_463 v0 v1 v3 v9) (val_464 v0 v1 v3 v9)

/-- The candidates: three smallest keys of every lane. -/
def val_534 : FVec F S256x384 .f32 := k0_pay339 (val_148 v0 v1 v3 v9) (val_520 v0 v1 v3 v9) (val_521 v0 v1 v3 v9) (val_523 v0 v1 v3 v9) (val_524 v0 v1 v3 v9) (val_525 v0 v1 v3 v9)

/-- The seventh smallest candidate. -/
def val_572 : FVec F S256x1 .f32 := k0_pay340 (val_148 v0 v1 v3 v9) (val_520 v0 v1 v3 v9) (val_521 v0 v1 v3 v9) (val_523 v0 v1 v3 v9) (val_524 v0 v1 v3 v9) (val_525 v0 v1 v3 v9)

/-- Which candidates exceed the fourteenth smallest. -/
def val_616 : IVec S256x384 1 := k0_pay341 (val_534 v0 v1 v3 v9) (val_572 v0 v1 v3 v9)

/-- The infinite filling. -/
def val_617 : FVec F S256x384 .f32 := (k0_pay342 (F := F))

/-- The threshold the loop starts from: the fifteenth smallest candidate. -/
def thr0 : FVec F S256x1 .f32 := k0_pay343 (val_534 v0 v1 v3 v9) (val_616 v0 v1 v3 v9) val_617

/-- The count the loop starts from: how many keys are at most the threshold. -/
def cnt0 : FVec F S256x1 .f32 := k0_pay344 (val_148 v0 v1 v3 v9) (val_534 v0 v1 v3 v9) (val_616 v0 v1 v3 v9) val_617

end Cert.KernelIdeal.Hand

end
-- ==== Proof.Ideal.Loop.lean ====
module

public import proofs.«01_k».proof.Proof.Ideal.Chain
public import Idealize.ShloMosaic.Lib.Tactic
public import Idealize.ShloMosaic.Lib.Pipeline.FrameBody

/-!
# The correcting loop

The loop carries a threshold and a count per row. Whether it goes on is a question about the counts
alone, and so is the number of its trips: `trips c`. Its result is the trip iterated that often.
-/

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open sWPT (consume produce)

variable {F : FTy → Type} [FloatOps F]

local notation "𝕄" => MT nD τ sig Unit (Elt F) ℕ (UR sig nD τ) ℕ

/-- The loop's variant: a natural number, the trips still to run. -/
abbrev byTrips : Variants := Variants.nat

/-- Some row still counts more than fifteen keys. -/
abbrev more (c : FVec F S256x1 .f32) : Prop :=
  Scalar.cmpf .ogt (k0_pay1 c) (Scalar.ofBits .f32 0x41700000#32) = 1#1

/-- One trip: the rows that count too many step down to their next smaller key. -/
def trip (v148 : FVec F S256x8192 .f32) (top : F .f32) (p : FVec F S256x1 .f32 × FVec F S256x1 .f32) :
    FVec F S256x1 .f32 × FVec F S256x1 .f32 :=
  (k0_pay3 v148 top p.1 p.2, k0_pay4 p.2)

/-- The loop stops when started from the counts `c`. -/
def Stops (c : FVec F S256x1 .f32) : Prop := ∃ n, ¬ more (k0_pay4^[n] c)

open Classical in
/-- How many trips the loop makes from the counts `c`. -/
def trips (c : FVec F S256x1 .f32) : ℕ := if h : Stops c then Nat.find h else 0

theorem not_more_trips (c : FVec F S256x1 .f32) (h : Stops c) : ¬ more (k0_pay4^[trips c] c) := by
  classical
  unfold trips; rw [dif_pos h]; exact Nat.find_spec h

theorem more_of_lt_trips (c : FVec F S256x1 .f32) (k : ℕ) (hk : k < trips c) : more (k0_pay4^[k] c) := by
  classical
  unfold trips at hk
  split at hk
  · rename_i h
    exact not_not.mp (Nat.find_min h hk)
  · exact absurd hk (Nat.not_lt_zero _)

/-- What the loop returns. -/
def loopOut (v148 : FVec F S256x8192 .f32) (top : F .f32) (t c : FVec F S256x1 .f32) :
    FVec F S256x1 .f32 × FVec F S256x1 .f32 :=
  (trip v148 top)^[trips c] (t, c)

/-- The specification of the loop's label at `n` trips to run. -/
def tripsSpec (v148 : FVec F S256x8192 .f32) (top : F .f32) (n : ℕ) (p : FVec F S256x1 .f32 × FVec F S256x1 .f32) :
    sWPT 𝕄 (FVec F S256x1 .f32 × FVec F S256x1 .f32) :=
  pure ((trip v148 top)^[n] p)

theorem tripsSpec_apply (v148 : FVec F S256x8192 .f32) (top : F .f32) (n : ℕ)
    (p : FVec F S256x1 .f32 × FVec F S256x1 .f32)
    (K : FVec F S256x1 .f32 × FVec F S256x1 .f32 → sProp 𝕄) :
    tripsSpec v148 top n p K = K ((trip v148 top)^[n] p) := rfl

/-- The loop's body meets the specification: `n` trips with a row still too large before each, none after. -/
theorem loop_meets (d : Dev nD) (E : Set ℕ) (i : grid0.Coords) (v148 : FVec F S256x8192 .f32) (top : F .f32) :
    ∀ n (t c : FVec F S256x1 .f32), (∀ k < n, more (k0_pay4^[k] c)) → ¬ more (k0_pay4^[n] c) →
      ∀ K, tripsSpec v148 top n (t, c) K
        ⊢ wp frame (wpE (defs₀ (F := F)) byTrips (d : Thread nD τ) (some n)) E
            (defs₀ (F := F) .tc (1 : (Λ₀ F).Label) ⟨i, v148, top, t, c⟩) K := by
  intro n
  induction n with
  | zero =>
    intro t c _ hstop K
    rw [tripsSpec_apply, Function.iterate_zero, id_eq]
    show _ ⊢ wp frame (wpE (defs₀ (F := F)) byTrips (d : Thread nD τ) (some 0)) E (cc0_while1 i v148 top t c) K
    simp only [cc0_while1_eq_skeleton]; unfold cc0_while1_skel
    rw [if_neg (by exact hstop)]
    simp only [Prog.pure_eq_ret]
    iintro Hk
    rw [wp_ret]; imodintro
    iexact Hk
  | succ n ih =>
    intro t c hmore hstop K
    rw [tripsSpec_apply, Function.iterate_succ_apply]
    show _ ⊢ wp frame (wpE (defs₀ (F := F)) byTrips (d : Thread nD τ) (some (n + 1))) E (cc0_while1 i v148 top t c) K
    simp only [cc0_while1_eq_skeleton]; unfold cc0_while1_skel
    rw [if_pos (by exact hmore 0 (Nat.succ_pos n))]
    simp only [Prog.lift]
    iintro Hk
    iapply (wp_call_spec byTrips (d : Thread nD τ) (some (n + 1)) E
      (tripsSpec v148 top n (k0_pay3 v148 top t c, k0_pay4 c)) n
      (fun u hu => by cases hu; exact Nat.lt_succ_self n)
      (ih (k0_pay3 v148 top t c) (k0_pay4 c) (fun k hk => hmore (k + 1) (Nat.succ_lt_succ hk)) hstop))
    rw [tripsSpec_apply]
    rw [wp_ret]; imodintro
    dsimp only [trip]
    iexact Hk

/-- The call of the loop's label from counts from which it stops: the continuation gets `loopOut`. -/
theorem wp_loop (d : Dev nD) (E : Set ℕ) (i : grid0.Coords) (v148 : FVec F S256x8192 .f32) (top : F .f32)
    (t c : FVec F S256x1 .f32) (hc : Stops c) {A : Type}
    (k : FVec F S256x1 .f32 × FVec F S256x1 .f32 → Prog (TpuEff nD τ sig (Elt F) (Λ₀ F) .tc) A)
    (K : A → sProp 𝕄) :
    wp frame (wpE (defs₀ (F := F)) byTrips (d : Thread nD τ) none) E (k (loopOut v148 top t c)) K
      ⊢ wp frame (wpE (defs₀ (F := F)) byTrips (d : Thread nD τ) none) E
          (.op (.call (1 : (Λ₀ F).Label) ⟨i, v148, top, t, c⟩) k) K := by
  iintro Hk
  iapply (wp_call_spec byTrips (d : Thread nD τ) none E (tripsSpec v148 top (trips c) (t, c)) (trips c)
    (fun u hu => nomatch hu)
    (loop_meets d E i v148 top (trips c) t c (more_of_lt_trips c) (not_more_trips c hc)))
  rw [tripsSpec_apply]
  iexact Hk

end Cert.KernelIdeal.Hand

end
-- ==== Proof.Ideal.Joined.lean ====
module

public import proofs.«01_k».proof.Proof.Ideal.Loop

/-!
# The body as one program

The printed body hands its values from part to part. Written out it is four loads, the loop's call, and
the stores.
-/

@[expose] public section

noncomputable section

namespace Cert.KernelIdeal.Hand

open Cert.KernelIdeal Cert.KernelIdeal.Gen Cert.KernelIdeal.Facts
open Idealize.ShloMosaic Idealize.ShloMosaic.TcCoe Idealize.SL.Sem

variable {F : FTy → Type} [FloatOps F]

/-- The body with its parts joined, up to its return. -/
def joinedPart (i : grid0.Coords) (arg1 : Memref sig .tc .vmem S256x256 .f32) (harg1 : arg1.IsWhole) (arg2 : Memref sig .tc .vmem S256x1 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x8192 .f32) (harg6 : arg6.IsWhole) (arg7 : Memref sig .tc .vmem S1x1 .f32) (harg7 : arg7.IsWhole) :
    Prog (TpuEff nD τ sig (Elt F) (Λ₀ F) .tc) PUnit := do
  let v0 : Vec F S256x256 .f32 ← Prog.lift (.load arg1 (Rect.unit (s := S256x256) ![0, 0] S256x256.size inb_S256x256_S256x256_0_0).toLoadRect (View.loadsAt_vmem h_S256x256))
  let v1 : Vec F S8192x256 .f32 ← Prog.lift (.load arg3 (Rect.unit (s := S8192x256) ![0, 0] S8192x256.size inb_S8192x256_S8192x256_0_0).toLoadRect (View.loadsAt_vmem h_S8192x256))
  let v3 : Vec F S256x1 .f32 ← Prog.lift (.load arg2 (Rect.unit (s := S256x1) ![0, 0] S256x1.size inb_S256x1_S256x1_0_0).toLoadRect (View.loadsAt_vmem h_S256x1))
  let v9 : Vec F S1x8192 .f32 ← Prog.lift (.load arg4 (Rect.unit (s := S1x8192) ![0, 0] S1x8192.size inb_S1x8192_S1x8192_0_0).toLoadRect (View.loadsAt_vmem h_S1x8192))
  let (v627_0, _) : FVec F S256x1 .f32 × FVec F S256x1 .f32 ← Prog.lift (.call (1 : (Λ₀ F).Label) ⟨i, val_148 v0 v1 v3 v9, Scalar.ofBits .f32 0x7F800000#32, thr0 v0 v1 v3 v9, cnt0 v0 v1 v3 v9⟩)
  let v632 : Vec F S256x8192 .f32 ← Prog.lift (.load arg6 (Rect.unit (s := S256x8192) ![0, 0] S256x8192.size inb_S256x8192_S256x8192_0_0).toLoadRect (View.loadsAt_vmem h_S256x8192))
  Prog.lift (.store arg6 (Rect.unit (s := S256x8192) ![0, 0] S256x8192.size inb_S256x8192_S256x8192_0_0) (k0_pay345 (val_148 v0 v1 v3 v9) v627_0) Finset.univ (View.stores_vmem_bits_univ h_S256x8192 rfl) (.inl rfl))
  let v636 : Vec F S256x256 .f32 ← Prog.lift (.load arg5 (Rect.unit (s := S256x256) ![0, 0] S256x256.size inb_S256x256_S256x256_0_0).toLoadRect (View.loadsAt_vmem h_S256x256))
  Prog.lift (.store arg5 (Rect.unit (s := S256x256) ![0, 0] S256x256.size inb_S256x256_S256x256_0_0) (k0_pay347 v0 v1 (val_148 v0 v1 v3 v9) v627_0) Finset.univ (View.stores_vmem_bits_univ h_S256x256 rfl) (.inl rfl))
  if k0_h1 : k0_cond1 i = 1#1 then do
    let v650 : Vec F S1x1 .f32 ← Prog.lift (.load arg7 (Rect.unit (s := S1x1) ![0, 0] S1x1.size inb_S1x1_S1x1_0_0).toLoadRect (View.loadsAt_vmem h_S1x1))
    Prog.lift (.store arg7 (Rect.unit (s := S1x1) ![0, 0] S1x1.size inb_S1x1_S1x1_0_0) (k0_pay348 v0 v1 (val_148 v0 v1 v3 v9) v627_0) Finset.univ (View.stores_vmem_bits_univ h_S1x1 rfl) (.inl rfl))
    pure ⟨⟩
  else do
    pure ⟨⟩
  if k0_h2 : k0_cond2 i = 1#1 then do
    let v650 : Vec F S1x1 .f32 ← Prog.lift (.load arg7 (Rect.unit (s := S1x1) ![0, 0] S1x1.size inb_S1x1_S1x1_0_0).toLoadRect (View.loadsAt_vmem h_S1x1))
    let v653 : Vec F S1x1 .f32 ← Prog.lift (.load arg7 (Rect.unit (s := S1x1) ![0, 0] S1x1.size inb_S1x1_S1x1_0_0).toLoadRect (View.loadsAt_vmem h_S1x1))
    Prog.lift (.store arg7 (Rect.unit (s := S1x1) ![0, 0] S1x1.size inb_S1x1_S1x1_0_0) (k0_pay349 v0 v1 (val_148 v0 v1 v3 v9) v627_0 v650) Finset.univ (View.stores_vmem_bits_univ h_S1x1 rfl) (.inl rfl))
    pure ⟨⟩
  else do
    pure ⟨⟩
  pure ⟨⟩

/-- The body with its parts joined. -/
def joined (i : grid0.Coords) (arg1 : Memref sig .tc .vmem S256x256 .f32) (harg1 : arg1.IsWhole) (arg2 : Memref sig .tc .vmem S256x1 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x8192 .f32) (harg6 : arg6.IsWhole) (arg7 : Memref sig .tc .vmem S1x1 .f32) (harg7 : arg7.IsWhole) :
    Prog (TpuEff nD τ sig (Elt F) (Λ₀ F) .tc) PUnit := do
  joinedPart i arg1 harg1 arg2 harg2 arg3 harg3 arg4 harg4 arg5 harg5 arg6 harg6 arg7 harg7
  pure ⟨⟩

set_option maxRecDepth 65536 in
/-- The printed body is the joined one. -/
theorem kernel_eq_joined : cc0__vq_kernel (F := F) = joined (F := F) := by
  rw [cc0__vq_kernel_eq_skeleton]
  rfl

end Cert.KernelIdeal.Hand

end
-- ==== Proof.Ideal.Point.lean ====
module

public import proofs.«01_k».proof.Proof.Ideal.Joined
public import proofs.«01_k».proof.Proof.Gen.KernelIdeal.Launch
public import proofs.«01_k».proof.Proof.Gen.KernelIdeal.Points
public import Idealize.ShloMosaic.Lib.VecWindow

/-!
# One grid point

What the body leaves in its three output buffers, as functions of the four blocks it reads.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The loop stops from every count the body starts it from. -/
def Halting (F : FTy → Type) [FloatOps F] : Prop :=
  ∀ (v148 : FVec F S256x8192 .f32) (v534 : FVec F S256x384 .f32) (v616 : IVec S256x384 1) (v617 : FVec F S256x384 .f32),
    Stops (k0_pay344 v148 v534 v616 v617)

section Values
variable (x0 : Vec F S256x256 .f32) (x1 : Vec F S256x1 .f32) (x2 : Vec F S8192x256 .f32) (x3 : Vec F S1x8192 .f32)

/-- The keys of the block. -/
def keys : FVec F S256x8192 .f32 := val_148 x0 x2 x1 x3

/-- The thresholds the loop ends with. -/
def thr : FVec F S256x1 .f32 :=
  (loopOut (val_148 x0 x2 x1 x3) (Scalar.ofBits .f32 0x7F800000#32) (thr0 x0 x2 x1 x3) (cnt0 x0 x2 x1 x3)).1

/-- The block of the third result. -/
def hotOut : FVec F S256x8192 .f32 := k0_pay345 (val_148 x0 x2 x1 x3) (thr x0 x1 x2 x3)

/-- The block of the first result. -/
def rowsOut : FVec F S256x256 .f32 := k0_pay347 x0 x2 (val_148 x0 x2 x1 x3) (thr x0 x1 x2 x3)

/-- The block's squared error. -/
def errOut : FVec F S1x1 .f32 := k0_pay348 x0 x2 (val_148 x0 x2 x1 x3) (thr x0 x1 x2 x3)

/-- The squared error so far, the block's added. -/
def errAdd (acc : FVec F S1x1 .f32) : FVec F S1x1 .f32 := k0_pay349 x0 x2 (val_148 x0 x2 x1 x3) (thr x0 x1 x2 x3) acc
end Values

omit [FloatOps F] in
/-- A load of a whole buffer that holds `x` reads `x`. -/
theorem load_all {S : Shape} {e : EltTy} (m : Memref sig .tc .vmem S e) (h : m.IsWhole) {off : Fin S.rank → ℕ}
    (inb : ∀ a, off a + S.size a ≤ S.size a) (x : S.Idx → Elt F e) :
    View.readAt (Elt F) m.view (Rect.unit off S.size inb).toLoadRect (h.unread x) = x := by
  rw [View.readAt_full, h.read_unread]

/-- A store of the whole buffer leaves what was stored. -/
theorem store_all {S : Shape} {e : EltTy} (m : Memref sig .tc .vmem S e) {off : Fin S.rank → ℕ}
    (inb : ∀ a, off a + S.size a ≤ S.size a) (f : m.view.ty.Contents (Elt F)) (x : S.Idx → Elt F e) :
    m.view.read (Elt F) (m.view.writes (Elt F) f [⟨Rect.unit off S.size inb, x⟩]) = x := by
  exact View.read_writes_full _ _ _ _ _

set_option maxHeartbeats 1000000 in
/-- The first point: the error block is stored. -/
theorem run_first (hstop : Halting F) (c : Dev nD) (i : grid0.Coords) (arg1 : Memref sig .tc .vmem S256x256 .f32) (harg1 : arg1.IsWhole) (arg2 : Memref sig .tc .vmem S256x1 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x8192 .f32) (harg6 : arg6.IsWhole) (arg7 : Memref sig .tc .vmem S1x1 .f32) (harg7 : arg7.IsWhole) (hc0 : k0_cond1 i = 1#1) (hc1 : ¬ k0_cond2 i = 1#1)
    (x0 : Vec F S256x256 .f32) (x1 : Vec F S256x1 .f32) (x2 : Vec F S8192x256 .f32) (x3 : Vec F S1x8192 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (rowsOut x0 x1 x2 x3)
            ∗ owns (c : Thread nD τ) arg6 fullShare (hotOut x0 x1 x2 x3)
            ∗ owns (c : Thread nD τ) arg7 fullShare (errOut x0 x1 x2 x3)) -∗ K ⟨⟩))
      ⊢ wp frame (wpE (defs₀ (F := F)) byTrips c none) E (cc0__vq_kernel i arg1 harg1 arg2 harg2 arg3 harg3 arg4 harg4 arg5 harg5 arg6 harg6 arg7 harg7) K := by
  rw [kernel_eq_joined]; unfold joined joinedPart
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  sl_exec (disch := first | sl_exact hc0 | sl_exact hc1)
  rw [load_all arg1 harg1, load_all arg2 harg2, load_all arg3 harg3,
    load_all arg4 harg4]
  iapply (wp_loop c E i _ _ _ _ (hstop _ _ _ _))
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro; exact store_all arg5 _ _ _
  isplitl [H5]
  · iexists _; isplitr
    swap; · iexact H5
    ipureintro; exact store_all arg6 _ _ _
  iexists _; isplitr
  swap; · iexact H6
  ipureintro; exact store_all arg7 _ _ _

set_option maxHeartbeats 1000000 in
/-- A later point: the error is added to what the block holds. -/
theorem run_later (hstop : Halting F) (c : Dev nD) (i : grid0.Coords) (arg1 : Memref sig .tc .vmem S256x256 .f32) (harg1 : arg1.IsWhole) (arg2 : Memref sig .tc .vmem S256x1 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x8192 .f32) (harg6 : arg6.IsWhole) (arg7 : Memref sig .tc .vmem S1x1 .f32) (harg7 : arg7.IsWhole) (hc0 : ¬ k0_cond1 i = 1#1) (hc1 : k0_cond2 i = 1#1)
    (x0 : Vec F S256x256 .f32) (x1 : Vec F S256x1 .f32) (x2 : Vec F S8192x256 .f32) (x3 : Vec F S1x8192 .f32) (x6 : Vec F S1x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare x6
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (rowsOut x0 x1 x2 x3)
            ∗ owns (c : Thread nD τ) arg6 fullShare (hotOut x0 x1 x2 x3)
            ∗ owns (c : Thread nD τ) arg7 fullShare (errAdd x0 x1 x2 x3 x6)) -∗ K ⟨⟩))
      ⊢ wp frame (wpE (defs₀ (F := F)) byTrips c none) E (cc0__vq_kernel i arg1 harg1 arg2 harg2 arg3 harg3 arg4 harg4 arg5 harg5 arg6 harg6 arg7 harg7) K := by
  rw [kernel_eq_joined]; unfold joined joinedPart
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  obtain rfl := harg1.eq_unread hf0; obtain rfl := harg2.eq_unread hf1; obtain rfl := harg3.eq_unread hf2; obtain rfl := harg4.eq_unread hf3
  obtain rfl := harg7.eq_unread hf6
  sl_exec (disch := first | sl_exact hc0 | sl_exact hc1)
  rw [load_all arg1 harg1, load_all arg2 harg2, load_all arg3 harg3,
    load_all arg4 harg4]
  iapply (wp_loop c E i _ _ _ _ (hstop _ _ _ _))
  sl_exec (disch := first | sl_exact hc0 | sl_exact hc1)
  rw [load_all arg7 harg7]
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro; exact store_all arg5 _ _ _
  isplitl [H5]
  · iexists _; isplitr
    swap; · iexact H5
    ipureintro; exact store_all arg6 _ _ _
  iexists _; isplitr
  swap; · iexact H6
  ipureintro; exact store_all arg7 _ _ _

end Cert.KernelIdeal.Hand

end
-- ==== Proof.Ideal.Counts.lean ====
module

public import proofs.«01_k».proof.Proof.Ideal.Point
public import Idealize.ShloMosaic.Lib.Pointwise.Reduce
public import Idealize.ShloMosaic.Lib.Pointwise.Reshape

/-!
# The correcting loop stops

The counts are whole numbers of at most 8192. One trip takes one off every count above fifteen, so
after 8192 trips none is left above fifteen. What is used of the numbers that stand for the counts
is collected in `Counting`.
-/

@[expose] public section

noncomputable section

namespace Cert.KernelIdeal.Hand

open Cert.KernelIdeal Cert.KernelIdeal.Gen
open Idealize.ShloMosaic

variable {F : FTy → Type} [FloatOps F]

/-- A sum over the entries of one row. -/
theorem sum_row {M : Type} [AddCommMonoid M] (v : S256x8192.Idx → M) (j : S256.Idx) :
    ∑ i ∈ Finset.univ.filter (fun i => reduces_S256x8192_S256.drop i = j), v i
      = ∑ k : Fin 8192, v (ix2 (n0 := 256) (n1 := 8192) (j 0) k) := by
  rw [Shape.Reduces.sum_fiber_r2_a1 (n0 := 256) (n1 := 8192) reduces_S256x8192_S256 j v]
  rfl

/-- The values `w n` behave like the natural numbers `n ≤ 8192` in the operations on the counts. -/
structure Counting (w : ℕ → F .f32) : Prop where
  max_eq : ∀ a b, a ≤ 8192 → b ≤ 8192 → FloatOps.maximumf (w a) (w b) = w (max a b)
  bot_eq : ∀ a, a ≤ 8192 → FloatOps.maximumf (FloatOps.ofBits .f32 0xFF800000#32) (w a) = w a
  above : ∀ a, a ≤ 8192 → Scalar.cmpf .ogt (w a) (Scalar.ofBits .f32 0x41700000#32) = BitVec.ofBool (decide (15 < a))
  aboveV : ∀ a, a ≤ 8192 → FloatOps.cmpf .ogt (w a) (FloatOps.ofBits .f32 0x41700000#32) = BitVec.ofBool (decide (15 < a))
  pred : ∀ a, 1 ≤ a → a ≤ 8192 → FloatOps.subf (w a) (FloatOps.ofBits .f32 0x3F800000#32) = w (a - 1)
  count : ∀ (m : IVec S256x8192 1) (j : S256.Idx),
    multiReduction .add [1] S256 (sitofp .f32 (extui 32 m natLt_1_32) : FVec F S256x8192 .f32) 0x00000000#32
      reduces_S256x8192_S256 (.inl rfl) rfl j = w (∑ k : Fin 8192, (m (ix2 (n0 := 256) (n1 := 8192) (j 0) k)).toNat)

variable {w : ℕ → F .f32}

/-- The greatest of a list of counts, found from one of them. -/
theorem Counting.fold (hw : Counting w) {ι : Type} (g : ι → ℕ) (hg : ∀ i, g i ≤ 8192) (l : List ι) (a : ℕ)
    (ha : a ≤ 8192) :
    ∃ M, l.foldl (fun r n => FloatOps.maximumf r (w (g n))) (w a) = w M ∧ M ≤ 8192 ∧ a ≤ M ∧
      (∀ i ∈ l, g i ≤ M) ∧ (M = a ∨ ∃ i ∈ l, M = g i) := by
  induction l generalizing a with
  | nil => exact ⟨a, rfl, ha, le_refl a, by simp, Or.inl rfl⟩
  | cons x l ih =>
    obtain ⟨M, h1, h2, h3, h4, h5⟩ := ih (max a (g x)) (max_le ha (hg x))
    refine ⟨M, ?_, h2, le_trans (le_max_left _ _) h3, ?_, ?_⟩
    · rw [List.foldl_cons, hw.max_eq a (g x) ha (hg x)]; exact h1
    · intro i hi
      rcases List.mem_cons.mp hi with rfl | hi
      · exact le_trans (le_max_right _ _) h3
      · exact h4 i hi
    · rcases h5 with h5 | ⟨i, hi, h5⟩
      · rcases max_choice a (g x) with h | h
        · exact Or.inl (h5.trans h)
        · exact Or.inr ⟨x, List.mem_cons_self, h5.trans h⟩
      · exact Or.inr ⟨i, List.mem_cons_of_mem _ hi, h5⟩

/-- The greatest of a non-empty list of counts, found from minus infinity. -/
theorem Counting.fold_bot (hw : Counting w) {ι : Type} (g : ι → ℕ) (hg : ∀ i, g i ≤ 8192) (l : List ι)
    (hl : l ≠ []) :
    ∃ M, l.foldl (fun r n => FloatOps.maximumf r (w (g n))) (FloatOps.ofBits .f32 0xFF800000#32) = w M ∧
      M ≤ 8192 ∧ (∀ i ∈ l, g i ≤ M) ∧ (∃ i ∈ l, M = g i) := by
  cases l with
  | nil => exact absurd rfl hl
  | cons x l =>
    obtain ⟨M, h1, h2, h3, h4, h5⟩ := hw.fold g hg l (g x) (hg x)
    refine ⟨M, ?_, h2, ?_, ?_⟩
    · rw [List.foldl_cons, hw.bot_eq (g x) (hg x)]; exact h1
    · intro i hi
      rcases List.mem_cons.mp hi with rfl | hi
      · exact h3
      · exact h4 i hi
    · rcases h5 with h5 | ⟨i, hi, h5⟩
      · exact ⟨x, List.mem_cons_self, h5⟩
      · exact ⟨i, List.mem_cons_of_mem _ hi, h5⟩

/-- The index with both positions given by one row. -/
theorem col_eta (i : S256x1.Idx) : i = ix2 (n0 := 256) (n1 := 1) (i 0) 0 := by
  funext a
  match a with
  | ⟨0, _⟩ => rfl
  | ⟨1, _⟩ => exact Subsingleton.elim (α := Fin 1) _ _

/-- Only one index has the shape of one number. -/
theorem one_eq (i j : S1.Idx) : i = j := by
  funext a
  match a with
  | ⟨0, _⟩ => exact Subsingleton.elim (α := Fin 1) _ _

/-- The greatest count of the block of rows. -/
theorem Counting.greatest (hw : Counting w) (f : S256x1.Idx → ℕ) (hf : ∀ i, f i ≤ 8192) :
    ∃ M, k0_pay1 (fun i => w (f i)) = w M ∧ M ≤ 8192 ∧ (∀ i, f i ≤ M) ∧ (∃ i, M = f i) := by
  let e : S1x256x1.Idx → S256x1.Idx := Shape.reshapeEquiv shapeCasts_S256x1_S1x256x1
  let l := List.finRange S1x256x1.numel
  obtain ⟨M, h1, h2, h3, ⟨i, _, h4⟩⟩ := hw.fold_bot (fun n : Fin S1x256x1.numel => f (e (S1x256x1.rowMajor.symm n)))
    (fun n => hf _) l (by intro h; have := congrArg List.length h; rw [List.length_finRange] at this; exact absurd this (by decide))
  refine ⟨M, ?_, h2, ?_, ⟨_, h4⟩⟩
  · rw [← h1]
    show reduceFold reduces_S1x256x1_S1 FloatOps.maximumf (FloatOps.ofBits .f32 0xFF800000#32)
      (fun i => w (f (e i))) _ = _
    unfold reduceFold
    rw [List.filter_eq_self.mpr (fun n _ => by simpa using one_eq _ _)]
  · intro i
    have := h3 (S1x256x1.rowMajor ((Shape.reshapeEquiv shapeCasts_S256x1_S1x256x1).symm i)) (List.mem_finRange _)
    simpa [e] using this

/-- One trip on a count. -/
def step1 (n : ℕ) : ℕ := if 15 < n then n - 1 else n

theorem step1_le (n : ℕ) : step1 n ≤ n := by unfold step1; split <;> omega

/-- One trip on the counts. -/
theorem Counting.trip_counts (hw : Counting w) (f : S256x1.Idx → ℕ) (hf : ∀ i, f i ≤ 8192) :
    k0_pay4 (fun i => w (f i)) = fun i => w (step1 (f i)) := by
  funext i
  show Scalar.select (FloatOps.cmpf .ogt (w (f i)) (FloatOps.ofBits .f32 0x41700000#32))
    (FloatOps.subf (w (f i)) (FloatOps.ofBits .f32 0x3F800000#32)) (w (f i)) = _
  rw [hw.aboveV _ (hf i)]
  unfold step1
  by_cases h : 15 < f i
  · rw [if_pos h, hw.pred _ (by omega) (hf i), decide_eq_true h]; rfl
  · rw [if_neg h, decide_eq_false h]; rfl

/-- Several trips on the counts. -/
theorem Counting.trips_counts (hw : Counting w) (n : ℕ) (f : S256x1.Idx → ℕ) (hf : ∀ i, f i ≤ 8192) :
    k0_pay4^[n] (fun i => w (f i)) = fun i => w (step1^[n] (f i)) := by
  induction n generalizing f with
  | zero => rfl
  | succ n ih =>
    rw [Function.iterate_succ_apply, hw.trip_counts f hf, ih _ (fun i => le_trans (step1_le _) (hf i))]
    rfl

/-- The loop goes on exactly while some count is above fifteen. -/
theorem Counting.more_iff (hw : Counting w) (f : S256x1.Idx → ℕ) (hf : ∀ i, f i ≤ 8192) :
    more (fun i => w (f i)) ↔ ∃ i, 15 < f i := by
  obtain ⟨M, h1, h2, h3, ⟨i, h4⟩⟩ := hw.greatest f hf
  unfold more
  rw [h1, hw.above M h2]
  by_cases h : 15 < M
  · rw [decide_eq_true h]
    exact ⟨fun _ => ⟨i, h4 ▸ h⟩, fun _ => rfl⟩
  · rw [decide_eq_false h]
    constructor
    · intro h0; exact absurd h0 (by decide)
    · rintro ⟨i, hi⟩; exact absurd (lt_of_lt_of_le hi (h3 i)) h

theorem step1_iterate (n a : ℕ) : step1^[n] a ≤ 15 ∨ step1^[n] a + n = a := by
  induction n generalizing a with
  | zero => right; rfl
  | succ n ih =>
    rw [Function.iterate_succ_apply']
    rcases ih a with h | h
    · left; exact le_trans (step1_le _) h
    · generalize step1^[n] a = b at *
      unfold step1
      split
      · right; omega
      · left; omega

/-- From counts of at most 8192 the loop stops. -/
theorem Counting.stops (hw : Counting w) (f : S256x1.Idx → ℕ) (hf : ∀ i, f i ≤ 8192) : Stops (fun i => w (f i)) := by
  refine ⟨8192, ?_⟩
  have hle : ∀ n a, step1^[n] a ≤ a := by
    intro n a
    induction n with
    | zero => exact le_refl _
    | succ n ih => rw [Function.iterate_succ_apply']; exact le_trans (step1_le _) ih
  rw [hw.trips_counts 8192 f hf, hw.more_iff _ (fun i => le_trans (hle _ _) (hf i))]
  rintro ⟨i, hi⟩
  have := step1_iterate 8192 (f i)
  have := hf i
  omega

/-- How many entries of a row are marked. -/
def marked (m : IVec S256x8192 1) (r : Fin 256) : ℕ := ∑ k : Fin 8192, (m (ix2 (n0 := 256) (n1 := 8192) r k)).toNat

theorem marked_le (m : IVec S256x8192 1) (r : Fin 256) : marked m r ≤ 8192 := by
  unfold marked
  refine le_trans (Finset.sum_le_card_nsmul _ _ 1 fun k _ => ?_) (by simp)
  have := (m (ix2 (n0 := 256) (n1 := 8192) r k)).isLt
  omega

/-- Which keys of a row are at most its threshold. -/
def atMost (v148 : FVec F S256x8192 .f32) (t : FVec F S256x1 .f32) : IVec S256x8192 1 :=
  cmpf .ole v148 (broadcastTo S256x8192 t broadcasts_S256x1_S256x8192)

/-- The first counts. -/
theorem Counting.counts (hw : Counting w) (v148 : FVec F S256x8192 .f32) (v534 : FVec F S256x384 .f32)
    (v616 : IVec S256x384 1) (v617 : FVec F S256x384 .f32) :
    k0_pay344 v148 v534 v616 v617 = fun i => w (marked (atMost v148 (k0_pay343 v534 v616 v617)) (i 0)) := by
  funext i
  show shapeCast S256x1 (multiReduction .add [1] S256 (sitofp .f32 (extui 32 (atMost v148 (k0_pay343 v534 v616 v617)) natLt_1_32)
    : FVec F S256x8192 .f32) 0x00000000#32 reduces_S256x8192_S256 (.inl rfl) rfl) shapeCasts_S256_S256x1 i = _
  unfold shapeCast
  rw [hw.count]
  have : (Shape.reshapeEquiv shapeCasts_S256_S256x1 i) 0 = i 0 := by
    have h : Shape.reshapeEquiv shapeCasts_S256_S256x1 i = ix1 (n0 := 256) (i 0) := by
      refine Shape.reshapeEquiv_eq_of_rowMajor _ ?_
      rw [rowMajor_val1, rowMajor_val2 i 1 rfl]
      have h1 : ((i 1 : Fin 1) : ℕ) = 0 := Nat.lt_one_iff.mp (i 1).isLt
      show ((i 0 : Fin 256) : ℕ) = ((i 0 : Fin 256) : ℕ) * 1 + ((i 1 : Fin 1) : ℕ)
      omega
    rw [h]; rfl
  rw [this]
  rfl

/-- The loop always stops. -/
theorem Counting.halting (hw : Counting w) : Halting F := by
  intro v148 v534 v616 v617
  rw [hw.counts]
  exact hw.stops _ fun i => marked_le _ _

end Cert.KernelIdeal.Hand
-- ==== Proof.Ideal.Halts.lean ====
module

public import proofs.«01_k».proof.Proof.Ideal.Counts
public import Idealize.ShloMosaic.Lib.Pointwise.Tactic

/-!
# The counts on extended reals

The natural numbers among the extended reals are the counts; so the loop stops.
-/

@[expose] public section

noncomputable section

namespace Cert.KernelIdeal.Hand

open Cert.KernelIdeal Cert.KernelIdeal.Gen
open Idealize.ShloMosaic

/-- A natural number among the extended reals. -/
abbrev natE (n : ℕ) : Ideal .f32 := ((n : ℝ) : EReal)

theorem ofBits_fifteen : Ideal.ofBits .f32 0x41700000#32 = natE 15 := by
  simp [Ideal.ofBits, Ideal.ieee, natE, -EReal.coe_mul]; norm_num

theorem ofBits_negInf : Ideal.ofBits .f32 0xFF800000#32 = (⊥ : EReal) := by
  simp [Ideal.ofBits, Ideal.ieee]

theorem sum_natE {ι : Type} (s : Finset ι) (f : ι → ℕ) : ∑ i ∈ s, natE (f i) = natE (∑ i ∈ s, f i) := by
  classical
  induction s using Finset.induction_on with
  | empty => simp [natE]
  | insert a s ha ih =>
    rw [Finset.sum_insert ha, Finset.sum_insert ha, ih]
    simp [natE]

theorem counting : Counting (F := Ideal) natE where
  max_eq a b _ _ := by
    rw [Ideal.maximumf_eq_max]
    unfold natE
    rcases le_total a b with h | h
    · rw [max_eq_right h, max_eq_right]; exact_mod_cast h
    · rw [max_eq_left h, max_eq_left]; exact_mod_cast h
  bot_eq a _ := by
    rw [Ideal.maximumf_eq_max]
    show max (Ideal.ofBits .f32 0xFF800000#32) _ = _
    rw [ofBits_negInf]; exact max_eq_right bot_le
  above a _ := by
    show Ideal.cmp .ogt (natE a) (Ideal.ofBits .f32 0x41700000#32) = _
    rw [ofBits_fifteen]
    show BitVec.ofBool (decide (natE 15 < natE a)) = _
    have : (natE 15 < natE a) ↔ 15 < a := by
      unfold natE; rw [EReal.coe_lt_coe_iff]; exact Nat.cast_lt
    rw [decide_eq_decide.mpr this]
  aboveV a _ := by
    show Ideal.cmp .ogt (natE a) (Ideal.ofBits .f32 0x41700000#32) = _
    rw [ofBits_fifteen]
    show BitVec.ofBool (decide (natE 15 < natE a)) = _
    have : (natE 15 < natE a) ↔ 15 < a := by
      unfold natE; rw [EReal.coe_lt_coe_iff]; exact Nat.cast_lt
    rw [decide_eq_decide.mpr this]
  pred a h _ := by
    show natE a - Ideal.ofBits .f32 0x3F800000#32 = _
    rw [Ideal.ofBits_one_f32]
    unfold natE
    rw [← EReal.coe_one, ← EReal.coe_sub]
    push_cast [h]
    rfl
  count m j := by
    have key : ∀ (src : FVec Ideal S256x8192 .f32) (n : S256x8192.Idx → ℕ), (∀ i, src i = natE (n i)) →
        multiReduction .add [1] S256 src 0x00000000#32 reduces_S256x8192_S256 (.inl rfl) rfl j
          = natE (∑ k : Fin 8192, n (ix2 (n0 := 256) (n1 := 8192) (j 0) k)) := by
      intro src n hn
      rw [← sum_natE]
      have h : multiReduction .add [1] S256 src 0x00000000#32 reduces_S256x8192_S256 (.inl rfl) rfl j
          = ∑ k : Fin 8192, src (ix2 (n0 := 256) (n1 := 8192) (j 0) k) := by pointwise
      rw [h]
      exact Finset.sum_congr rfl fun k _ => hn _
    refine key _ (fun i => (m i).toNat) fun i => ?_
    show (((((m i).setWidth 32).toInt : ℤ) : ℝ) : EReal) = _
    have hb : ((m i).setWidth 32).toInt = ((m i).toNat : ℤ) := by
      generalize m i = b
      revert b; decide
    rw [hb]; rfl

/-- The loop always stops. -/
theorem halting : Halting Ideal := counting.halting

end Cert.KernelIdeal.Hand
-- ==== Proof.Ideal.Setup.lean ====
module

public import proofs.«01_k».proof.Proof.Ideal.Point
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.PureOps.Ideal

/-!
# The launch, set up

The host lines around the region, the blocks the points read, and which branch a point takes.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region is entered: the earlier host lines have run. -/
abbrev V0 (c : Dev nD) : Valuation τ sig (Elt F) := StableHlo.after (List.flatten [hostOps0]) (fun b => m (c, b))

/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is the earlier lines, the region and the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The later lines touch buffers that the region leaves to them. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  obtain rfl := List.mem_singleton.mp hops
  exact Pipeline.sub_ucRefs op ((List.forall_iff_forall_mem.mp (hostOps1_sub (F := F))) op hop)

/-- They allocate nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp (hostOps1_fresh (F := F))) op hop

/-- They write none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- No host line writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- No host line writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input 0 is at its block whenever the body runs. -/
theorem held_0 {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1 is at its block whenever the body runs. -/
theorem held_1 {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2 is at its block whenever the body runs. -/
theorem held_2 {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3 is at its block whenever the body runs. -/
theorem held_3 {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The first branch is taken at the first point. -/
theorem hfirst : ∀ t : Fin (cfg0 (F := F)).N, k0_cond1 (grid0.coords t) = 1#1 ↔ t.val = 0 :=
  (fun t => by
    have ht : t.val < 36 := Nat.lt_of_lt_of_eq t.isLt N_0
    have e0 : (grid0.coords t 0).val = t.val / 1 % 36 := Pipeline.Grid.coords_val t 0 (by decide) rfl
    simp only [k0_cond1, e0]
    have key : t.val % 36 = 0 ↔ t.val = 0 := by omega
    rw [← key]
    word_cmp
   : ∀ t : Fin grid0.N, k0_cond1 (grid0.coords t) = 1#1 ↔ t.val = 0)

/-- The second one at every later point. -/
theorem hlater : ∀ t : Fin (cfg0 (F := F)).N, k0_cond2 (grid0.coords t) = 1#1 ↔ 1 ≤ t.val :=
  (fun t => by
    have ht : t.val < 36 := Nat.lt_of_lt_of_eq t.isLt N_0
    have e0 : (grid0.coords t 0).val = t.val / 1 % 36 := Pipeline.Grid.coords_val t 0 (by decide) rfl
    simp only [k0_cond2, e0]
    word_cmp
   : ∀ t : Fin grid0.N, k0_cond2 (grid0.coords t) = 1#1 ↔ 1 ≤ t.val)

/-- Every point stores the error block. -/
theorem live_6 : ∀ t : Fin (cfg0 (F := F)).N, (cfg0 (F := F)).idle 6 (grid0.coords t) = false :=
  (by decide +kernel : ∀ t : Fin (cfg0 (F := Ideal)).N, (cfg0 (F := Ideal)).idle 6 (grid0.coords t) = false)

/-- The error block is fresh at the first point only. -/
def freshTab : ℕ → Bool
  | 0 => true
  | n + 1 => (0x800000000 : ℕ).testBit n
theorem freshTab_step : ∀ t : Fin (cfg0 (F := F)).N,
    freshTab (t.val + 1) = (((cfg0 (F := F)).win 6).flush t || ((cfg0 (F := F)).idle 6 ((cfg0 (F := F)).grid.coords t) && freshTab t.val)) :=
  (by decide +kernel : ∀ t : Fin (cfg0 (F := Ideal)).N,
    freshTab (t.val + 1) = (((cfg0 (F := Ideal)).win 6).flush t || ((cfg0 (F := Ideal)).idle 6 ((cfg0 (F := Ideal)).grid.coords t) && freshTab t.val)))
theorem fresh_eq (t : Fin (cfg0 (F := F)).N) : (cfg0 (F := F)).fresh 6 t.val = freshTab t.val :=
  Pipeline.Cfg.fresh_tab (cfg0 (F := F)) 6 freshTab rfl freshTab_step t.val (Nat.le_of_lt t.isLt)
theorem not_fresh (t : Fin (cfg0 (F := F)).N) (h : 1 ≤ t.val) : (cfg0 (F := F)).fresh 6 t.val = false := by
  rw [fresh_eq t]
  exact (by decide +kernel : ∀ n : Fin 36, 1 ≤ n.val → freshTab n.val = false) ⟨t.val, lt_of_lt_of_eq t.isLt N_0⟩ h

end Cert.KernelIdeal.Hand

end
-- ==== Proof.Ideal.Frame.lean ====
module

public import proofs.«01_k».proof.Proof.Ideal.Setup

/-!
# The run of the whole program

Every point leaves what `Point` says; so the program ends, with its arrays at what the points left.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One point's share of the squared error, added to what was there; it starts afresh at the first point. -/
def errStep (c : Dev nD) (n : ℕ) (acc : FVec F S1x1 .f32) : FVec F S1x1 .f32 :=
  if h : n < (cfg0 (F := F)).N then
    if n = 0 then errOut (iblk m c 0 ⟨n, h⟩) (iblk m c 1 ⟨n, h⟩) (iblk m c 2 ⟨n, h⟩) (iblk m c 3 ⟨n, h⟩)
    else errAdd (iblk m c 0 ⟨n, h⟩) (iblk m c 1 ⟨n, h⟩) (iblk m c 2 ⟨n, h⟩) (iblk m c 3 ⟨n, h⟩) acc
  else acc

/-- The squared error the points up to `n` have added up. -/
def errUpTo (c : Dev nD) (n : ℕ) : FVec F S1x1 .f32 :=
  Nat.rec (errStep m c 0 (fun _ => Scalar.ofBits .f32 0#32)) (fun n acc => errStep m c (n + 1) acc) n

theorem errUpTo_first (c : Dev nD) (t : Fin (cfg0 (F := F)).N) (h : t.val = 0) :
    errUpTo m c t.val = errOut (iblk m c 0 t) (iblk m c 1 t) (iblk m c 2 t) (iblk m c 3 t) := by
  obtain ⟨n, hn⟩ := t
  obtain rfl : n = 0 := h
  show errStep m c 0 _ = _
  unfold errStep
  rw [dif_pos hn, if_pos rfl]

theorem errUpTo_later (c : Dev nD) (t : Fin (cfg0 (F := F)).N) (h : 1 ≤ t.val) :
    errUpTo m c t.val = errAdd (iblk m c 0 t) (iblk m c 1 t) (iblk m c 2 t) (iblk m c 3 t) (errUpTo m c (t.val - 1)) := by
  obtain ⟨n, hn⟩ := t
  cases n with
  | zero => exact absurd h (Nat.not_succ_le_zero 0)
  | succ n =>
    show errStep m c (n + 1) (errUpTo m c n) = _
    unfold errStep
    rw [dif_pos hn, if_neg (Nat.succ_ne_zero n)]
    rfl

/-- The contents of the buffers over the run. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowsOut (iblk m c 0 t) (iblk m c 1 t) (iblk m c 2 t) (iblk m c 3 t)
    | ⟨5, _⟩ => hotOut (iblk m c 0 t) (iblk m c 1 t) (iblk m c 2 t) (iblk m c 3 t)
    | ⟨6, _⟩ => errUpTo m c t.val
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl
theorem after_4 (c : Dev nD) (t : Fin (cfg0 (F := F)).N) : (dats m 0 c).after 4 t = rowsOut (iblk m c 0 t) (iblk m c 1 t) (iblk m c 2 t) (iblk m c 3 t) := by dsimp only [dats]; rfl
theorem after_5 (c : Dev nD) (t : Fin (cfg0 (F := F)).N) : (dats m 0 c).after 5 t = hotOut (iblk m c 0 t) (iblk m c 1 t) (iblk m c 2 t) (iblk m c 3 t) := by dsimp only [dats]; rfl
theorem after_6 (c : Dev nD) (t : Fin (cfg0 (F := F)).N) : (dats m 0 c).after 6 t = errUpTo m c t.val := by dsimp only [dats]; rfl
theorem before_0 (c : Dev nD) (t : Fin (cfg0 (F := F)).N) (d) : (dats m 0 c).before 0 t d = iblk m c 0 t :=
  held_0 m (dats m 0 c) (A_eq m c 0) (after_0 m c) t d
theorem before_1 (c : Dev nD) (t : Fin (cfg0 (F := F)).N) (d) : (dats m 0 c).before 1 t d = iblk m c 1 t :=
  held_1 m (dats m 0 c) (A_eq m c 1) (after_1 m c) t d
theorem before_2 (c : Dev nD) (t : Fin (cfg0 (F := F)).N) (d) : (dats m 0 c).before 2 t d = iblk m c 2 t :=
  held_2 m (dats m 0 c) (A_eq m c 2) (after_2 m c) t d
theorem before_3 (c : Dev nD) (t : Fin (cfg0 (F := F)).N) (d) : (dats m 0 c).before 3 t d = iblk m c 3 t :=
  held_3 m (dats m 0 c) (A_eq m c 3) (after_3 m c) t d

/-- At a later point the error block holds what the point before left. -/
theorem before_6 (c : Dev nD) (t : Fin (cfg0 (F := F)).N) (h : 1 ≤ t.val) (d) : (dats m 0 c).before 6 t d = errUpTo m c (t.val - 1) := by
  rw [Dat.before_out_traj _ 6 rfl (fun _ _ => rfl)
      (fun t _ hi _ => by rw [show (cfg0 (F := F)).idle 6 (grid0.coords t) = false from live_6 t] at hi; exact absurd hi Bool.false_ne_true) t.val t rfl d,
    if_neg (by rw [not_fresh t h]; exact Bool.false_ne_true)]
  dsimp only [dats]; rfl

/-- What the body finds at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it leaves there. -/
def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A window that no point skips leaves its contents. -/
theorem leaves_live (c : Dev nD) (w : Fin (cfg0 (F := F)).W) (t : Fin (cfg0 (F := F)).N) (h : (cfg0 (F := F)).idle w (grid0.coords t) = false) :
    (dats m 0 c).leavesExact w t = owns (c : Thread nD τ) (((cfg0 (F := F)).win w).stage ((cfg0 (F := F)).slots t w)) fullShare ((dats m 0 c).after w t) := by
  unfold Dat.leavesExact; rw [h]

set_option maxHeartbeats 800000 in
/-- The body, at any point. -/
theorem sound_body (hstop : Halting F) (c : Dev nD) (t : Fin (cfg0 (F := F)).N) :
    bodyPre m c t ⊢ wp frame (wpE (defs₀ (F := F)) byTrips c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [leaves_live m c 0 t rfl, leaves_live m c 1 t rfl, leaves_live m c 2 t rfl, leaves_live m c 3 t rfl, leaves_live m c 4 t rfl,
    leaves_live m c 5 t rfl, leaves_live m c 6 t (live_6 t), after_0, after_1, after_2, after_3, after_4, after_5, after_6]
  by_cases h : t.val = 0
  · rw [errUpTo_first m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first hstop c (grid0.coords t) _ _ _ _ _ _ _ _ _ _ _ _ _ _ ((hfirst t).mpr h) (fun h1 => by have := (hlater t).mp h1; omega)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h1 : 1 ≤ t.val := by omega
    rw [errUpTo_later m c t h1]
    simp only [before_6 m c t h1]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later hstop c (grid0.coords t) _ _ _ _ _ _ _ _ _ _ _ _ _ _ (fun h0 => h ((hfirst t).mp h0)) ((hlater t).mpr h1)
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row is the body. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (hstop : Halting F) (c : Dev nD) : BodyObligation (dats (F := F) m 0 c) (defs₀ (F := F)) byTrips () Set.univ := fun t => by
  rw [bigSep_W0, bigSep_W0, defs₀_row]
  exact triple_restated (sound_body m hstop c t) rfl .rfl fun _ => .rfl

set_option backward.isDefEq.respectTransparency.types false in
set_option maxHeartbeats 800000 in
/-- Every run ends, the arrays at what the points left and the counters at zero. -/
theorem run_main_quiescent (hstop : Halting F) : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ byTrips m ρ main
    (hbody := fun c => (body_obligation m hstop c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m byTrips) (hA := A_eq m) (hΦ := fun _ _ => rfl)

/-- The arguments end unchanged and the counters at zero. -/
theorem frame (hstop : Halting F) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).1 2).trans (((dats m 0 c).arrAt_in 2 rfl _).trans ((A_eq m c 2).trans (V_main_arg1 m c)))⟩, h.2⟩) (run_main_quiescent m ρ hstop)

end Cert.KernelIdeal.Hand

end
-- ==== Proof.Bits.Halts.lean ====
module

public import proofs.«01_k».proof.Proof.Bits.Counts
public import Idealize.ShloMosaic.Lib.NatWords
public import Idealize.ShloMosaic.Lib.NatWordsOrder

/-!
# The counts as words

The patterns of the natural numbers up to 8192 are the counts; so the loop stops.
-/

@[expose] public section

noncomputable section

namespace Cert.Kernel.Hand

open Cert.Kernel Cert.Kernel.Gen
open Idealize.ShloMosaic

theorem counting : Counting (F := Bits) Bits.f32OfNat where
  max_eq a b _ _ := Bits.maxf32_nat (by omega) (by omega)
  bot_eq a _ := Bits.maxf32_negativeInfinity_nat (by omega)
  above a _ := by
    have e : (Scalar.ofBits .f32 0x41700000#32 : Bits .f32) = Bits.f32OfNat 15 := by
      rw [Bits.f32OfNat_eq _ (by norm_num)]; decide
    rw [e]
    exact Bits.cmpf32_ogt_nat (by omega) (by omega)
  aboveV a _ := by
    have e : (FloatOps.ofBits .f32 0x41700000#32 : Bits .f32) = Bits.f32OfNat 15 := by
      rw [Bits.f32OfNat_eq _ (by norm_num)]; decide
    rw [e]
    exact Bits.cmpf32_ogt_nat (by omega) (by omega)
  pred a h _ := by
    have e : (FloatOps.ofBits .f32 0x3F800000#32 : Bits .f32) = Bits.f32OfNat 1 := by
      rw [Bits.f32OfNat_eq _ (by norm_num)]; decide
    rw [e]
    exact Bits.subf32_nat a 1 h (by omega)
  count m j := by
    have hs : (Bits.reduceFiber reduces_S256x8192_S256 j).sum (fun i => (m i).toNat)
        = ∑ k : Fin 8192, (m (ix2 (n0 := 256) (n1 := 8192) (j 0) k)).toNat :=
      sum_row (fun i => (m i).toNat) j
    rw [Bits.multiReduction_add_nat (n := fun i => (m i).toNat), hs]
    · intro i _
      have hm := (m i).isLt
      have : ((extui 32 m natLt_1_32 : IVec S256x8192 32) i).toNat = (m i).toNat := by
        show ((m i).setWidth 32).toNat = _
        rw [BitVec.toNat_setWidth]
        omega
      show Bits.natOfF32? (Bits.sitofp32 _) = _
      rw [Bits.sitofp32_eq_f32OfNat _ (le_refl 32) (by rw [this]; omega), this,
        Bits.natOfF32?_f32OfNat _ (by omega)]
    · rw [hs]
      exact lt_of_le_of_lt (marked_le m (j 0)) (by norm_num)

/-- The loop always stops. -/
theorem halting : Halting Bits := counting.halting

end Cert.Kernel.Hand
-- ==== Proof.Frames.lean ====
module

public import proofs.«01_k».proof.Defs
public import proofs.«01_k».proof.Proof.Ideal.Halts
public import proofs.«01_k».proof.Proof.Ideal.Frame
public import proofs.«01_k».proof.Proof.Bits.Halts
public import proofs.«01_k».proof.Proof.Bits.Frame
public import proofs.«01_k».proof.Proof.Gen.ReferenceIdeal
public import proofs.«01_k».proof.Proof.Gen.ReferenceIdeal.Run
public import proofs.«01_k».proof.Proof.Gen.Pre_separated
public import Idealize.ShloMosaic.Lib.Quiescent

/-!
# The runs end well

The kernel at both readings and the reference terminate, leave their arguments as they were, and end
with every semaphore at zero.
-/

@[expose] public section

namespace Cert.Proof

open Idealize.ShloMosaic Idealize.SL.Sem

theorem kernel_quiescent : Cert.quiescent_Kernel (hKernel := Cert.Kernel.Gen.facts) :=
  fun m g _ => Cert.Kernel.Hand.frame m g Cert.Kernel.Hand.halting

theorem ideal_quiescent : Cert.quiescent_KernelIdeal (hKernelIdeal := Cert.KernelIdeal.Gen.facts) :=
  fun m g _ => Cert.KernelIdeal.Hand.frame m g Cert.KernelIdeal.Hand.halting

theorem reference_quiescent : Cert.quiescent_ReferenceIdeal (hReferenceIdeal := Cert.ReferenceIdeal.Gen.facts) :=
  fun m g _ => (θ_run Cert.ReferenceIdeal.defs _ _).mono
    (fun r h => ⟨fun c => ⟨(h c).2.2.2.1, (h c).2.2.2.2⟩, sem_eq_zero_of_no_sems (by decide) r.2⟩)
    (Cert.ReferenceIdeal.Value.run m g)

theorem ideal_quiescent_pre : Cert.quiescent_KernelIdeal_pre_separated
    (hKernelIdeal := Cert.KernelIdeal.Gen.facts) (hPre_separated := Cert.Pre_separated.Gen.facts) :=
  fun m g _ => ideal_quiescent m g trivial

theorem reference_quiescent_pre : Cert.quiescent_ReferenceIdeal_pre_separated
    (hReferenceIdeal := Cert.ReferenceIdeal.Gen.facts) (hPre_separated := Cert.Pre_separated.Gen.facts) :=
  fun m g _ => reference_quiescent m g trivial

end Cert.Proof

end
-- ==== Proof.Ideal.Lanes.lean ====
module

public import proofs.«01_k».proof.Proof.Ideal.Chain
public import Idealize.ShloMosaic.Lib.Pointwise.Tactic
public import Idealize.ShloMosaic.Lib.Pointwise.Select

/-!
# Where the entries of a vector of lanes come from

A vector with 128 lanes per row is taken from an array with 8192 columns per row: `FromLane` says that
each entry is one of the 64 entries of its own lane, `FromRow` that it is infinite or an entry of its
row. Lesser and greater of two such vectors are such vectors again.
-/

@[expose] public section

noncomputable section

namespace Cert.KernelIdeal.Hand

open Idealize.ShloMosaic Cert.KernelIdeal Cert.KernelIdeal.Gen Cert.KernelIdeal.Facts

/-- Column `128 k + l` of row `r`. -/
def laneIdx (r : Fin 256) (k : Fin 64) (l : Fin 128) : S256x8192.Idx :=
  ix2 (n0 := 256) (n1 := 8192) r ⟨128 * k.val + l.val, by omega⟩

/-- Every entry is one of its own lane's. -/
def FromLane (K : FVec Ideal S256x8192 .f32) (x : FVec Ideal S256x128 .f32) : Prop :=
  ∀ (r : Fin 256) (l : Fin 128), ∃ k : Fin 64, x (ix2 (n0 := 256) (n1 := 128) r l) = K (laneIdx r k l)

/-- Every entry is infinite or one of its row's. -/
def FromRow (K : FVec Ideal S256x8192 .f32) (x : FVec Ideal S256x128 .f32) : Prop :=
  ∀ (r : Fin 256) (l : Fin 128), x (ix2 (n0 := 256) (n1 := 128) r l) = (⊤ : EReal)
    ∨ ∃ j : Fin 8192, x (ix2 (n0 := 256) (n1 := 128) r l) = K (ix2 (n0 := 256) (n1 := 8192) r j)

variable {K : FVec Ideal S256x8192 .f32} {x y : FVec Ideal S256x128 .f32}

theorem FromLane.row (h : FromLane K x) : FromRow K x := fun r l => by
  obtain ⟨k, hk⟩ := h r l
  exact Or.inr ⟨_, hk⟩

theorem minimumf_at {s : Shape} (x y : FVec Ideal s .f32) (i : s.Idx) : minimumf x y i = min (x i : EReal) (y i) := by
  rfl

theorem maximumf_at {s : Shape} (x y : FVec Ideal s .f32) (i : s.Idx) : maximumf x y i = max (x i : EReal) (y i) := by
  rfl

theorem min_lane (hx : FromLane K x) (hy : FromLane K y) : FromLane K (minimumf x y) := fun r l => by
  rw [minimumf_at]
  rcases min_choice (x (ix2 (n0 := 256) (n1 := 128) r l) : EReal) (y (ix2 (n0 := 256) (n1 := 128) r l)) with e | e
  · rw [e]; exact hx r l
  · rw [e]; exact hy r l

theorem min_row (hx : FromRow K x) (hy : FromRow K y) : FromRow K (minimumf x y) := fun r l => by
  rw [minimumf_at]
  rcases min_choice (x (ix2 (n0 := 256) (n1 := 128) r l) : EReal) (y (ix2 (n0 := 256) (n1 := 128) r l)) with e | e
  · rw [e]; exact hx r l
  · rw [e]; exact hy r l

theorem max_row (hx : FromRow K x) (hy : FromRow K y) : FromRow K (maximumf x y) := fun r l => by
  rw [maximumf_at]
  rcases max_choice (x (ix2 (n0 := 256) (n1 := 128) r l) : EReal) (y (ix2 (n0 := 256) (n1 := 128) r l)) with e | e
  · rw [e]; exact hx r l
  · rw [e]; exact hy r l

theorem ofBits_inf : Ideal.ofBits .f32 0x7F800000#32 = (⊤ : EReal) := by
  simp [Ideal.ofBits, Ideal.ieee]

theorem fill_at (i : S256x128.Idx) : k0_pay73 (F := Ideal) i = (⊤ : EReal) := ofBits_inf

theorem fill_row : FromRow K (k0_pay73 (F := Ideal)) := fun _ _ => Or.inl (fill_at _)

theorem min_fill_lane (hx : FromLane K x) : FromLane K (minimumf x (k0_pay73 (F := Ideal))) := fun r l => by
  rw [minimumf_at, fill_at, min_eq_left le_top]; exact hx r l

/-- The `k`-th slice of 128 columns. -/
theorem slice_lane (k : Fin 64) (o : ℕ) (h : S256x8192.Slices ![0, o] S256x128) (ho : o = 128 * k.val) :
    FromLane K (extractStridedSlice S256x128 ![0, o] K h) := fun r l => by
  subst ho
  refine ⟨k, ?_⟩
  unfold extractStridedSlice
  refine congrArg K ?_
  funext a
  match a with
  | ⟨0, _⟩ => exact Fin.ext (Nat.zero_add _)
  | ⟨1, _⟩ => rfl

/-- Three vectors of lanes side by side. -/
theorem beside (a b c : FVec Ideal S256x128 .f32) (r : Fin 256) (n : Fin 384) :
    concatenate S256x384 1 [⟨S256x128, a⟩, ⟨S256x128, b⟩, ⟨S256x128, c⟩] concatenates_S256x128_S256x128_S256x128_S256x384_d1
        (ix2 (n0 := 256) (n1 := 384) r n)
      = if h : n.val < 128 then a (ix2 (n0 := 256) (n1 := 128) r ⟨n.val, h⟩)
        else if h' : n.val - 128 < 128 then b (ix2 (n0 := 256) (n1 := 128) r ⟨n.val - 128, h'⟩)
        else c (ix2 (n0 := 256) (n1 := 128) r ⟨n.val - 128 - 128, by omega⟩) := by
  pointwise

end Cert.KernelIdeal.Hand

end
-- ==== Proof.Math.Rows.lean ====
module

public import Mathlib.Data.EReal.Operations
public import Mathlib.Order.Fin.Basic
public import Mathlib.Data.Finset.Card
public import Mathlib.Data.Fintype.Card
public import Mathlib.Data.Fintype.BigOperators

/-!
# One row: from the candidates to the fifteen smallest keys

A row has 8192 keys, all different. Out of three candidates per lane the kernel takes the fifteenth
smallest as a first threshold. At least fifteen keys lie at or below it, because each of the first
fifteen thresholds is itself a key. The correcting loop then steps down to the next smaller key until
exactly fifteen are left.
-/

@[expose] public section

noncomputable section

namespace Cert.Rows

open Finset

/-- The keys at or below a threshold. -/
def atOrBelow (key : Fin 8192 → EReal) (t : EReal) : Finset (Fin 8192) := univ.filter fun j => key j ≤ t

theorem mem_atOrBelow {key : Fin 8192 → EReal} {t : EReal} {j : Fin 8192} : j ∈ atOrBelow key t ↔ key j ≤ t := by
  simp [atOrBelow]

/-- Three candidates per lane: the first of a lane is one of the lane's keys, the other two are keys or infinite. -/
structure Candidates (key : Fin 8192 → EReal) (cand : Fin 384 → EReal) : Prop where
  lane : ∀ l : Fin 128, ∃ k : Fin 64, cand ⟨l.val, by omega⟩ = key ⟨128 * k.val + l.val, by omega⟩
  key_or_top : ∀ c, cand c = ⊤ ∨ ∃ j, cand c = key j

/-- The least candidate above a threshold. -/
def next (cand : Fin 384 → EReal) (t : EReal) : EReal := univ.inf fun c => if t < cand c then cand c else ⊤

/-- The candidates in increasing order, each value once; the smallest is number 0. -/
def nth (cand : Fin 384 → EReal) : ℕ → EReal
  | 0 => univ.inf cand
  | n + 1 => next cand (nth cand n)

/-- The first candidate of a lane. -/
def first (cand : Fin 384 → EReal) (l : Fin 128) : EReal := cand ⟨l.val, by omega⟩

theorem first_injective {key : Fin 8192 → EReal} {cand : Fin 384 → EReal} (hinj : Function.Injective key)
    (h : Candidates key cand) : Function.Injective (first cand) := by
  intro l l' e
  obtain ⟨k, hk⟩ := h.lane l
  obtain ⟨k', hk'⟩ := h.lane l'
  have := hinj (hk.symm.trans (e.trans hk'))
  have := congrArg Fin.val this
  simp only at this
  apply Fin.ext
  omega

theorem nth_zero_le (cand : Fin 384 → EReal) (c : Fin 384) : nth cand 0 ≤ cand c := Finset.inf_le (mem_univ c)

/-- A threshold below some candidate has a next one, which is a candidate. -/
theorem next_spec {cand : Fin 384 → EReal} {t : EReal} (h : ∃ c, t < cand c ∧ cand c ≠ ⊤) :
    ∃ c, next cand t = cand c ∧ t < cand c ∧ cand c ≠ ⊤ ∧ ∀ c', t < cand c' → next cand t ≤ cand c' := by
  have hle : ∀ c', t < cand c' → next cand t ≤ cand c' := by
    intro c' hc'
    refine le_trans (Finset.inf_le (mem_univ c')) ?_
    rw [if_pos hc']
  obtain ⟨c0, hc0, hc0'⟩ := h
  obtain ⟨c, -, hc⟩ := Finset.exists_mem_eq_inf (univ : Finset (Fin 384)) ⟨c0, mem_univ c0⟩
    (fun c => if t < cand c then cand c else ⊤)
  have hlt : next cand t ≠ ⊤ := fun e => hc0' (top_le_iff.mp (e ▸ hle c0 hc0))
  have hc2 : next cand t = if t < cand c then cand c else ⊤ := hc
  by_cases hct : t < cand c
  · rw [if_pos hct] at hc2
    exact ⟨c, hc2, hct, hc2 ▸ hlt, hle⟩
  · rw [if_neg hct] at hc2
    exact absurd hc2 hlt

/-- The thresholds up to number 127 are keys, number `n` has at least `n + 1` keys at or below it, and at most
    `n + 1` lanes start at or below it. -/
theorem nth_spec {key : Fin 8192 → EReal} {cand : Fin 384 → EReal} (hinj : Function.Injective key)
    (hfin : ∀ j, key j ≠ ⊤) (h : Candidates key cand) (n : ℕ) (hn : n < 128) :
    (∃ j, nth cand n = key j) ∧ n + 1 ≤ (atOrBelow key (nth cand n)).card
      ∧ (univ.filter fun l => first cand l ≤ nth cand n).card ≤ n + 1 := by
  have hF := first_injective hinj h
  have hone : ∀ t : EReal, (univ.filter fun l => first cand l = t).card ≤ 1 := by
    intro t
    refine Finset.card_le_one.mpr fun a ha b hb => hF ?_
    rw [(mem_filter.mp ha).2, (mem_filter.mp hb).2]
  induction n with
  | zero =>
    obtain ⟨c, -, hc⟩ := Finset.exists_mem_eq_inf (univ : Finset (Fin 384)) ⟨0, mem_univ 0⟩ cand
    have hc' : nth cand 0 = cand c := hc
    obtain ⟨k, hk⟩ := h.lane 0
    have hne : nth cand 0 ≠ ⊤ := fun e => hfin _ (top_le_iff.mp (e ▸ (hk ▸ nth_zero_le cand _)))
    obtain ⟨j, hj⟩ : ∃ j, nth cand 0 = key j := by
      rcases h.key_or_top c with e | ⟨j, e⟩
      · exact absurd (hc'.trans e) hne
      · exact ⟨j, hc'.trans e⟩
    refine ⟨⟨j, hj⟩, ?_, ?_⟩
    · exact Finset.card_pos.mpr ⟨j, mem_atOrBelow.mpr (le_of_eq hj.symm)⟩
    · refine le_trans (Finset.card_le_card fun l hl => ?_) (hone (nth cand 0))
      rw [mem_filter] at hl ⊢
      exact ⟨hl.1, le_antisymm hl.2 (nth_zero_le cand _)⟩
  | succ n ih =>
    obtain ⟨⟨j, hj⟩, h2, h3⟩ := ih (by omega)
    have hex : ∃ c, nth cand n < cand c ∧ cand c ≠ ⊤ := by
      by_contra hno
      push Not at hno
      have hall : (univ.filter fun l => first cand l ≤ nth cand n) = univ := by
        refine filter_true_of_mem fun l _ => ?_
        by_contra hl
        obtain ⟨k, hk⟩ := h.lane l
        exact hfin _ (hk ▸ hno ⟨l.val, by omega⟩ (not_le.mp hl))
      rw [hall, Finset.card_univ, Fintype.card_fin] at h3
      omega
    obtain ⟨c, hc, hlt, hnt, hle⟩ := next_spec hex
    have hc' : nth cand (n + 1) = cand c := hc
    obtain ⟨j', hj'⟩ : ∃ j, nth cand (n + 1) = key j := by
      rcases h.key_or_top c with e | ⟨j, e⟩
      · exact absurd e hnt
      · exact ⟨j, hc'.trans e⟩
    have hlt' : nth cand n < nth cand (n + 1) := hc' ▸ hlt
    refine ⟨⟨j', hj'⟩, ?_, ?_⟩
    · have hnot : j' ∉ atOrBelow key (nth cand n) := by
        rw [mem_atOrBelow, ← hj']; exact not_le.mpr hlt'
      have hsub : insert j' (atOrBelow key (nth cand n)) ⊆ atOrBelow key (nth cand (n + 1)) := by
        intro x hx
        rcases mem_insert.mp hx with rfl | hx
        · exact mem_atOrBelow.mpr (le_of_eq hj'.symm)
        · exact mem_atOrBelow.mpr (le_trans (mem_atOrBelow.mp hx) hlt'.le)
      have := Finset.card_le_card hsub
      rw [Finset.card_insert_of_notMem hnot] at this
      omega
    · have hsub : (univ.filter fun l => first cand l ≤ nth cand (n + 1))
          ⊆ (univ.filter fun l => first cand l ≤ nth cand n) ∪ (univ.filter fun l => first cand l = nth cand (n + 1)) := by
        intro l hl
        rw [mem_filter] at hl
        rw [mem_union, mem_filter, mem_filter]
        rcases le_or_gt (first cand l) (nth cand n) with h' | h'
        · exact Or.inl ⟨mem_univ _, h'⟩
        · exact Or.inr ⟨mem_univ _, le_antisymm hl.2 (hle _ h')⟩
      have := Finset.card_le_card hsub
      have := Finset.card_union_le (univ.filter fun l => first cand l ≤ nth cand n) (univ.filter fun l => first cand l = nth cand (n + 1))
      have := hone (nth cand (n + 1))
      omega

/-- The greatest key below a threshold. -/
def prev (key : Fin 8192 → EReal) (t : EReal) : EReal := univ.sup fun j => if key j < t then key j else ⊥

/-- Stepping down from a key that is not the smallest leaves exactly one key fewer, and ends at a key again. -/
theorem prev_spec {key : Fin 8192 → EReal} (hinj : Function.Injective key) {t : EReal} (ht : ∃ j, t = key j)
    (hc : 2 ≤ (atOrBelow key t).card) :
    (∃ j, prev key t = key j) ∧ (atOrBelow key (prev key t)).card + 1 = (atOrBelow key t).card := by
  obtain ⟨j, hj⟩ := ht
  obtain ⟨i, hi, hij⟩ : ∃ i ∈ atOrBelow key t, i ≠ j := by
    by_contra hno
    push Not at hno
    have : (atOrBelow key t).card ≤ 1 := Finset.card_le_one.mpr fun a ha b hb => (hno a ha).trans (hno b hb).symm
    omega
  have hit : key i < t := lt_of_le_of_ne (mem_atOrBelow.mp hi) fun e => hij (hinj (e.trans hj))
  have hge : ∀ x, key x < t → key x ≤ prev key t := by
    intro x hx
    refine le_trans ?_ (Finset.le_sup (f := fun j => if key j < t then key j else ⊥) (mem_univ x))
    simp only [if_pos hx, le_refl]
  obtain ⟨x, -, hx⟩ := Finset.exists_mem_eq_sup (univ : Finset (Fin 8192)) ⟨i, mem_univ i⟩
    (fun j => if key j < t then key j else ⊥)
  have hx' : prev key t = if key x < t then key x else ⊥ := hx
  have hp : ∃ x, prev key t = key x ∧ key x < t := by
    by_cases hxt : key x < t
    · rw [if_pos hxt] at hx'; exact ⟨x, hx', hxt⟩
    · rw [if_neg hxt] at hx'
      exact ⟨i, le_antisymm (hx' ▸ bot_le) (hge i hit), hit⟩
  obtain ⟨y, hy, hyt⟩ := hp
  refine ⟨⟨y, hy⟩, ?_⟩
  have hset : atOrBelow key (prev key t) = (atOrBelow key t).erase j := by
    ext z
    rw [mem_erase, mem_atOrBelow, mem_atOrBelow]
    constructor
    · intro hz
      have hzt : key z < t := lt_of_le_of_lt hz (hy ▸ hyt)
      exact ⟨fun e => absurd (hj ▸ e ▸ hzt) (lt_irrefl _), hzt.le⟩
    · rintro ⟨hzj, hzt⟩
      exact hge z (lt_of_le_of_ne hzt fun e => hzj (hinj (e.trans hj)))
  have hjm : j ∈ atOrBelow key t := mem_atOrBelow.mpr (le_of_eq hj.symm)
  rw [hset, Finset.card_erase_of_mem hjm]
  omega

/-- A threshold that is a key, with its count of at least fifteen. -/
def Held (key : Fin 8192 → EReal) (t : EReal) (c : ℕ) : Prop :=
  (∃ j, t = key j) ∧ c = (atOrBelow key t).card ∧ 15 ≤ c

/-- The loop's trip on a row keeps threshold and count together. -/
theorem Held.step {key : Fin 8192 → EReal} (hinj : Function.Injective key) {t : EReal} {c : ℕ} (h : Held key t c) :
    Held key (if 15 < c then prev key t else t) (if 15 < c then c - 1 else c) := by
  obtain ⟨h1, h2, h3⟩ := h
  by_cases hc : 15 < c
  · rw [if_pos hc, if_pos hc]
    obtain ⟨p1, p2⟩ := prev_spec hinj h1 (by omega)
    exact ⟨p1, by omega, by omega⟩
  · rw [if_neg hc, if_neg hc]
    exact ⟨h1, h2, h3⟩

/-- Two sets of as many elements, each lower than everything outside it, are the same set. -/
theorem lower_unique {key : Fin 8192 → EReal} {S T : Finset (Fin 8192)} (hcard : S.card = T.card)
    (hS : ∀ i ∈ S, ∀ j, j ∉ S → key i < key j) (hT : ∀ i ∈ T, ∀ j, j ∉ T → key i < key j) : S = T := by
  by_contra hne
  have hTS : ¬ T ⊆ S := fun h => hne (Finset.eq_of_subset_of_card_le h (le_of_eq hcard)).symm
  have hST : ¬ S ⊆ T := fun h => hne (Finset.eq_of_subset_of_card_le h (le_of_eq hcard.symm))
  obtain ⟨i, hi, hi'⟩ := Finset.not_subset.mp hTS
  obtain ⟨j, hj, hj'⟩ := Finset.not_subset.mp hST
  exact lt_asymm (hS j hj i hi') (hT i hi j hj')

/-- The keys at or below a threshold are lower than the others. -/
theorem atOrBelow_lower (key : Fin 8192 → EReal) (t : EReal) :
    ∀ i ∈ atOrBelow key t, ∀ j, j ∉ atOrBelow key t → key i < key j := by
  intro i hi j hj
  rw [mem_atOrBelow] at hi hj
  exact lt_of_le_of_lt hi (not_le.mp hj)

end Cert.Rows

end
-- ==== Proof.Ideal.Network.lean ====
module

public import proofs.«01_k».proof.Proof.Ideal.Lanes
public import proofs.«01_k».proof.Proof.Math.Rows

/-!
# The network of the three smallest keys per lane

Every value of the network comes from its row's keys; the smallest one of a lane comes from that lane.
`from_n` says so of the value that the `n`-th stretch of the body computes.
-/

@[expose] public section

noncomputable section

namespace Cert.KernelIdeal.Hand

open Idealize.ShloMosaic Cert.KernelIdeal Cert.KernelIdeal.Gen Cert.KernelIdeal.Facts

/-- Three vectors of lanes side by side are candidates. -/
theorem candidates_beside {K : FVec Ideal S256x8192 .f32} {a b c : FVec Ideal S256x128 .f32} (ha : FromLane K a) (hb : FromRow K b)
    (hc : FromRow K c) (r : Fin 256) :
    Cert.Rows.Candidates (fun j => K (ix2 (n0 := 256) (n1 := 8192) r j)) (fun n =>
      concatenate S256x384 1 [⟨S256x128, a⟩, ⟨S256x128, b⟩, ⟨S256x128, c⟩] concatenates_S256x128_S256x128_S256x128_S256x384_d1
        (ix2 (n0 := 256) (n1 := 384) r n)) where
  lane l := by
    obtain ⟨k, hk⟩ := ha r l
    exact ⟨k, by rw [beside, dif_pos l.isLt]; exact hk⟩
  key_or_top n := by
    rw [beside]
    split
    · exact ha.row r _
    · split
      · exact hb r _
      · exact hc r _

theorem from_74 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromLane (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay74 v12 v16 v45 v46 v47 v48 v49 v50 v51 v52 v53 v54 v55 v56 v57 v58 v59 v60 v61 v62 v63 v64 v65 v66 v67 v68 v69 v70 v71 v72 v73 v74 v75 v76 v77 v78 v79 v80 v107) := slice_lane (K := (k0_pay72 v12 v16 v45 v46 v47 v48 v49 v50 v51 v52 v53 v54 v55 v56 v57 v58 v59 v60 v61 v62 v63 v64 v65 v66 v67 v68 v69 v70 v71 v72 v73 v74 v75 v76 v77 v78 v79 v80 v107)) 0 0 slices_S256x8192_o0_0_S256x128 rfl

theorem from_75 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromRow (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay75 v12 v16 v45 v46 v47 v48 v49 v50 v51 v52 v53 v54 v55 v56 v57 v58 v59 v60 v61 v62 v63 v64 v65 v66 v67 v68 v69 v70 v71 v72 v73 v74 v75 v76 v77 v78 v79 v80 v107) := max_row (from_74 v12 v16 v45 v46 v47 v48 v49 v50 v51 v52 v53 v54 v55 v56 v57 v58 v59 v60 v61 v62 v63 v64 v65 v66 v67 v68 v69 v70 v71 v72 v73 v74 v75 v76 v77 v78 v79 v80 v107).row fill_row

theorem from_76 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromLane (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay76 v12 v16 v45 v46 v47 v48 v49 v50 v51 v52 v53 v54 v55 v56 v57 v58 v59 v60 v61 v62 v63 v64 v65 v66 v67 v68 v69 v70 v71 v72 v73 v74 v75 v76 v77 v78 v79 v80 v107) := min_fill_lane (from_74 v12 v16 v45 v46 v47 v48 v49 v50 v51 v52 v53 v54 v55 v56 v57 v58 v59 v60 v61 v62 v63 v64 v65 v66 v67 v68 v69 v70 v71 v72 v73 v74 v75 v76 v77 v78 v79 v80 v107)

theorem from_77 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromRow (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay77 v12 v16 v45 v46 v47 v48 v49 v50 v51 v52 v53 v54 v55 v56 v57 v58 v59 v60 v61 v62 v63 v64 v65 v66 v67 v68 v69 v70 v71 v72 v73 v74 v75 v76 v77 v78 v79 v80 v107) := min_row (from_75 v12 v16 v45 v46 v47 v48 v49 v50 v51 v52 v53 v54 v55 v56 v57 v58 v59 v60 v61 v62 v63 v64 v65 v66 v67 v68 v69 v70 v71 v72 v73 v74 v75 v76 v77 v78 v79 v80 v107) fill_row

theorem from_78 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromLane (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay78 v12 v16 v45 v46 v47 v48 v49 v50 v51 v52 v53 v54 v55 v56 v57 v58 v59 v60 v61 v62 v63 v64 v65 v66 v67 v68 v69 v70 v71 v72 v73 v74 v75 v76 v77 v78 v79 v80 v107) := slice_lane (K := (k0_pay72 v12 v16 v45 v46 v47 v48 v49 v50 v51 v52 v53 v54 v55 v56 v57 v58 v59 v60 v61 v62 v63 v64 v65 v66 v67 v68 v69 v70 v71 v72 v73 v74 v75 v76 v77 v78 v79 v80 v107)) 1 128 slices_S256x8192_o0_128_S256x128 rfl

theorem from_79 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromRow (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay79 v12 v16 v45 v46 v47 v48 v49 v50 v51 v52 v53 v54 v55 v56 v57 v58 v59 v60 v61 v62 v63 v64 v65 v66 v67 v68 v69 v70 v71 v72 v73 v74 v75 v76 v77 v78 v79 v80 v107) := max_row (from_78 v12 v16 v45 v46 v47 v48 v49 v50 v51 v52 v53 v54 v55 v56 v57 v58 v59 v60 v61 v62 v63 v64 v65 v66 v67 v68 v69 v70 v71 v72 v73 v74 v75 v76 v77 v78 v79 v80 v107).row (from_76 v12 v16 v45 v46 v47 v48 v49 v50 v51 v52 v53 v54 v55 v56 v57 v58 v59 v60 v61 v62 v63 v64 v65 v66 v67 v68 v69 v70 v71 v72 v73 v74 v75 v76 v77 v78 v79 v80 v107).row

theorem from_80 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromLane (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay80 v12 v16 v45 v46 v47 v48 v49 v50 v51 v52 v53 v54 v55 v56 v57 v58 v59 v60 v61 v62 v63 v64 v65 v66 v67 v68 v69 v70 v71 v72 v73 v74 v75 v76 v77 v78 v79 v80 v107) := min_lane (from_78 v12 v16 v45 v46 v47 v48 v49 v50 v51 v52 v53 v54 v55 v56 v57 v58 v59 v60 v61 v62 v63 v64 v65 v66 v67 v68 v69 v70 v71 v72 v73 v74 v75 v76 v77 v78 v79 v80 v107) (from_76 v12 v16 v45 v46 v47 v48 v49 v50 v51 v52 v53 v54 v55 v56 v57 v58 v59 v60 v61 v62 v63 v64 v65 v66 v67 v68 v69 v70 v71 v72 v73 v74 v75 v76 v77 v78 v79 v80 v107)

theorem from_81 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromRow (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay81 v12 v16 v45 v46 v47 v48 v49 v50 v51 v52 v53 v54 v55 v56 v57 v58 v59 v60 v61 v62 v63 v64 v65 v66 v67 v68 v69 v70 v71 v72 v73 v74 v75 v76 v77 v78 v79 v80 v107) := min_row (from_79 v12 v16 v45 v46 v47 v48 v49 v50 v51 v52 v53 v54 v55 v56 v57 v58 v59 v60 v61 v62 v63 v64 v65 v66 v67 v68 v69 v70 v71 v72 v73 v74 v75 v76 v77 v78 v79 v80 v107) (from_77 v12 v16 v45 v46 v47 v48 v49 v50 v51 v52 v53 v54 v55 v56 v57 v58 v59 v60 v61 v62 v63 v64 v65 v66 v67 v68 v69 v70 v71 v72 v73 v74 v75 v76 v77 v78 v79 v80 v107)

theorem from_82 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromRow (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay82 v12 v16 v45 v46 v47 v48 v49 v50 v51 v52 v53 v54 v55 v56 v57 v58 v59 v60 v61 v62 v63 v64 v65 v66 v67 v68 v69 v70 v71 v72 v73 v74 v75 v76 v77 v78 v79 v80 v107) := by
  have h153 := max_row (from_75 v12 v16 v45 v46 v47 v48 v49 v50 v51 v52 v53 v54 v55 v56 v57 v58 v59 v60 v61 v62 v63 v64 v65 v66 v67 v68 v69 v70 v71 v72 v73 v74 v75 v76 v77 v78 v79 v80 v107) fill_row
  have h155 := min_row h153 fill_row
  have h159 := max_row (from_79 v12 v16 v45 v46 v47 v48 v49 v50 v51 v52 v53 v54 v55 v56 v57 v58 v59 v60 v61 v62 v63 v64 v65 v66 v67 v68 v69 v70 v71 v72 v73 v74 v75 v76 v77 v78 v79 v80 v107) (from_77 v12 v16 v45 v46 v47 v48 v49 v50 v51 v52 v53 v54 v55 v56 v57 v58 v59 v60 v61 v62 v63 v64 v65 v66 v67 v68 v69 v70 v71 v72 v73 v74 v75 v76 v77 v78 v79 v80 v107)
  have h161 := min_row h159 h155
  exact h161

theorem from_83 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromLane (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay83 v12 v16 v45 v46 v47 v48 v49 v50 v51 v52 v53 v54 v55 v56 v57 v58 v59 v60 v61 v62 v63 v64 v65 v66 v67 v68 v69 v70 v71 v72 v73 v74 v75 v76 v77 v78 v79 v80 v107) := slice_lane (K := (k0_pay72 v12 v16 v45 v46 v47 v48 v49 v50 v51 v52 v53 v54 v55 v56 v57 v58 v59 v60 v61 v62 v63 v64 v65 v66 v67 v68 v69 v70 v71 v72 v73 v74 v75 v76 v77 v78 v79 v80 v107)) 2 256 slices_S256x8192_o0_256_S256x128 rfl

theorem from_84 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromRow (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay84 v12 v16 v45 v46 v47 v48 v49 v50 v51 v52 v53 v54 v55 v56 v57 v58 v59 v60 v61 v62 v63 v64 v65 v66 v67 v68 v69 v70 v71 v72 v73 v74 v75 v76 v77 v78 v79 v80 v107) := max_row (from_83 v12 v16 v45 v46 v47 v48 v49 v50 v51 v52 v53 v54 v55 v56 v57 v58 v59 v60 v61 v62 v63 v64 v65 v66 v67 v68 v69 v70 v71 v72 v73 v74 v75 v76 v77 v78 v79 v80 v107).row (from_80 v12 v16 v45 v46 v47 v48 v49 v50 v51 v52 v53 v54 v55 v56 v57 v58 v59 v60 v61 v62 v63 v64 v65 v66 v67 v68 v69 v70 v71 v72 v73 v74 v75 v76 v77 v78 v79 v80 v107).row

theorem from_85 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromLane (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay85 v12 v16 v45 v46 v47 v48 v49 v50 v51 v52 v53 v54 v55 v56 v57 v58 v59 v60 v61 v62 v63 v64 v65 v66 v67 v68 v69 v70 v71 v72 v73 v74 v75 v76 v77 v78 v79 v80 v107) := min_lane (from_83 v12 v16 v45 v46 v47 v48 v49 v50 v51 v52 v53 v54 v55 v56 v57 v58 v59 v60 v61 v62 v63 v64 v65 v66 v67 v68 v69 v70 v71 v72 v73 v74 v75 v76 v77 v78 v79 v80 v107) (from_80 v12 v16 v45 v46 v47 v48 v49 v50 v51 v52 v53 v54 v55 v56 v57 v58 v59 v60 v61 v62 v63 v64 v65 v66 v67 v68 v69 v70 v71 v72 v73 v74 v75 v76 v77 v78 v79 v80 v107)

theorem from_86 (v12 v16 : FVec Ideal S256x8192 .f32) (v45 v46 v47 v48 v49 v50 v51 v52 v53 v54 v55 v56 v57 v58 v59 v60 v61 v62 v63 v64 v65 v66 v67 v68 v69 v70 v71 v72 v73 v74 v75 v76 v77 v78 v79 v80 v107 : FVec Ideal S256x128 .f32) :
    FromRow (k0_pay72 v12 v16 v45 v46 v47 v48 v49 v50 v51 v52 v53 v54 v55 v56 v57 v58 v59 v60 v61 v62 v63 v64 v65 v66 v67 v68 v69 v70 v71 v72 v73 v74 v75 v76 v77 v78 v79 v80 v107) (k0_pay86 v12 v16 v45 v46 v47 v48 v49 v50 v51 v52 v53 v54 v55 v56 v57 v58 v59 v60 v61 v62 v63 v64 v65 v66 v67 v68 v69 v70 v71 v72 v73 v74 v75 v76 v77 v78 v79 v80 v107) := max_row (from_84 v12 v16 v45 v46 v47 v48 v49 v50 v51 v52 v53 v54 v55 v56 v57 v58 v59 v60 v61 v62 v63 v64 v65 v66 v67 v68 v69 v70 v71 v72 v73 v74 v75 v76 v77 v78 v79 v80 v107) (from_81 v12 v16 v45 v46 v47 v48 v49 v50 v51 v52 v53 v54 v55 v56 v57 v58 v59 v60 v61 v62 v63 v64 v65 v66 v67 v68 v69 v70 v71 v72 v73 v74 v75 v76 v77 v78 v79 v80 v107)

theorem from_87 {v160 v163 : FVec Ideal S256x128 .f32} (v148 : FVec Ideal S256x8192 .f32) (h160 : FromRow v148 v160) (h163 : FromRow v148 v163) :
    FromRow v148 (k0_pay87 v160 v163) := min_row h163 h160

theorem from_88 (v148 : FVec Ideal S256x8192 .f32) :
    FromLane v148 (k0_pay88 v148) := slice_lane (K := v148) 3 384 slices_S256x8192_o0_384_S256x128 rfl

theorem from_89 {v164 : FVec Ideal S256x128 .f32} (v148 : FVec Ideal S256x8192 .f32) (h164 : FromLane v148 v164) :
    FromRow v148 (k0_pay89 v148 v164) := max_row (from_88 v148).row (h164).row

theorem from_90 {v164 : FVec Ideal S256x128 .f32} (v148 : FVec Ideal S256x8192 .f32) (h164 : FromLane v148 v164) :
    FromLane v148 (k0_pay90 v148 v164) := min_lane (from_88 v148) h164

theorem from_91 {v160 v163 v164 : FVec Ideal S256x128 .f32} (v148 : FVec Ideal S256x8192 .f32) (h160 : FromRow v148 v160) (h163 : FromRow v148 v163) (h164 : FromLane v148 v164) :
    FromRow v148 (k0_pay91 v148 v160 v163 v164) := min_row (from_89 v148 h164) (from_87 v148 h160 h163)

theorem from_92 (v148 : FVec Ideal S256x8192 .f32) :
    FromLane v148 (k0_pay92 v148) := slice_lane (K := v148) 4 512 slices_S256x8192_o0_512_S256x128 rfl

theorem from_93 {v164 : FVec Ideal S256x128 .f32} (v148 : FVec Ideal S256x8192 .f32) (h164 : FromLane v148 v164) :
    FromRow v148 (k0_pay93 v148 v164) := max_row (from_92 v148).row (from_90 v148 h164).row

theorem from_94 {v164 : FVec Ideal S256x128 .f32} (v148 : FVec Ideal S256x8192 .f32) (h164 : FromLane v148 v164) :
    FromLane v148 (k0_pay94 v148 v164) := min_lane (from_92 v148) (from_90 v148 h164)

theorem from_95 {v160 v163 v164 : FVec Ideal S256x128 .f32} (v148 : FVec Ideal S256x8192 .f32) (h160 : FromRow v148 v160) (h163 : FromRow v148 v163) (h164 : FromLane v148 v164) :
    FromRow v148 (k0_pay95 v148 v160 v163 v164) := min_row (from_93 v148 h164) (from_91 v148 h160 h163 h164)

theorem from_96 (v148 : FVec Ideal S256x8192 .f32) :
    FromLane v148 (k0_pay96 v148) := slice_lane (K := v148) 5 640 slices_S256x8192_o0_640_S256x128 rfl

theorem from_97 {v164 : FVec Ideal S256x128 .f32} (v148 : FVec Ideal S256x8192 .f32) (h164 : FromLane v148 v164) :
    FromRow v148 (k0_pay97 v148 v164) := max_row (from_96 v148).row (from_94 v148 h164).row

theorem from_98 {v164 : FVec Ideal S256x128 .f32} (v148 : FVec Ideal S256x8192 .f32) (h164 : FromLane v148 v164) :
    FromLane v148 (k0_pay98 v148 v164) := min_lane (from_96 v148) (from_94 v148 h164)

theorem from_99 {v160 v163 v164 : FVec Ideal S256x128 .f32} (v148 : FVec Ideal S256x8192 .f32) (h160 : FromRow v148 v160) (h163 : FromRow v148 v163) (h164 : FromLane v148 v164) :
    FromRow v148 (k0_pay99 v148 v160 v163 v164) := min_row (from_97 v148 h164) (from_95 v148 h160 h163 h164)

theorem from_100 (v148 : FVec Ideal S256x8192 .f32) :
    FromLane v148 (k0_pay100 v148) := slice_lane (K := v148) 6 768 slices_S256x8192_o0_768_S256x128 rfl

theorem from_101 {v164 : FVec Ideal S256x128 .f32} (v148 : FVec Ideal S256x8192 .f32) (h164 : FromLane v148 v164) :
    FromRow v148 (k0_pay101 v148 v164) := max_row (from_100 v148).row (from_98 v148 h164).row

theorem from_102 {v164 : FVec Ideal S256x128 .f32} (v148 : FVec Ideal S256x8192 .f32) (h164 : FromLane v148 v164) :
    FromLane v148 (k0_pay102 v148 v164) := min_lane (from_100 v148) (from_98 v148 h164)

theorem from_103 {v160 v163 v164 : FVec Ideal S256x128 .f32} (v148 : FVec Ideal S256x8192 .f32) (h160 : FromRow v148 v160) (h163 : FromRow v148 v163) (h164 : FromLane v148 v164) :
    FromRow v148 (k0_pay103 v148 v160 v163 v164) := min_row (from_101 v148 h164) (from_99 v148 h160 h163 h164)

theorem from_104 (v148 : FVec Ideal S256x8192 .f32) :
    FromLane v148 (k0_pay104 v148) := slice_lane (K := v148) 7 896 slices_S256x8192_o0_896_S256x128 rfl

theorem from_105 {v164 : FVec Ideal S256x128 .f32} (v148 : FVec Ideal S256x8192 .f32) (h164 : FromLane v148 v164) :
    FromRow v148 (k0_pay105 v148 v164) := max_row (from_104 v148).row (from_102 v148 h164).row

theorem from_106 {v164 : FVec Ideal S256x128 .f32} (v148 : FVec Ideal S256x8192 .f32) (h164 : FromLane v148 v164) :
    FromLane v148 (k0_pay106 v148 v164) := min_lane (from_104 v148) (from_102 v148 h164)

theorem from_107 {v160 v163 v164 : FVec Ideal S256x128 .f32} (v148 : FVec Ideal S256x8192 .f32) (h160 : FromRow v148 v160) (h163 : FromRow v148 v163) (h164 : FromLane v148 v164) :
    FromRow v148 (k0_pay107 v148 v160 v163 v164) := min_row (from_105 v148 h164) (from_103 v148 h160 h163 h164)

theorem from_108 (v148 : FVec Ideal S256x8192 .f32) :
    FromLane v148 (k0_pay108 v148) := slice_lane (K := v148) 8 1024 slices_S256x8192_o0_1024_S256x128 rfl

theorem from_109 {v164 : FVec Ideal S256x128 .f32} (v148 : FVec Ideal S256x8192 .f32) (h164 : FromLane v148 v164) :
    FromRow v148 (k0_pay109 v148 v164) := max_row (from_108 v148).row (from_106 v148 h164).row

theorem from_110 {v164 : FVec Ideal S256x128 .f32} (v148 : FVec Ideal S256x8192 .f32) (h164 : FromLane v148 v164) :
    FromLane v148 (k0_pay110 v148 v164) := min_lane (from_108 v148) (from_106 v148 h164)

theorem from_111 {v160 v163 v164 : FVec Ideal S256x128 .f32} (v148 : FVec Ideal S256x8192 .f32) (h160 : FromRow v148 v160) (h163 : FromRow v148 v163) (h164 : FromLane v148 v164) :
    FromRow v148 (k0_pay111 v148 v160 v163 v164) := min_row (from_109 v148 h164) (from_107 v148 h160 h163 h164)

theorem from_112 (v148 : FVec Ideal S256x8192 .f32) :
    FromLane v148 (k0_pay112 v148) := slice_lane (K := v148) 9 1152 slices_S256x8192_o0_1152_S256x128 rfl

theorem from_113 {v164 : FVec Ideal S256x128 .f32} (v148 : FVec Ideal S256x8192 .f32) (h164 : FromLane v148 v164) :
    FromRow v148 (k0_pay113 v148 v164) := max_row (from_112 v148).row (from_110 v148 h164).row

theorem from_114 {v164 : FVec Ideal S256x128 .f32} (v148 : FVec Ideal S256x8192 .f32) (h164 : FromLane v148 v164) :
    FromLane v148 (k0_pay114 v148 v164) := min_lane (from_112 v148) (from_110 v148 h164)

theorem from_115 {v160 v163 v164 : FVec Ideal S256x128 .f32} (v148 : FVec Ideal S256x8192 .f32) (h160 : FromRow v148 v160) (h163 : FromRow v148 v163) (h164 : FromLane v148 v164) :
    FromRow v148 (k0_pay115 v148 v160 v163 v164) := min_row (from_113 v148 h164) (from_111 v148 h160 h163 h164)

theorem from_116 (v148 : FVec Ideal S256x8192 .f32) :
    FromLane v148 (k0_pay116 v148) := slice_lane (K := v148) 10 1280 slices_S256x8192_o0_1280_S256x128 rfl

theorem from_117 {v164 : FVec Ideal S256x128 .f32} (v148 : FVec Ideal S256x8192 .f32) (h164 : FromLane v148 v164) :
    FromRow v148 (k0_pay117 v148 v164) := max_row (from_116 v148).row (from_114 v148 h164).row

theorem from_118 {v164 : FVec Ideal S256x128 .f32} (v148 : FVec Ideal S256x8192 .f32) (h164 : FromLane v148 v164) :
    FromLane v148 (k0_pay118 v148 v164) := min_lane (from_116 v148) (from_114 v148 h164)

theorem from_119 {v160 v163 v164 : FVec Ideal S256x128 .f32} (v148 : FVec Ideal S256x8192 .f32) (h160 : FromRow v148 v160) (h163 : FromRow v148 v163) (h164 : FromLane v148 v164) :
    FromRow v148 (k0_pay119 v148 v160 v163 v164) := min_row (from_117 v148 h164) (from_115 v148 h160 h163 h164)

theorem from_120 (v148 : FVec Ideal S256x8192 .f32) :
    FromLane v148 (k0_pay120 v148) := slice_lane (K := v148) 11 1408 slices_S256x8192_o0_1408_S256x128 rfl

theorem from_121 {v164 : FVec Ideal S256x128 .f32} (v148 : FVec Ideal S256x8192 .f32) (h164 : FromLane v148 v164) :
    FromRow v148 (k0_pay121 v148 v164) := max_row (from_120 v148).row (from_118 v148 h164).row

theorem from_122 {v164 : FVec Ideal S256x128 .f32} (v148 : FVec Ideal S256x8192 .f32) (h164 : FromLane v148 v164) :
    FromLane v148 (k0_pay122 v148 v164) := min_lane (from_120 v148) (from_118 v148 h164)

theorem from_123 {v160 v163 v164 : FVec Ideal S256x128 .f32} (v148 : FVec Ideal S256x8192 .f32) (h160 : FromRow v148 v160) (h163 : FromRow v148 v163) (h164 : FromLane v148 v164) :
    FromRow v148 (k0_pay123 v148 v160 v163 v164) := min_row (from_121 v148 h164) (from_119 v148 h160 h163 h164)

theorem from_124 {v160 v161 v163 v164 v165 : FVec Ideal S256x128 .f32} (v148 : FVec Ideal S256x8192 .f32) (h160 : FromRow v148 v160) (h161 : FromRow v148 v161) (h163 : FromRow v148 v163) (h164 : FromLane v148 v164) (h165 : FromRow v148 v165) :
    FromRow v148 (k0_pay124 v148 v160 v161 v163 v164 v165) := by
  have h167 := min_row h165 h161
  have h171 := max_row (from_89 v148 h164) (from_87 v148 h160 h163)
  have h173 := min_row h171 h167
  have h177 := max_row (from_93 v148 h164) (from_91 v148 h160 h163 h164)
  have h179 := min_row h177 h173
  have h183 := max_row (from_97 v148 h164) (from_95 v148 h160 h163 h164)
  have h185 := min_row h183 h179
  have h189 := max_row (from_101 v148 h164) (from_99 v148 h160 h163 h164)
  have h191 := min_row h189 h185
  have h195 := max_row (from_105 v148 h164) (from_103 v148 h160 h163 h164)
  have h197 := min_row h195 h191
  have h201 := max_row (from_109 v148 h164) (from_107 v148 h160 h163 h164)
  have h203 := min_row h201 h197
  have h207 := max_row (from_113 v148 h164) (from_111 v148 h160 h163 h164)
  have h209 := min_row h207 h203
  have h213 := max_row (from_117 v148 h164) (from_115 v148 h160 h163 h164)
  have h215 := min_row h213 h209
  have h219 := max_row (from_121 v148 h164) (from_119 v148 h160 h163 h164)
  have h221 := min_row h219 h215
  exact h221

theorem from_125 (v148 : FVec Ideal S256x8192 .f32) :
    FromLane v148 (k0_pay125 v148) := slice_lane (K := v148) 12 1536 slices_S256x8192_o0_1536_S256x128 rfl

theorem from_126 {v164 : FVec Ideal S256x128 .f32} (v148 : FVec Ideal S256x8192 .f32) (h164 : FromLane v148 v164) :
    FromRow v148 (k0_pay126 v148 v164) := max_row (from_125 v148).row (from_122 v148 h164).row

theorem from_127 {v164 : FVec Ideal S256x128 .f32} (v148 : FVec Ideal S256x8192 .f32) (h164 : FromLane v148 v164) :
    FromLane v148 (k0_pay127 v148 v164) := min_lane (from_125 v148) (from_122 v148 h164)

theorem from_128 {v160 v163 v164 : FVec Ideal S256x128 .f32} (v148 : FVec Ideal S256x8192 .f32) (h160 : FromRow v148 v160) (h163 : FromRow v148 v163) (h164 : FromLane v148 v164) :
    FromRow v148 (k0_pay128 v148 v160 v163 v164) := max_row (from_126 v148 h164) (from_123 v148 h160 h163 h164)

theorem from_129 {v220 v223 : FVec Ideal S256x128 .f32} (v148 : FVec Ideal S256x8192 .f32) (h220 : FromRow v148 v220) (h223 : FromRow v148 v223) :
    FromRow v148 (k0_pay129 v220 v223) := min_row h223 h220

theorem from_130 (v148 : FVec Ideal S256x8192 .f32) :
    FromLane v148 (k0_pay130 v148) := slice_lane (K := v148) 13 1664 slices_S256x8192_o0_1664_S256x128 rfl

theorem from_131 {v224 : FVec Ideal S256x128 .f32} (v148 : FVec Ideal S256x8192 .f32) (h224 : FromLane v148 v224) :
    FromRow v148 (k0_pay131 v148 v224) := max_row (from_130 v148).row (h224).row

theorem from_132 {v224 : FVec Ideal S256x128 .f32} (v148 : FVec Ideal S256x8192 .f32) (h224 : FromLane v148 v224) :
    FromLane v148 (k0_pay132 v148 v224) := min_lane (from_130 v148) h224

theorem from_133 {v220 v223 v224 : FVec Ideal S256x128 .f32} (v148 : FVec Ideal S256x8192 .f32) (h220 : FromRow v148 v220) (h223 : FromRow v148 v223) (h224 : FromLane v148 v224) :
    FromRow v148 (k0_pay133 v148 v220 v223 v224) := min_row (from_131 v148 h224) (from_129 v148 h220 h223)

theorem from_134 (v148 : FVec Ideal S256x8192 .f32) :
    FromLane v148 (k0_pay134 v148) := slice_lane (K := v148) 14 1792 slices_S256x8192_o0_1792_S256x128 rfl

theorem from_135 {v224 : FVec Ideal S256x128 .f32} (v148 : FVec Ideal S256x8192 .f32) (h224 : FromLane v148 v224) :
    FromRow v148 (k0_pay135 v148 v224) := max_row (from_134 v148).row (from_132 v148 h224).row

theorem from_136 {v224 : FVec Ideal S256x128 .f32} (v148 : FVec Ideal S256x8192 .f32) (h224 : FromLane v148 v224) :
    FromLane v148 (k0_pay136 v148 v224) := min_lane (from_134 v148) (from_132 v148 h224)

theorem from_137 {v220 v223 v224 : FVec Ideal S256x128 .f32} (v148 : FVec Ideal S256x8192 .f32) (h220 : FromRow v148 v220) (h223 : FromRow v148 v223) (h224 : FromLane v148 v224) :
    FromRow v148 (k0_pay137 v148 v220 v223 v224) := min_row (from_135 v148 h224) (from_133 v148 h220 h223 h224)

theorem from_138 (v148 : FVec Ideal S256x8192 .f32) :
    FromLane v148 (k0_pay138 v148) := slice_lane (K := v148) 15 1920 slices_S256x8192_o0_1920_S256x128 rfl

theorem from_139 {v224 : FVec Ideal S256x128 .f32} (v148 : FVec Ideal S256x8192 .f32) (h224 : FromLane v148 v224) :
    FromRow v148 (k0_pay139 v148 v224) := max_row (from_138 v148).row (from_136 v148 h224).row

theorem from_140 {v224 : FVec Ideal S256x128 .f32} (v148 : FVec Ideal S256x8192 .f32) (h224 : FromLane v148 v224) :
    FromLane v148 (k0_pay140 v148 v224) := min_lane (from_138 v148) (from_136 v148 h224)

theorem from_141 {v220 v223 v224 : FVec Ideal S256x128 .f32} (v148 : FVec Ideal S256x8192 .f32) (h220 : FromRow v148 v220) (h223 : FromRow v148 v223) (h224 : FromLane v148 v224) :
    FromRow v148 (k0_pay141 v148 v220 v223 v224) := min_row (from_139 v148 h224) (from_137 v148 h220 h223 h224)

theorem from_142 (v148 : FVec Ideal S256x8192 .f32) :
    FromLane v148 (k0_pay142 v148) := slice_lane (K := v148) 16 2048 slices_S256x8192_o0_2048_S256x128 rfl

theorem from_143 {v224 : FVec Ideal S256x128 .f32} (v148 : FVec Ideal S256x8192 .f32) (h224 : FromLane v148 v224) :
    FromRow v148 (k0_pay143 v148 v224) := max_row (from_142 v148).row (from_140 v148 h224).row

theorem from_144 {v224 : FVec Ideal S256x128 .f32} (v148 : FVec Ideal S256x8192 .f32) (h224 : FromLane v148 v224) :
    FromLane v148 (k0_pay144 v148 v224) := min_lane (from_142 v148) (from_140 v148 h224)

theorem from_145 {v220 v223 v224 : FVec Ideal S256x128 .f32} (v148 : FVec Ideal S256x8192 .f32) (h220 : FromRow v148 v220) (h223 : FromRow v148 v223) (h224 : FromLane v148 v224) :
    FromRow v148 (k0_pay145 v148 v220 v223 v224) := min_row (from_143 v148 h224) (from_141 v148 h220 h223 h224)

theorem from_146 (v148 : FVec Ideal S256x8192 .f32) :
    FromLane v148 (k0_pay146 v148) := slice_lane (K := v148) 17 2176 slices_S256x8192_o0_2176_S256x128 rfl

theorem from_147 {v224 : FVec Ideal S256x128 .f32} (v148 : FVec Ideal S256x8192 .f32) (h224 : FromLane v148 v224) :
    FromRow v148 (k0_pay147 v148 v224) := max_row (from_146 v148).row (from_144 v148 h224).row

theorem from_148 {v224 : FVec Ideal S256x128 .f32} (v148 : FVec Ideal S256x8192 .f32) (h224 : FromLane v148 v224) :
    FromLane v148 (k0_pay148 v148 v224) := min_lane (from_146 v148) (from_144 v148 h224)

theorem from_149 {v220 v223 v224 : FVec Ideal S256x128 .f32} (v148 : FVec Ideal S256x8192 .f32) (h220 : FromRow v148 v220) (h223 : FromRow v148 v223) (h224 : FromLane v148 v224) :
    FromRow v148 (k0_pay149 v148 v220 v223 v224) := min_row (from_147 v148 h224) (from_145 v148 h220 h223 h224)

theorem from_150 (v148 : FVec Ideal S256x8192 .f32) :
    FromLane v148 (k0_pay150 v148) := slice_lane (K := v148) 18 2304 slices_S256x8192_o0_2304_S256x128 rfl

theorem from_151 {v224 : FVec Ideal S256x128 .f32} (v148 : FVec Ideal S256x8192 .f32) (h224 : FromLane v148 v224) :
    FromRow v148 (k0_pay151 v148 v224) := max_row (from_150 v148).row (from_148 v148 h224).row

theorem from_152 {v224 : FVec Ideal S256x128 .f32} (v148 : FVec Ideal S256x8192 .f32) (h224 : FromLane v148 v224) :
    FromLane v148 (k0_pay152 v148 v224) := min_lane (from_150 v148) (from_148 v148 h224)

theorem from_153 {v220 v223 v224 : FVec Ideal S256x128 .f32} (v148 : FVec Ideal S256x8192 .f32) (h220 : FromRow v148 v220) (h223 : FromRow v148 v223) (h224 : FromLane v148 v224) :
    FromRow v148 (k0_pay153 v148 v220 v223 v224) := min_row (from_151 v148 h224) (from_149 v148 h220 h223 h224)

theorem from_154 (v148 : FVec Ideal S256x8192 .f32) :
    FromLane v148 (k0_pay154 v148) := slice_lane (K := v148) 19 2432 slices_S256x8192_o0_2432_S256x128 rfl

theorem from_155 {v224 : FVec Ideal S256x128 .f32} (v148 : FVec Ideal S256x8192 .f32) (h224 : FromLane v148 v224) :
    FromRow v148 (k0_pay155 v148 v224) := max_row (from_154 v148).row (from_152 v148 h224).row

theorem from_156 {v224 : FVec Ideal S256x128 .f32} (v148 : FVec Ideal S256x8192 .f32) (h224 : FromLane v148 v224) :
    FromLane v148 (k0_pay156 v148 v224) := min_lane (from_154 v148) (from_152 v148 h224)

theorem from_157 {v220 v223 v224 : FVec Ideal S256x128 .f32} (v148 : FVec Ideal S256x8192 .f32) (h220 : FromRow v148 v220) (h223 : FromRow v148 v223) (h224 : FromLane v148 v224) :
    FromRow v148 (k0_pay157 v148 v220 v223 v224) := min_row (from_155 v148 h224) (from_153 v148 h220 h223 h224)

theorem from_158 (v148 : FVec Ideal S256x8192 .f32) :
    FromLane v148 (k0_pay158 v148) := slice_lane (K := v148) 20 2560 slices_S256x8192_o0_2560_S256x128 rfl

theorem from_159 {v224 : FVec Ideal S256x128 .f32} (v148 : FVec Ideal S256x8192 .f32) (h224 : FromLane v148 v224) :
    FromRow v148 (k0_pay159 v148 v224) := max_row (from_158 v148).row (from_156 v148 h224).row

theorem from_160 {v224 : FVec Ideal S256x128 .f32} (v148 : FVec Ideal S256x8192 .f32) (h224 : FromLane v148 v224) :
    FromLane v148 (k0_pay160 v148 v224) := min_lane (from_158 v148) (from_156 v148 h224)

theorem from_161 {v220 v223 v224 : FVec Ideal S256x128 .f32} (v148 : FVec Ideal S256x8192 .f32) (h220 : FromRow v148 v220) (h223 : FromRow v148 v223) (h224 : FromLane v148 v224) :
    FromRow v148 (k0_pay161 v148 v220 v223 v224) := min_row (from_159 v148 h224) (from_157 v148 h220 h223 h224)

theorem from_162 (v148 : FVec Ideal S256x8192 .f32) :
    FromLane v148 (k0_pay162 v148) := slice_lane (K := v148) 21 2688 slices_S256x8192_o0_2688_S256x128 rfl

theorem from_163 {v224 : FVec Ideal S256x128 .f32} (v148 : FVec Ideal S256x8192 .f32) (h224 : FromLane v148 v224) :
    FromRow v148 (k0_pay163 v148 v224) := max_row (from_162 v148).row (from_160 v148 h224).row

theorem from_164 {v224 : FVec Ideal S256x128 .f32} (v148 : FVec Ideal S256x8192 .f32) (h224 : FromLane v148 v224) :
    FromLane v148 (k0_pay164 v148 v224) := min_lane (from_162 v148) (from_160 v148 h224)

theorem from_165 {v220 v223 v224 : FVec Ideal S256x128 .f32} (v148 : FVec Ideal S256x8192 .f32) (h220 : FromRow v148 v220) (h223 : FromRow v148 v223) (h224 : FromLane v148 v224) :
    FromRow v148 (k0_pay165 v148 v220 v223 v224) := min_row (from_163 v148 h224) (from_161 v148 h220 h223 h224)

theorem from_166 {v220 v221 v223 v224 v225 : FVec Ideal S256x128 .f32} (v148 : FVec Ideal S256x8192 .f32) (h220 : FromRow v148 v220) (h221 : FromRow v148 v221) (h223 : FromRow v148 v223) (h224 : FromLane v148 v224) (h225 : FromRow v148 v225) :
    FromRow v148 (k0_pay166 v148 v220 v221 v223 v224 v225) := by
  have h227 := min_row h225 h221
  have h231 := max_row (from_131 v148 h224) (from_129 v148 h220 h223)
  have h233 := min_row h231 h227
  have h237 := max_row (from_135 v148 h224) (from_133 v148 h220 h223 h224)
  have h239 := min_row h237 h233
  have h243 := max_row (from_139 v148 h224) (from_137 v148 h220 h223 h224)
  have h245 := min_row h243 h239
  have h249 := max_row (from_143 v148 h224) (from_141 v148 h220 h223 h224)
  have h251 := min_row h249 h245
  have h255 := max_row (from_147 v148 h224) (from_145 v148 h220 h223 h224)
  have h257 := min_row h255 h251
  have h261 := max_row (from_151 v148 h224) (from_149 v148 h220 h223 h224)
  have h263 := min_row h261 h257
  have h267 := max_row (from_155 v148 h224) (from_153 v148 h220 h223 h224)
  have h269 := min_row h267 h263
  have h273 := max_row (from_159 v148 h224) (from_157 v148 h220 h223 h224)
  have h275 := min_row h273 h269
  have h279 := max_row (from_163 v148 h224) (from_161 v148 h220 h223 h224)
  have h281 := min_row h279 h275
  exact h281

theorem from_167 (v148 : FVec Ideal S256x8192 .f32) :
    FromLane v148 (k0_pay167 v148) := slice_lane (K := v148) 22 2816 slices_S256x8192_o0_2816_S256x128 rfl

theorem from_168 {v224 : FVec Ideal S256x128 .f32} (v148 : FVec Ideal S256x8192 .f32) (h224 : FromLane v148 v224) :
    FromRow v148 (k0_pay168 v148 v224) := max_row (from_167 v148).row (from_164 v148 h224).row

theorem from_169 {v224 : FVec Ideal S256x128 .f32} (v148 : FVec Ideal S256x8192 .f32) (h224 : FromLane v148 v224) :
    FromLane v148 (k0_pay169 v148 v224) := min_lane (from_167 v148) (from_164 v148 h224)

theorem from_170 {v220 v223 v224 : FVec Ideal S256x128 .f32} (v148 : FVec Ideal S256x8192 .f32) (h220 : FromRow v148 v220) (h223 : FromRow v148 v223) (h224 : FromLane v148 v224) :
    FromRow v148 (k0_pay170 v148 v220 v223 v224) := max_row (from_168 v148 h224) (from_165 v148 h220 h223 h224)

theorem from_171 {v280 v283 : FVec Ideal S256x128 .f32} (v148 : FVec Ideal S256x8192 .f32) (h280 : FromRow v148 v280) (h283 : FromRow v148 v283) :
    FromRow v148 (k0_pay171 v280 v283) := min_row h283 h280

theorem from_172 (v148 : FVec Ideal S256x8192 .f32) :
    FromLane v148 (k0_pay172 v148) := slice_lane (K := v148) 23 2944 slices_S256x8192_o0_2944_S256x128 rfl

theorem from_173 {v284 : FVec Ideal S256x128 .f32} (v148 : FVec Ideal S256x8192 .f32) (h284 : FromLane v148 v284) :
    FromRow v148 (k0_pay173 v148 v284) := max_row (from_172 v148).row (h284).row

theorem from_174 {v284 : FVec Ideal S256x128 .f32} (v148 : FVec Ideal S256x8192 .f32) (h284 : FromLane v148 v284) :
    FromLane v148 (k0_pay174 v148 v284) := min_lane (from_172 v148) h284

theorem from_175 {v280 v283 v284 : FVec Ideal S256x128 .f32} (v148 : FVec Ideal S256x8192 .f32) (h280 : FromRow v148 v280) (h283 : FromRow v148 v283) (h284 : FromLane v148 v284) :
    FromRow v148 (k0_pay175 v148 v280 v283 v284) := min_row (from_173 v148 h284) (from_171 v148 h280 h283)

theorem from_176 (v148 : FVec Ideal S256x8192 .f32) :
    FromLane v148 (k0_pay176 v148) := slice_lane (K := v148) 24 3072 slices_S256x8192_o0_3072_S256x128 rfl

theorem from_177 {v284 : FVec Ideal S256x128 .f32} (v148 : FVec Ideal S256x8192 .f32) (h284 : FromLane v148 v284) :
    FromRow v148 (k0_pay177 v148 v284) := max_row (from_176 v148).row (from_174 v148 h284).row

theorem from_178 {v284 : FVec Ideal S256x128 .f32} (v148 : FVec Ideal S256x8192 .f32) (h284 : FromLane v148 v284) :
    FromLane v148 (k0_pay178 v148 v284) := min_lane (from_176 v148) (from_174 v148 h284)

theorem from_179 {v280 v283 v284 : FVec Ideal S256x128 .f32} (v148 : FVec Ideal S256x8192 .f32) (h280 : FromRow v148 v280) (h283 : FromRow v148 v283) (h284 : FromLane v148 v284) :
    FromRow v148 (k0_pay179 v148 v280 v283 v284) := min_row (from_177 v148 h284) (from_175 v148 h280 h283 h284)

theorem from_180 (v148 : FVec Ideal S256x8192 .f32) :
    FromLane v148 (k0_pay180 v148) := slice_lane (K := v148) 25 3200 slices_S256x8192_o0_3200_S256x128 rfl

theorem from_181 {v284 : FVec Ideal S256x128 .f32} (v148 : FVec Ideal S256x8192 .f32) (h284 : FromLane v148 v284) :
    FromRow v148 (k0_pay181 v148 v284) := max_row (from_180 v148).row (from_178 v148 h284).row

theorem from_182 {v284 : FVec Ideal S256x128 .f32} (v148 : FVec Ideal S256x8192 .f32) (h284 : FromLane v148 v284) :
    FromLane v148 (k0_pay182 v148 v284) := min_lane (from_180 v148) (from_178 v148 h284)

theorem from_183 {v280 v283 v284 : FVec Ideal S256x128 .f32} (v148 : FVec Ideal S256x8192 .f32) (h280 : FromRow v148 v280) (h283 : FromRow v148 v283) (h284 : FromLane v148 v284) :
    FromRow v148 (k0_pay183 v148 v280 v283 v284) := min_row (from_181 v148 h284) (from_179 v148 h280 h283 h284)

theorem from_184 (v148 : FVec Ideal S256x8192 .f32) :
    FromLane v148 (k0_pay184 v148) := slice_lane (K := v148) 26 3328 slices_S256x8192_o0_3328_S256x128 rfl

theorem from_185 {v284 : FVec Ideal S256x128 .f32} (v148 : FVec Ideal S256x8192 .f32) (h284 : FromLane v148 v284) :
    FromRow v148 (k0_pay185 v148 v284) := max_row (from_184 v148).row (from_182 v148 h284).row

theorem from_186 {v284 : FVec Ideal S256x128 .f32} (v148 : FVec Ideal S256x8192 .f32) (h284 : FromLane v148 v284) :
    FromLane v148 (k0_pay186 v148 v284) := min_lane (from_184 v148) (from_182 v148 h284)

theorem from_187 {v280 v283 v284 : FVec Ideal S256x128 .f32} (v148 : FVec Ideal S256x8192 .f32) (h280 : FromRow v148 v280) (h283 : FromRow v148 v283) (h284 : FromLane v148 v284) :
    FromRow v148 (k0_pay187 v148 v280 v283 v284) := min_row (from_185 v148 h284) (from_183 v148 h280 h283 h284)

theorem from_188 (v148 : FVec Ideal S256x8192 .f32) :
    FromLane v148 (k0_pay188 v148) := slice_lane (K := v148) 27 3456 slices_S256x8192_o0_3456_S256x128 rfl

theorem from_189 {v284 : FVec Ideal S256x128 .f32} (v148 : FVec Ideal S256x8192 .f32) (h284 : FromLane v148 v284) :
    FromRow v148 (k0_pay189 v148 v284) := max_row (from_188 v148).row (from_186 v148 h284).row

theorem from_190 {v284 : FVec Ideal S256x128 .f32} (v148 : FVec Ideal S256x8192 .f32) (h284 : FromLane v148 v284) :
    FromLane v148 (k0_pay190 v148 v284) := min_lane (from_188 v148) (from_186 v148 h284)

theorem from_191 {v280 v283 v284 : FVec Ideal S256x128 .f32} (v148 : FVec Ideal S256x8192 .f32) (h280 : FromRow v148 v280) (h283 : FromRow v148 v283) (h284 : FromLane v148 v284) :
    FromRow v148 (k0_pay191 v148 v280 v283 v284) := min_row (from_189 v148 h284) (from_187 v148 h280 h283 h284)

theorem from_192 (v148 : FVec Ideal S256x8192 .f32) :
    FromLane v148 (k0_pay192 v148) := slice_lane (K := v148) 28 3584 slices_S256x8192_o0_3584_S256x128 rfl

theorem from_193 {v284 : FVec Ideal S256x128 .f32} (v148 : FVec Ideal S256x8192 .f32) (h284 : FromLane v148 v284) :
    FromRow v148 (k0_pay193 v148 v284) := max_row (from_192 v148).row (from_190 v148 h284).row

theorem from_194 {v284 : FVec Ideal S256x128 .f32} (v148 : FVec Ideal S256x8192 .f32) (h284 : FromLane v148 v284) :
    FromLane v148 (k0_pay194 v148 v284) := min_lane (from_192 v148) (from_190 v148 h284)

theorem from_195 {v280 v283 v284 : FVec Ideal S256x128 .f32} (v148 : FVec Ideal S256x8192 .f32) (h280 : FromRow v148 v280) (h283 : FromRow v148 v283) (h284 : FromLane v148 v284) :
    FromRow v148 (k0_pay195 v148 v280 v283 v284) := min_row (from_193 v148 h284) (from_191 v148 h280 h283 h284)

theorem from_196 (v148 : FVec Ideal S256x8192 .f32) :
    FromLane v148 (k0_pay196 v148) := slice_lane (K := v148) 29 3712 slices_S256x8192_o0_3712_S256x128 rfl

theorem from_197 {v284 : FVec Ideal S256x128 .f32} (v148 : FVec Ideal S256x8192 .f32) (h284 : FromLane v148 v284) :
    FromRow v148 (k0_pay197 v148 v284) := max_row (from_196 v148).row (from_194 v148 h284).row

theorem from_198 {v284 : FVec Ideal S256x128 .f32} (v148 : FVec Ideal S256x8192 .f32) (h284 : FromLane v148 v284) :
    FromLane v148 (k0_pay198 v148 v284) := min_lane (from_196 v148) (from_194 v148 h284)

theorem from_199 {v280 v283 v284 : FVec Ideal S256x128 .f32} (v148 : FVec Ideal S256x8192 .f32) (h280 : FromRow v148 v280) (h283 : FromRow v148 v283) (h284 : FromLane v148 v284) :
    FromRow v148 (k0_pay199 v148 v280 v283 v284) := min_row (from_197 v148 h284) (from_195 v148 h280 h283 h284)

theorem from_200 (v148 : FVec Ideal S256x8192 .f32) :
    FromLane v148 (k0_pay200 v148) := slice_lane (K := v148) 30 3840 slices_S256x8192_o0_3840_S256x128 rfl

theorem from_201 {v284 : FVec Ideal S256x128 .f32} (v148 : FVec Ideal S256x8192 .f32) (h284 : FromLane v148 v284) :
    FromRow v148 (k0_pay201 v148 v284) := max_row (from_200 v148).row (from_198 v148 h284).row

theorem from_202 {v284 : FVec Ideal S256x128 .f32} (v148 : FVec Ideal S256x8192 .f32) (h284 : FromLane v148 v284) :
    FromLane v148 (k0_pay202 v148 v284) := min_lane (from_200 v148) (from_198 v148 h284)

theorem from_203 {v280 v283 v284 : FVec Ideal S256x128 .f32} (v148 : FVec Ideal S256x8192 .f32) (h280 : FromRow v148 v280) (h283 : FromRow v148 v283) (h284 : FromLane v148 v284) :
    FromRow v148 (k0_pay203 v148 v280 v283 v284) := min_row (from_201 v148 h284) (from_199 v148 h280 h283 h284)

theorem from_204 (v148 : FVec Ideal S256x8192 .f32) :
    FromLane v148 (k0_pay204 v148) := slice_lane (K := v148) 31 3968 slices_S256x8192_o0_3968_S256x128 rfl

theorem from_205 {v284 : FVec Ideal S256x128 .f32} (v148 : FVec Ideal S256x8192 .f32) (h284 : FromLane v148 v284) :
    FromRow v148 (k0_pay205 v148 v284) := max_row (from_204 v148).row (from_202 v148 h284).row

theorem from_206 {v284 : FVec Ideal S256x128 .f32} (v148 : FVec Ideal S256x8192 .f32) (h284 : FromLane v148 v284) :
    FromLane v148 (k0_pay206 v148 v284) := min_lane (from_204 v148) (from_202 v148 h284)

theorem from_207 {v280 v283 v284 : FVec Ideal S256x128 .f32} (v148 : FVec Ideal S256x8192 .f32) (h280 : FromRow v148 v280) (h283 : FromRow v148 v283) (h284 : FromLane v148 v284) :
    FromRow v148 (k0_pay207 v148 v280 v283 v284) := min_row (from_205 v148 h284) (from_203 v148 h280 h283 h284)

theorem from_208 {v280 v281 v283 v284 v285 : FVec Ideal S256x128 .f32} (v148 : FVec Ideal S256x8192 .f32) (h280 : FromRow v148 v280) (h281 : FromRow v148 v281) (h283 : FromRow v148 v283) (h284 : FromLane v148 v284) (h285 : FromRow v148 v285) :
    FromRow v148 (k0_pay208 v148 v280 v281 v283 v284 v285) := by
  have h287 := min_row h285 h281
  have h291 := max_row (from_173 v148 h284) (from_171 v148 h280 h283)
  have h293 := min_row h291 h287
  have h297 := max_row (from_177 v148 h284) (from_175 v148 h280 h283 h284)
  have h299 := min_row h297 h293
  have h303 := max_row (from_181 v148 h284) (from_179 v148 h280 h283 h284)
  have h305 := min_row h303 h299
  have h309 := max_row (from_185 v148 h284) (from_183 v148 h280 h283 h284)
  have h311 := min_row h309 h305
  have h315 := max_row (from_189 v148 h284) (from_187 v148 h280 h283 h284)
  have h317 := min_row h315 h311
  have h321 := max_row (from_193 v148 h284) (from_191 v148 h280 h283 h284)
  have h323 := min_row h321 h317
  have h327 := max_row (from_197 v148 h284) (from_195 v148 h280 h283 h284)
  have h329 := min_row h327 h323
  have h333 := max_row (from_201 v148 h284) (from_199 v148 h280 h283 h284)
  have h335 := min_row h333 h329
  have h339 := max_row (from_205 v148 h284) (from_203 v148 h280 h283 h284)
  have h341 := min_row h339 h335
  exact h341

theorem from_209 (v148 : FVec Ideal S256x8192 .f32) :
    FromLane v148 (k0_pay209 v148) := slice_lane (K := v148) 32 4096 slices_S256x8192_o0_4096_S256x128 rfl

theorem from_210 {v284 : FVec Ideal S256x128 .f32} (v148 : FVec Ideal S256x8192 .f32) (h284 : FromLane v148 v284) :
    FromRow v148 (k0_pay210 v148 v284) := max_row (from_209 v148).row (from_206 v148 h284).row

theorem from_211 {v284 : FVec Ideal S256x128 .f32} (v148 : FVec Ideal S256x8192 .f32) (h284 : FromLane v148 v284) :
    FromLane v148 (k0_pay211 v148 v284) := min_lane (from_209 v148) (from_206 v148 h284)

theorem from_212 {v280 v283 v284 : FVec Ideal S256x128 .f32} (v148 : FVec Ideal S256x8192 .f32) (h280 : FromRow v148 v280) (h283 : FromRow v148 v283) (h284 : FromLane v148 v284) :
    FromRow v148 (k0_pay212 v148 v280 v283 v284) := max_row (from_210 v148 h284) (from_207 v148 h280 h283 h284)

theorem from_213 {v340 v343 : FVec Ideal S256x128 .f32} (v148 : FVec Ideal S256x8192 .f32) (h340 : FromRow v148 v340) (h343 : FromRow v148 v343) :
    FromRow v148 (k0_pay213 v340 v343) := min_row h343 h340

theorem from_214 (v148 : FVec Ideal S256x8192 .f32) :
    FromLane v148 (k0_pay214 v148) := slice_lane (K := v148) 33 4224 slices_S256x8192_o0_4224_S256x128 rfl

theorem from_215 {v344 : FVec Ideal S256x128 .f32} (v148 : FVec Ideal S256x8192 .f32) (h344 : FromLane v148 v344) :
    FromRow v148 (k0_pay215 v148 v344) := max_row (from_214 v148).row (h344).row

theorem from_216 {v344 : FVec Ideal S256x128 .f32} (v148 : FVec Ideal S256x8192 .f32) (h344 : FromLane v148 v344) :
    FromLane v148 (k0_pay216 v148 v344) := min_lane (from_214 v148) h344

theorem from_217 {v340 v343 v344 : FVec Ideal S256x128 .f32} (v148 : FVec Ideal S256x8192 .f32) (h340 : FromRow v148 v340) (h343 : FromRow v148 v343) (h344 : FromLane v148 v344) :
    FromRow v148 (k0_pay217 v148 v340 v343 v344) := min_row (from_215 v148 h344) (from_213 v148 h340 h343)

theorem from_218 (v148 : FVec Ideal S256x8192 .f32) :
    FromLane v148 (k0_pay218 v148) := slice_lane (K := v148) 34 4352 slices_S256x8192_o0_4352_S256x128 rfl

theorem from_219 {v344 : FVec Ideal S256x128 .f32} (v148 : FVec Ideal S256x8192 .f32) (h344 : FromLane v148 v344) :
    FromRow v148 (k0_pay219 v148 v344) := max_row (from_218 v148).row (from_216 v148 h344).row

theorem from_220 {v344 : FVec Ideal S256x128 .f32} (v148 : FVec Ideal S256x8192 .f32) (h344 : FromLane v148 v344) :
    FromLane v148 (k0_pay220 v148 v344) := min_lane (from_218 v148) (from_216 v148 h344)

theorem from_221 {v340 v343 v344 : FVec Ideal S256x128 .f32} (v148 : FVec Ideal S256x8192 .f32) (h340 : FromRow v148 v340) (h343 : FromRow v148 v343) (h344 : FromLane v148 v344) :
    FromRow v148 (k0_pay221 v148 v340 v343 v344) := min_row (from_219 v148 h344) (from_217 v148 h340 h343 h344)

theorem from_222 (v148 : FVec Ideal S256x8192 .f32) :
    FromLane v148 (k0_pay222 v148) := slice_lane (K := v148) 35 4480 slices_S256x8192_o0_4480_S256x128 rfl

theorem from_223 {v344 : FVec Ideal S256x128 .f32} (v148 : FVec Ideal S256x8192 .f32) (h344 : FromLane v148 v344) :
    FromRow v148 (k0_pay223 v148 v344) := max_row (from_222 v148).row (from_220 v148 h344).row

theorem from_224 {v344 : FVec Ideal S256x128 .f32} (v148 : FVec Ideal S256x8192 .f32) (h344 : FromLane v148 v344) :
    FromLane v148 (k0_pay224 v148 v344) := min_lane (from_222 v148) (from_220 v148 h344)

theorem from_225 {v340 v343 v344 : FVec Ideal S256x128 .f32} (v148 : FVec Ideal S256x8192 .f32) (h340 : FromRow v148 v340) (h343 : FromRow v148 v343) (h344 : FromLane v148 v344) :
    FromRow v148 (k0_pay225 v148 v340 v343 v344) := min_row (from_223 v148 h344) (from_221 v148 h340 h343 h344)

theorem from_226 (v148 : FVec Ideal S256x8192 .f32) :
    FromLane v148 (k0_pay226 v148) := slice_lane (K := v148) 36 4608 slices_S256x8192_o0_4608_S256x128 rfl

theorem from_227 {v344 : FVec Ideal S256x128 .f32} (v148 : FVec Ideal S256x8192 .f32) (h344 : FromLane v148 v344) :
    FromRow v148 (k0_pay227 v148 v344) := max_row (from_226 v148).row (from_224 v148 h344).row

theorem from_228 {v344 : FVec Ideal S256x128 .f32} (v148 : FVec Ideal S256x8192 .f32) (h344 : FromLane v148 v344) :
    FromLane v148 (k0_pay228 v148 v344) := min_lane (from_226 v148) (from_224 v148 h344)

theorem from_229 {v340 v343 v344 : FVec Ideal S256x128 .f32} (v148 : FVec Ideal S256x8192 .f32) (h340 : FromRow v148 v340) (h343 : FromRow v148 v343) (h344 : FromLane v148 v344) :
    FromRow v148 (k0_pay229 v148 v340 v343 v344) := min_row (from_227 v148 h344) (from_225 v148 h340 h343 h344)

theorem from_230 (v148 : FVec Ideal S256x8192 .f32) :
    FromLane v148 (k0_pay230 v148) := slice_lane (K := v148) 37 4736 slices_S256x8192_o0_4736_S256x128 rfl

theorem from_231 {v344 : FVec Ideal S256x128 .f32} (v148 : FVec Ideal S256x8192 .f32) (h344 : FromLane v148 v344) :
    FromRow v148 (k0_pay231 v148 v344) := max_row (from_230 v148).row (from_228 v148 h344).row

theorem from_232 {v344 : FVec Ideal S256x128 .f32} (v148 : FVec Ideal S256x8192 .f32) (h344 : FromLane v148 v344) :
    FromLane v148 (k0_pay232 v148 v344) := min_lane (from_230 v148) (from_228 v148 h344)

theorem from_233 {v340 v343 v344 : FVec Ideal S256x128 .f32} (v148 : FVec Ideal S256x8192 .f32) (h340 : FromRow v148 v340) (h343 : FromRow v148 v343) (h344 : FromLane v148 v344) :
    FromRow v148 (k0_pay233 v148 v340 v343 v344) := min_row (from_231 v148 h344) (from_229 v148 h340 h343 h344)

theorem from_234 (v148 : FVec Ideal S256x8192 .f32) :
    FromLane v148 (k0_pay234 v148) := slice_lane (K := v148) 38 4864 slices_S256x8192_o0_4864_S256x128 rfl

theorem from_235 {v344 : FVec Ideal S256x128 .f32} (v148 : FVec Ideal S256x8192 .f32) (h344 : FromLane v148 v344) :
    FromRow v148 (k0_pay235 v148 v344) := max_row (from_234 v148).row (from_232 v148 h344).row

theorem from_236 {v344 : FVec Ideal S256x128 .f32} (v148 : FVec Ideal S256x8192 .f32) (h344 : FromLane v148 v344) :
    FromLane v148 (k0_pay236 v148 v344) := min_lane (from_234 v148) (from_232 v148 h344)

theorem from_237 {v340 v343 v344 : FVec Ideal S256x128 .f32} (v148 : FVec Ideal S256x8192 .f32) (h340 : FromRow v148 v340) (h343 : FromRow v148 v343) (h344 : FromLane v148 v344) :
    FromRow v148 (k0_pay237 v148 v340 v343 v344) := min_row (from_235 v148 h344) (from_233 v148 h340 h343 h344)

theorem from_238 (v148 : FVec Ideal S256x8192 .f32) :
    FromLane v148 (k0_pay238 v148) := slice_lane (K := v148) 39 4992 slices_S256x8192_o0_4992_S256x128 rfl

theorem from_239 {v344 : FVec Ideal S256x128 .f32} (v148 : FVec Ideal S256x8192 .f32) (h344 : FromLane v148 v344) :
    FromRow v148 (k0_pay239 v148 v344) := max_row (from_238 v148).row (from_236 v148 h344).row

theorem from_240 {v344 : FVec Ideal S256x128 .f32} (v148 : FVec Ideal S256x8192 .f32) (h344 : FromLane v148 v344) :
    FromLane v148 (k0_pay240 v148 v344) := min_lane (from_238 v148) (from_236 v148 h344)

theorem from_241 {v340 v343 v344 : FVec Ideal S256x128 .f32} (v148 : FVec Ideal S256x8192 .f32) (h340 : FromRow v148 v340) (h343 : FromRow v148 v343) (h344 : FromLane v148 v344) :
    FromRow v148 (k0_pay241 v148 v340 v343 v344) := min_row (from_239 v148 h344) (from_237 v148 h340 h343 h344)

theorem from_242 (v148 : FVec Ideal S256x8192 .f32) :
    FromLane v148 (k0_pay242 v148) := slice_lane (K := v148) 40 5120 slices_S256x8192_o0_5120_S256x128 rfl

theorem from_243 {v344 : FVec Ideal S256x128 .f32} (v148 : FVec Ideal S256x8192 .f32) (h344 : FromLane v148 v344) :
    FromRow v148 (k0_pay243 v148 v344) := max_row (from_242 v148).row (from_240 v148 h344).row

theorem from_244 {v344 : FVec Ideal S256x128 .f32} (v148 : FVec Ideal S256x8192 .f32) (h344 : FromLane v148 v344) :
    FromLane v148 (k0_pay244 v148 v344) := min_lane (from_242 v148) (from_240 v148 h344)

theorem from_245 {v340 v343 v344 : FVec Ideal S256x128 .f32} (v148 : FVec Ideal S256x8192 .f32) (h340 : FromRow v148 v340) (h343 : FromRow v148 v343) (h344 : FromLane v148 v344) :
    FromRow v148 (k0_pay245 v148 v340 v343 v344) := min_row (from_243 v148 h344) (from_241 v148 h340 h343 h344)

theorem from_246 (v148 : FVec Ideal S256x8192 .f32) :
    FromLane v148 (k0_pay246 v148) := slice_lane (K := v148) 41 5248 slices_S256x8192_o0_5248_S256x128 rfl

theorem from_247 {v344 : FVec Ideal S256x128 .f32} (v148 : FVec Ideal S256x8192 .f32) (h344 : FromLane v148 v344) :
    FromRow v148 (k0_pay247 v148 v344) := max_row (from_246 v148).row (from_244 v148 h344).row

theorem from_248 {v344 : FVec Ideal S256x128 .f32} (v148 : FVec Ideal S256x8192 .f32) (h344 : FromLane v148 v344) :
    FromLane v148 (k0_pay248 v148 v344) := min_lane (from_246 v148) (from_244 v148 h344)

theorem from_249 {v340 v343 v344 : FVec Ideal S256x128 .f32} (v148 : FVec Ideal S256x8192 .f32) (h340 : FromRow v148 v340) (h343 : FromRow v148 v343) (h344 : FromLane v148 v344) :
    FromRow v148 (k0_pay249 v148 v340 v343 v344) := min_row (from_247 v148 h344) (from_245 v148 h340 h343 h344)

theorem from_250 {v340 v341 v343 v344 v345 : FVec Ideal S256x128 .f32} (v148 : FVec Ideal S256x8192 .f32) (h340 : FromRow v148 v340) (h341 : FromRow v148 v341) (h343 : FromRow v148 v343) (h344 : FromLane v148 v344) (h345 : FromRow v148 v345) :
    FromRow v148 (k0_pay250 v148 v340 v341 v343 v344 v345) := by
  have h347 := min_row h345 h341
  have h351 := max_row (from_215 v148 h344) (from_213 v148 h340 h343)
  have h353 := min_row h351 h347
  have h357 := max_row (from_219 v148 h344) (from_217 v148 h340 h343 h344)
  have h359 := min_row h357 h353
  have h363 := max_row (from_223 v148 h344) (from_221 v148 h340 h343 h344)
  have h365 := min_row h363 h359
  have h369 := max_row (from_227 v148 h344) (from_225 v148 h340 h343 h344)
  have h371 := min_row h369 h365
  have h375 := max_row (from_231 v148 h344) (from_229 v148 h340 h343 h344)
  have h377 := min_row h375 h371
  have h381 := max_row (from_235 v148 h344) (from_233 v148 h340 h343 h344)
  have h383 := min_row h381 h377
  have h387 := max_row (from_239 v148 h344) (from_237 v148 h340 h343 h344)
  have h389 := min_row h387 h383
  have h393 := max_row (from_243 v148 h344) (from_241 v148 h340 h343 h344)
  have h395 := min_row h393 h389
  have h399 := max_row (from_247 v148 h344) (from_245 v148 h340 h343 h344)
  have h401 := min_row h399 h395
  exact h401

theorem from_251 (v148 : FVec Ideal S256x8192 .f32) :
    FromLane v148 (k0_pay251 v148) := slice_lane (K := v148) 42 5376 slices_S256x8192_o0_5376_S256x128 rfl

theorem from_252 {v344 : FVec Ideal S256x128 .f32} (v148 : FVec Ideal S256x8192 .f32) (h344 : FromLane v148 v344) :
    FromRow v148 (k0_pay252 v148 v344) := max_row (from_251 v148).row (from_248 v148 h344).row

theorem from_253 {v344 : FVec Ideal S256x128 .f32} (v148 : FVec Ideal S256x8192 .f32) (h344 : FromLane v148 v344) :
    FromLane v148 (k0_pay253 v148 v344) := min_lane (from_251 v148) (from_248 v148 h344)

theorem from_254 {v340 v343 v344 : FVec Ideal S256x128 .f32} (v148 : FVec Ideal S256x8192 .f32) (h340 : FromRow v148 v340) (h343 : FromRow v148 v343) (h344 : FromLane v148 v344) :
    FromRow v148 (k0_pay254 v148 v340 v343 v344) := max_row (from_252 v148 h344) (from_249 v148 h340 h343 h344)

theorem from_255 {v400 v403 : FVec Ideal S256x128 .f32} (v148 : FVec Ideal S256x8192 .f32) (h400 : FromRow v148 v400) (h403 : FromRow v148 v403) :
    FromRow v148 (k0_pay255 v400 v403) := min_row h403 h400

theorem from_256 (v148 : FVec Ideal S256x8192 .f32) :
    FromLane v148 (k0_pay256 v148) := slice_lane (K := v148) 43 5504 slices_S256x8192_o0_5504_S256x128 rfl

theorem from_257 {v404 : FVec Ideal S256x128 .f32} (v148 : FVec Ideal S256x8192 .f32) (h404 : FromLane v148 v404) :
    FromRow v148 (k0_pay257 v148 v404) := max_row (from_256 v148).row (h404).row

theorem from_258 {v404 : FVec Ideal S256x128 .f32} (v148 : FVec Ideal S256x8192 .f32) (h404 : FromLane v148 v404) :
    FromLane v148 (k0_pay258 v148 v404) := min_lane (from_256 v148) h404

theorem from_259 {v400 v403 v404 : FVec Ideal S256x128 .f32} (v148 : FVec Ideal S256x8192 .f32) (h400 : FromRow v148 v400) (h403 : FromRow v148 v403) (h404 : FromLane v148 v404) :
    FromRow v148 (k0_pay259 v148 v400 v403 v404) := min_row (from_257 v148 h404) (from_255 v148 h400 h403)

theorem from_260 (v148 : FVec Ideal S256x8192 .f32) :
    FromLane v148 (k0_pay260 v148) := slice_lane (K := v148) 44 5632 slices_S256x8192_o0_5632_S256x128 rfl

theorem from_261 {v404 : FVec Ideal S256x128 .f32} (v148 : FVec Ideal S256x8192 .f32) (h404 : FromLane v148 v404) :
    FromRow v148 (k0_pay261 v148 v404) := max_row (from_260 v148).row (from_258 v148 h404).row

theorem from_262 {v404 : FVec Ideal S256x128 .f32} (v148 : FVec Ideal S256x8192 .f32) (h404 : FromLane v148 v404) :
    FromLane v148 (k0_pay262 v148 v404) := min_lane (from_260 v148) (from_258 v148 h404)

theorem from_263 {v400 v403 v404 : FVec Ideal S256x128 .f32} (v148 : FVec Ideal S256x8192 .f32) (h400 : FromRow v148 v400) (h403 : FromRow v148 v403) (h404 : FromLane v148 v404) :
    FromRow v148 (k0_pay263 v148 v400 v403 v404) := min_row (from_261 v148 h404) (from_259 v148 h400 h403 h404)

theorem from_264 (v148 : FVec Ideal S256x8192 .f32) :
    FromLane v148 (k0_pay264 v148) := slice_lane (K := v148) 45 5760 slices_S256x8192_o0_5760_S256x128 rfl

theorem from_265 {v404 : FVec Ideal S256x128 .f32} (v148 : FVec Ideal S256x8192 .f32) (h404 : FromLane v148 v404) :
    FromRow v148 (k0_pay265 v148 v404) := max_row (from_264 v148).row (from_262 v148 h404).row

theorem from_266 {v404 : FVec Ideal S256x128 .f32} (v148 : FVec Ideal S256x8192 .f32) (h404 : FromLane v148 v404) :
    FromLane v148 (k0_pay266 v148 v404) := min_lane (from_264 v148) (from_262 v148 h404)

theorem from_267 {v400 v403 v404 : FVec Ideal S256x128 .f32} (v148 : FVec Ideal S256x8192 .f32) (h400 : FromRow v148 v400) (h403 : FromRow v148 v403) (h404 : FromLane v148 v404) :
    FromRow v148 (k0_pay267 v148 v400 v403 v404) := min_row (from_265 v148 h404) (from_263 v148 h400 h403 h404)

theorem from_268 (v148 : FVec Ideal S256x8192 .f32) :
    FromLane v148 (k0_pay268 v148) := slice_lane (K := v148) 46 5888 slices_S256x8192_o0_5888_S256x128 rfl

theorem from_269 {v404 : FVec Ideal S256x128 .f32} (v148 : FVec Ideal S256x8192 .f32) (h404 : FromLane v148 v404) :
    FromRow v148 (k0_pay269 v148 v404) := max_row (from_268 v148).row (from_266 v148 h404).row

theorem from_270 {v404 : FVec Ideal S256x128 .f32} (v148 : FVec Ideal S256x8192 .f32) (h404 : FromLane v148 v404) :
    FromLane v148 (k0_pay270 v148 v404) := min_lane (from_268 v148) (from_266 v148 h404)

theorem from_271 {v400 v403 v404 : FVec Ideal S256x128 .f32} (v148 : FVec Ideal S256x8192 .f32) (h400 : FromRow v148 v400) (h403 : FromRow v148 v403) (h404 : FromLane v148 v404) :
    FromRow v148 (k0_pay271 v148 v400 v403 v404) := min_row (from_269 v148 h404) (from_267 v148 h400 h403 h404)

theorem from_272 (v148 : FVec Ideal S256x8192 .f32) :
    FromLane v148 (k0_pay272 v148) := slice_lane (K := v148) 47 6016 slices_S256x8192_o0_6016_S256x128 rfl

theorem from_273 {v404 : FVec Ideal S256x128 .f32} (v148 : FVec Ideal S256x8192 .f32) (h404 : FromLane v148 v404) :
    FromRow v148 (k0_pay273 v148 v404) := max_row (from_272 v148).row (from_270 v148 h404).row

theorem from_274 {v404 : FVec Ideal S256x128 .f32} (v148 : FVec Ideal S256x8192 .f32) (h404 : FromLane v148 v404) :
    FromLane v148 (k0_pay274 v148 v404) := min_lane (from_272 v148) (from_270 v148 h404)

theorem from_275 {v400 v403 v404 : FVec Ideal S256x128 .f32} (v148 : FVec Ideal S256x8192 .f32) (h400 : FromRow v148 v400) (h403 : FromRow v148 v403) (h404 : FromLane v148 v404) :
    FromRow v148 (k0_pay275 v148 v400 v403 v404) := min_row (from_273 v148 h404) (from_271 v148 h400 h403 h404)

theorem from_276 (v148 : FVec Ideal S256x8192 .f32) :
    FromLane v148 (k0_pay276 v148) := slice_lane (K := v148) 48 6144 slices_S256x8192_o0_6144_S256x128 rfl

theorem from_277 {v404 : FVec Ideal S256x128 .f32} (v148 : FVec Ideal S256x8192 .f32) (h404 : FromLane v148 v404) :
    FromRow v148 (k0_pay277 v148 v404) := max_row (from_276 v148).row (from_274 v148 h404).row

theorem from_278 {v404 : FVec Ideal S256x128 .f32} (v148 : FVec Ideal S256x8192 .f32) (h404 : FromLane v148 v404) :
    FromLane v148 (k0_pay278 v148 v404) := min_lane (from_276 v148) (from_274 v148 h404)

theorem from_279 {v400 v403 v404 : FVec Ideal S256x128 .f32} (v148 : FVec Ideal S256x8192 .f32) (h400 : FromRow v148 v400) (h403 : FromRow v148 v403) (h404 : FromLane v148 v404) :
    FromRow v148 (k0_pay279 v148 v400 v403 v404) := min_row (from_277 v148 h404) (from_275 v148 h400 h403 h404)

theorem from_280 (v148 : FVec Ideal S256x8192 .f32) :
    FromLane v148 (k0_pay280 v148) := slice_lane (K := v148) 49 6272 slices_S256x8192_o0_6272_S256x128 rfl

theorem from_281 {v404 : FVec Ideal S256x128 .f32} (v148 : FVec Ideal S256x8192 .f32) (h404 : FromLane v148 v404) :
    FromRow v148 (k0_pay281 v148 v404) := max_row (from_280 v148).row (from_278 v148 h404).row

theorem from_282 {v404 : FVec Ideal S256x128 .f32} (v148 : FVec Ideal S256x8192 .f32) (h404 : FromLane v148 v404) :
    FromLane v148 (k0_pay282 v148 v404) := min_lane (from_280 v148) (from_278 v148 h404)

theorem from_283 {v400 v403 v404 : FVec Ideal S256x128 .f32} (v148 : FVec Ideal S256x8192 .f32) (h400 : FromRow v148 v400) (h403 : FromRow v148 v403) (h404 : FromLane v148 v404) :
    FromRow v148 (k0_pay283 v148 v400 v403 v404) := min_row (from_281 v148 h404) (from_279 v148 h400 h403 h404)

theorem from_284 (v148 : FVec Ideal S256x8192 .f32) :
    FromLane v148 (k0_pay284 v148) := slice_lane (K := v148) 50 6400 slices_S256x8192_o0_6400_S256x128 rfl

theorem from_285 {v404 : FVec Ideal S256x128 .f32} (v148 : FVec Ideal S256x8192 .f32) (h404 : FromLane v148 v404) :
    FromRow v148 (k0_pay285 v148 v404) := max_row (from_284 v148).row (from_282 v148 h404).row

theorem from_286 {v404 : FVec Ideal S256x128 .f32} (v148 : FVec Ideal S256x8192 .f32) (h404 : FromLane v148 v404) :
    FromLane v148 (k0_pay286 v148 v404) := min_lane (from_284 v148) (from_282 v148 h404)

theorem from_287 {v400 v403 v404 : FVec Ideal S256x128 .f32} (v148 : FVec Ideal S256x8192 .f32) (h400 : FromRow v148 v400) (h403 : FromRow v148 v403) (h404 : FromLane v148 v404) :
    FromRow v148 (k0_pay287 v148 v400 v403 v404) := min_row (from_285 v148 h404) (from_283 v148 h400 h403 h404)

theorem from_288 (v148 : FVec Ideal S256x8192 .f32) :
    FromLane v148 (k0_pay288 v148) := slice_lane (K := v148) 51 6528 slices_S256x8192_o0_6528_S256x128 rfl

theorem from_289 {v404 : FVec Ideal S256x128 .f32} (v148 : FVec Ideal S256x8192 .f32) (h404 : FromLane v148 v404) :
    FromRow v148 (k0_pay289 v148 v404) := max_row (from_288 v148).row (from_286 v148 h404).row

theorem from_290 {v404 : FVec Ideal S256x128 .f32} (v148 : FVec Ideal S256x8192 .f32) (h404 : FromLane v148 v404) :
    FromLane v148 (k0_pay290 v148 v404) := min_lane (from_288 v148) (from_286 v148 h404)

theorem from_291 {v400 v403 v404 : FVec Ideal S256x128 .f32} (v148 : FVec Ideal S256x8192 .f32) (h400 : FromRow v148 v400) (h403 : FromRow v148 v403) (h404 : FromLane v148 v404) :
    FromRow v148 (k0_pay291 v148 v400 v403 v404) := min_row (from_289 v148 h404) (from_287 v148 h400 h403 h404)

theorem from_292 {v400 v401 v403 v404 v405 : FVec Ideal S256x128 .f32} (v148 : FVec Ideal S256x8192 .f32) (h400 : FromRow v148 v400) (h401 : FromRow v148 v401) (h403 : FromRow v148 v403) (h404 : FromLane v148 v404) (h405 : FromRow v148 v405) :
    FromRow v148 (k0_pay292 v148 v400 v401 v403 v404 v405) := by
  have h407 := min_row h405 h401
  have h411 := max_row (from_257 v148 h404) (from_255 v148 h400 h403)
  have h413 := min_row h411 h407
  have h417 := max_row (from_261 v148 h404) (from_259 v148 h400 h403 h404)
  have h419 := min_row h417 h413
  have h423 := max_row (from_265 v148 h404) (from_263 v148 h400 h403 h404)
  have h425 := min_row h423 h419
  have h429 := max_row (from_269 v148 h404) (from_267 v148 h400 h403 h404)
  have h431 := min_row h429 h425
  have h435 := max_row (from_273 v148 h404) (from_271 v148 h400 h403 h404)
  have h437 := min_row h435 h431
  have h441 := max_row (from_277 v148 h404) (from_275 v148 h400 h403 h404)
  have h443 := min_row h441 h437
  have h447 := max_row (from_281 v148 h404) (from_279 v148 h400 h403 h404)
  have h449 := min_row h447 h443
  have h453 := max_row (from_285 v148 h404) (from_283 v148 h400 h403 h404)
  have h455 := min_row h453 h449
  have h459 := max_row (from_289 v148 h404) (from_287 v148 h400 h403 h404)
  have h461 := min_row h459 h455
  exact h461

theorem from_293 (v148 : FVec Ideal S256x8192 .f32) :
    FromLane v148 (k0_pay293 v148) := slice_lane (K := v148) 52 6656 slices_S256x8192_o0_6656_S256x128 rfl

theorem from_294 {v404 : FVec Ideal S256x128 .f32} (v148 : FVec Ideal S256x8192 .f32) (h404 : FromLane v148 v404) :
    FromRow v148 (k0_pay294 v148 v404) := max_row (from_293 v148).row (from_290 v148 h404).row

theorem from_295 {v404 : FVec Ideal S256x128 .f32} (v148 : FVec Ideal S256x8192 .f32) (h404 : FromLane v148 v404) :
    FromLane v148 (k0_pay295 v148 v404) := min_lane (from_293 v148) (from_290 v148 h404)

theorem from_296 {v400 v403 v404 : FVec Ideal S256x128 .f32} (v148 : FVec Ideal S256x8192 .f32) (h400 : FromRow v148 v400) (h403 : FromRow v148 v403) (h404 : FromLane v148 v404) :
    FromRow v148 (k0_pay296 v148 v400 v403 v404) := max_row (from_294 v148 h404) (from_291 v148 h400 h403 h404)

theorem from_297 {v460 v463 : FVec Ideal S256x128 .f32} (v148 : FVec Ideal S256x8192 .f32) (h460 : FromRow v148 v460) (h463 : FromRow v148 v463) :
    FromRow v148 (k0_pay297 v460 v463) := min_row h463 h460

theorem from_298 (v148 : FVec Ideal S256x8192 .f32) :
    FromLane v148 (k0_pay298 v148) := slice_lane (K := v148) 53 6784 slices_S256x8192_o0_6784_S256x128 rfl

theorem from_299 {v464 : FVec Ideal S256x128 .f32} (v148 : FVec Ideal S256x8192 .f32) (h464 : FromLane v148 v464) :
    FromRow v148 (k0_pay299 v148 v464) := max_row (from_298 v148).row (h464).row

theorem from_300 {v464 : FVec Ideal S256x128 .f32} (v148 : FVec Ideal S256x8192 .f32) (h464 : FromLane v148 v464) :
    FromLane v148 (k0_pay300 v148 v464) := min_lane (from_298 v148) h464

theorem from_301 {v460 v463 v464 : FVec Ideal S256x128 .f32} (v148 : FVec Ideal S256x8192 .f32) (h460 : FromRow v148 v460) (h463 : FromRow v148 v463) (h464 : FromLane v148 v464) :
    FromRow v148 (k0_pay301 v148 v460 v463 v464) := min_row (from_299 v148 h464) (from_297 v148 h460 h463)

theorem from_302 (v148 : FVec Ideal S256x8192 .f32) :
    FromLane v148 (k0_pay302 v148) := slice_lane (K := v148) 54 6912 slices_S256x8192_o0_6912_S256x128 rfl

theorem from_303 {v464 : FVec Ideal S256x128 .f32} (v148 : FVec Ideal S256x8192 .f32) (h464 : FromLane v148 v464) :
    FromRow v148 (k0_pay303 v148 v464) := max_row (from_302 v148).row (from_300 v148 h464).row

theorem from_304 {v464 : FVec Ideal S256x128 .f32} (v148 : FVec Ideal S256x8192 .f32) (h464 : FromLane v148 v464) :
    FromLane v148 (k0_pay304 v148 v464) := min_lane (from_302 v148) (from_300 v148 h464)

theorem from_305 {v460 v463 v464 : FVec Ideal S256x128 .f32} (v148 : FVec Ideal S256x8192 .f32) (h460 : FromRow v148 v460) (h463 : FromRow v148 v463) (h464 : FromLane v148 v464) :
    FromRow v148 (k0_pay305 v148 v460 v463 v464) := min_row (from_303 v148 h464) (from_301 v148 h460 h463 h464)

theorem from_306 (v148 : FVec Ideal S256x8192 .f32) :
    FromLane v148 (k0_pay306 v148) := slice_lane (K := v148) 55 7040 slices_S256x8192_o0_7040_S256x128 rfl

theorem from_307 {v464 : FVec Ideal S256x128 .f32} (v148 : FVec Ideal S256x8192 .f32) (h464 : FromLane v148 v464) :
    FromRow v148 (k0_pay307 v148 v464) := max_row (from_306 v148).row (from_304 v148 h464).row

theorem from_308 {v464 : FVec Ideal S256x128 .f32} (v148 : FVec Ideal S256x8192 .f32) (h464 : FromLane v148 v464) :
    FromLane v148 (k0_pay308 v148 v464) := min_lane (from_306 v148) (from_304 v148 h464)

theorem from_309 {v460 v463 v464 : FVec Ideal S256x128 .f32} (v148 : FVec Ideal S256x8192 .f32) (h460 : FromRow v148 v460) (h463 : FromRow v148 v463) (h464 : FromLane v148 v464) :
    FromRow v148 (k0_pay309 v148 v460 v463 v464) := min_row (from_307 v148 h464) (from_305 v148 h460 h463 h464)

theorem from_310 (v148 : FVec Ideal S256x8192 .f32) :
    FromLane v148 (k0_pay310 v148) := slice_lane (K := v148) 56 7168 slices_S256x8192_o0_7168_S256x128 rfl

theorem from_311 {v464 : FVec Ideal S256x128 .f32} (v148 : FVec Ideal S256x8192 .f32) (h464 : FromLane v148 v464) :
    FromRow v148 (k0_pay311 v148 v464) := max_row (from_310 v148).row (from_308 v148 h464).row

theorem from_312 {v464 : FVec Ideal S256x128 .f32} (v148 : FVec Ideal S256x8192 .f32) (h464 : FromLane v148 v464) :
    FromLane v148 (k0_pay312 v148 v464) := min_lane (from_310 v148) (from_308 v148 h464)

theorem from_313 {v460 v463 v464 : FVec Ideal S256x128 .f32} (v148 : FVec Ideal S256x8192 .f32) (h460 : FromRow v148 v460) (h463 : FromRow v148 v463) (h464 : FromLane v148 v464) :
    FromRow v148 (k0_pay313 v148 v460 v463 v464) := min_row (from_311 v148 h464) (from_309 v148 h460 h463 h464)

theorem from_314 (v148 : FVec Ideal S256x8192 .f32) :
    FromLane v148 (k0_pay314 v148) := slice_lane (K := v148) 57 7296 slices_S256x8192_o0_7296_S256x128 rfl

theorem from_315 {v464 : FVec Ideal S256x128 .f32} (v148 : FVec Ideal S256x8192 .f32) (h464 : FromLane v148 v464) :
    FromRow v148 (k0_pay315 v148 v464) := max_row (from_314 v148).row (from_312 v148 h464).row

theorem from_316 {v464 : FVec Ideal S256x128 .f32} (v148 : FVec Ideal S256x8192 .f32) (h464 : FromLane v148 v464) :
    FromLane v148 (k0_pay316 v148 v464) := min_lane (from_314 v148) (from_312 v148 h464)

theorem from_317 {v460 v463 v464 : FVec Ideal S256x128 .f32} (v148 : FVec Ideal S256x8192 .f32) (h460 : FromRow v148 v460) (h463 : FromRow v148 v463) (h464 : FromLane v148 v464) :
    FromRow v148 (k0_pay317 v148 v460 v463 v464) := min_row (from_315 v148 h464) (from_313 v148 h460 h463 h464)

theorem from_318 (v148 : FVec Ideal S256x8192 .f32) :
    FromLane v148 (k0_pay318 v148) := slice_lane (K := v148) 58 7424 slices_S256x8192_o0_7424_S256x128 rfl

theorem from_319 {v464 : FVec Ideal S256x128 .f32} (v148 : FVec Ideal S256x8192 .f32) (h464 : FromLane v148 v464) :
    FromRow v148 (k0_pay319 v148 v464) := max_row (from_318 v148).row (from_316 v148 h464).row

theorem from_320 {v464 : FVec Ideal S256x128 .f32} (v148 : FVec Ideal S256x8192 .f32) (h464 : FromLane v148 v464) :
    FromLane v148 (k0_pay320 v148 v464) := min_lane (from_318 v148) (from_316 v148 h464)

theorem from_321 {v460 v463 v464 : FVec Ideal S256x128 .f32} (v148 : FVec Ideal S256x8192 .f32) (h460 : FromRow v148 v460) (h463 : FromRow v148 v463) (h464 : FromLane v148 v464) :
    FromRow v148 (k0_pay321 v148 v460 v463 v464) := min_row (from_319 v148 h464) (from_317 v148 h460 h463 h464)

theorem from_322 (v148 : FVec Ideal S256x8192 .f32) :
    FromLane v148 (k0_pay322 v148) := slice_lane (K := v148) 59 7552 slices_S256x8192_o0_7552_S256x128 rfl

theorem from_323 {v464 : FVec Ideal S256x128 .f32} (v148 : FVec Ideal S256x8192 .f32) (h464 : FromLane v148 v464) :
    FromRow v148 (k0_pay323 v148 v464) := max_row (from_322 v148).row (from_320 v148 h464).row

theorem from_324 {v464 : FVec Ideal S256x128 .f32} (v148 : FVec Ideal S256x8192 .f32) (h464 : FromLane v148 v464) :
    FromLane v148 (k0_pay324 v148 v464) := min_lane (from_322 v148) (from_320 v148 h464)

theorem from_325 {v460 v463 v464 : FVec Ideal S256x128 .f32} (v148 : FVec Ideal S256x8192 .f32) (h460 : FromRow v148 v460) (h463 : FromRow v148 v463) (h464 : FromLane v148 v464) :
    FromRow v148 (k0_pay325 v148 v460 v463 v464) := min_row (from_323 v148 h464) (from_321 v148 h460 h463 h464)

theorem from_326 (v148 : FVec Ideal S256x8192 .f32) :
    FromLane v148 (k0_pay326 v148) := slice_lane (K := v148) 60 7680 slices_S256x8192_o0_7680_S256x128 rfl

theorem from_327 {v464 : FVec Ideal S256x128 .f32} (v148 : FVec Ideal S256x8192 .f32) (h464 : FromLane v148 v464) :
    FromRow v148 (k0_pay327 v148 v464) := max_row (from_326 v148).row (from_324 v148 h464).row

theorem from_328 {v464 : FVec Ideal S256x128 .f32} (v148 : FVec Ideal S256x8192 .f32) (h464 : FromLane v148 v464) :
    FromLane v148 (k0_pay328 v148 v464) := min_lane (from_326 v148) (from_324 v148 h464)

theorem from_329 {v460 v463 v464 : FVec Ideal S256x128 .f32} (v148 : FVec Ideal S256x8192 .f32) (h460 : FromRow v148 v460) (h463 : FromRow v148 v463) (h464 : FromLane v148 v464) :
    FromRow v148 (k0_pay329 v148 v460 v463 v464) := min_row (from_327 v148 h464) (from_325 v148 h460 h463 h464)

theorem from_330 (v148 : FVec Ideal S256x8192 .f32) :
    FromLane v148 (k0_pay330 v148) := slice_lane (K := v148) 61 7808 slices_S256x8192_o0_7808_S256x128 rfl

theorem from_331 {v464 : FVec Ideal S256x128 .f32} (v148 : FVec Ideal S256x8192 .f32) (h464 : FromLane v148 v464) :
    FromRow v148 (k0_pay331 v148 v464) := max_row (from_330 v148).row (from_328 v148 h464).row

theorem from_332 {v464 : FVec Ideal S256x128 .f32} (v148 : FVec Ideal S256x8192 .f32) (h464 : FromLane v148 v464) :
    FromLane v148 (k0_pay332 v148 v464) := min_lane (from_330 v148) (from_328 v148 h464)

theorem from_333 {v460 v463 v464 : FVec Ideal S256x128 .f32} (v148 : FVec Ideal S256x8192 .f32) (h460 : FromRow v148 v460) (h463 : FromRow v148 v463) (h464 : FromLane v148 v464) :
    FromRow v148 (k0_pay333 v148 v460 v463 v464) := min_row (from_331 v148 h464) (from_329 v148 h460 h463 h464)

theorem from_334 {v460 v461 v463 v464 v465 : FVec Ideal S256x128 .f32} (v148 : FVec Ideal S256x8192 .f32) (h460 : FromRow v148 v460) (h461 : FromRow v148 v461) (h463 : FromRow v148 v463) (h464 : FromLane v148 v464) (h465 : FromRow v148 v465) :
    FromRow v148 (k0_pay334 v148 v460 v461 v463 v464 v465) := by
  have h467 := min_row h465 h461
  have h471 := max_row (from_299 v148 h464) (from_297 v148 h460 h463)
  have h473 := min_row h471 h467
  have h477 := max_row (from_303 v148 h464) (from_301 v148 h460 h463 h464)
  have h479 := min_row h477 h473
  have h483 := max_row (from_307 v148 h464) (from_305 v148 h460 h463 h464)
  have h485 := min_row h483 h479
  have h489 := max_row (from_311 v148 h464) (from_309 v148 h460 h463 h464)
  have h491 := min_row h489 h485
  have h495 := max_row (from_315 v148 h464) (from_313 v148 h460 h463 h464)
  have h497 := min_row h495 h491
  have h501 := max_row (from_319 v148 h464) (from_317 v148 h460 h463 h464)
  have h503 := min_row h501 h497
  have h507 := max_row (from_323 v148 h464) (from_321 v148 h460 h463 h464)
  have h509 := min_row h507 h503
  have h513 := max_row (from_327 v148 h464) (from_325 v148 h460 h463 h464)
  have h515 := min_row h513 h509
  have h519 := max_row (from_331 v148 h464) (from_329 v148 h460 h463 h464)
  have h521 := min_row h519 h515
  exact h521

theorem from_335 (v148 : FVec Ideal S256x8192 .f32) :
    FromLane v148 (k0_pay335 v148) := slice_lane (K := v148) 62 7936 slices_S256x8192_o0_7936_S256x128 rfl

theorem from_336 {v464 : FVec Ideal S256x128 .f32} (v148 : FVec Ideal S256x8192 .f32) (h464 : FromLane v148 v464) :
    FromRow v148 (k0_pay336 v148 v464) := max_row (from_335 v148).row (from_332 v148 h464).row

theorem from_337 {v464 : FVec Ideal S256x128 .f32} (v148 : FVec Ideal S256x8192 .f32) (h464 : FromLane v148 v464) :
    FromLane v148 (k0_pay337 v148 v464) := min_lane (from_335 v148) (from_332 v148 h464)

theorem from_338 {v460 v463 v464 : FVec Ideal S256x128 .f32} (v148 : FVec Ideal S256x8192 .f32) (h460 : FromRow v148 v460) (h463 : FromRow v148 v463) (h464 : FromLane v148 v464) :
    FromRow v148 (k0_pay338 v148 v460 v463 v464) := max_row (from_336 v148 h464) (from_333 v148 h460 h463 h464)

/-- The candidates. -/
theorem candidates_from {v520 v521 v523 v524 v525 : FVec Ideal S256x128 .f32} (v148 : FVec Ideal S256x8192 .f32) (h520 : FromRow v148 v520) (h521 : FromRow v148 v521) (h523 : FromRow v148 v523) (h524 : FromLane v148 v524) (h525 : FromRow v148 v525) (r : Fin 256) :
    Cert.Rows.Candidates (fun j => v148 (ix2 (n0 := 256) (n1 := 8192) r j)) (fun c => k0_pay339 v148 v520 v521 v523 v524 v525 (ix2 (n0 := 256) (n1 := 384) r c)) := by
  have h526 := min_row h523 h520
  have h527 := min_row h525 h521
  have h528 := slice_lane (K := v148) 63 8064 slices_S256x8192_o0_8064_S256x128 rfl
  have h529 := max_row (h528).row (h524).row
  have h530 := min_lane h528 h524
  have h531 := max_row h529 h526
  have h532 := min_row h529 h526
  have h533 := min_row h531 h527
  exact candidates_beside h530 h532 h533 r

end Cert.KernelIdeal.Hand

end
-- ==== Proof.Ideal.Select.lean ====
module

public import proofs.«01_k».proof.Proof.Ideal.Network
public import proofs.«01_k».proof.Proof.Ideal.Halts
public import Idealize.ShloMosaic.Lib.Pointwise.Reshape

/-!
# The threshold of a row

The first threshold is the fifteenth value of the row's candidates; the loop ends with a threshold that
exactly fifteen keys of the row are at or below.
-/

@[expose] public section

noncomputable section

namespace Cert.KernelIdeal.Hand

open Idealize.ShloMosaic Cert.KernelIdeal Cert.KernelIdeal.Gen Cert.KernelIdeal.Facts

/-- The single column of a row. -/
abbrev colIdx (r : Fin 256) : S256x1.Idx := ix2 (n0 := 256) (n1 := 1) r 0

/-- A vector of one number per row, as a column. -/
theorem column_at (x : FVec Ideal S256 .f32) (r : Fin 256) :
    shapeCast S256x1 x shapeCasts_S256_S256x1 (colIdx r) = x (ix1 (n0 := 256) r) := by
  pointwise

theorem spread_wide (t : FVec Ideal S256x1 .f32) (r : Fin 256) (j : Fin 8192) :
    broadcastTo S256x8192 t broadcasts_S256x1_S256x8192 (ix2 (n0 := 256) (n1 := 8192) r j) = t (colIdx r) := by
  pointwise

theorem spread_cand (t : FVec Ideal S256x1 .f32) (r : Fin 256) (j : Fin 384) :
    broadcastTo S256x384 t broadcasts_S256x1_S256x384 (ix2 (n0 := 256) (n1 := 384) r j) = t (colIdx r) := by
  pointwise

/-- The least entry of each row of candidates. -/
def least (x : FVec Ideal S256x384 .f32) : FVec Ideal S256x1 .f32 :=
  shapeCast S256x1 (multiReduction .minimumf [1] S256 x 0x7F800000#32 reduces_S256x384_S256 (.inl rfl) rfl) shapeCasts_S256_S256x1

/-- The least candidate of each row above a threshold. -/
def leastAbove (x : FVec Ideal S256x384 .f32) (t : FVec Ideal S256x1 .f32) : FVec Ideal S256x1 .f32 :=
  least (select (cmpf .ogt x (broadcastTo S256x384 t broadcasts_S256x1_S256x384)) x
    (broadcast S256x384 (Scalar.ofBits .f32 0x7F800000#32)))

theorem least_at (x : FVec Ideal S256x384 .f32) (r : Fin 256) :
    least x (colIdx r) = Finset.univ.inf fun c : Fin 384 => (x (ix2 (n0 := 256) (n1 := 384) r c) : EReal) := by
  unfold least
  rw [column_at]
  have h : multiReduction .minimumf [1] S256 x 0x7F800000#32 reduces_S256x384_S256 (.inl rfl) rfl (ix1 (n0 := 256) r)
      = Finset.univ.fold min (Ideal.ofBits .f32 0x7F800000#32) (fun c : Fin 384 => (x (ix2 (n0 := 256) (n1 := 384) r c) : EReal)) := by
    pointwise
  rw [h, ofBits_inf]
  rfl

theorem cmp_ogt (a b : EReal) : Ideal.cmp .ogt a b = BitVec.ofBool (decide (b < a)) := rfl

theorem leastAbove_at (x : FVec Ideal S256x384 .f32) (t : FVec Ideal S256x1 .f32) (r : Fin 256) :
    leastAbove x t (colIdx r) = Cert.Rows.next (fun c => x (ix2 (n0 := 256) (n1 := 384) r c)) (t (colIdx r)) := by
  unfold leastAbove
  rw [least_at]
  unfold Cert.Rows.next
  refine congrArg _ (funext fun c => ?_)
  show Scalar.select (Ideal.cmp .ogt (x (ix2 (n0 := 256) (n1 := 384) r c)) (broadcastTo S256x384 t broadcasts_S256x1_S256x384 (ix2 (n0 := 256) (n1 := 384) r c)))
    (x (ix2 (n0 := 256) (n1 := 384) r c)) (Ideal.ofBits .f32 0x7F800000#32) = _
  rw [spread_cand, cmp_ogt, ofBits_inf]
  by_cases h : (t (colIdx r) : EReal) < x (ix2 (n0 := 256) (n1 := 384) r c)
  · rw [decide_eq_true h, if_pos h]; rfl
  · rw [decide_eq_false h, if_neg h]; rfl

section Block
variable (x0 : Vec Ideal S256x256 .f32) (x1 : Vec Ideal S256x1 .f32) (x2 : Vec Ideal S8192x256 .f32) (x3 : Vec Ideal S1x8192 .f32)

/-- The candidates of a row. -/
def cands (r : Fin 256) (c : Fin 384) : EReal := val_534 x0 x2 x1 x3 (ix2 (n0 := 256) (n1 := 384) r c)

/-- The keys of a row. -/
def keyRow (r : Fin 256) (j : Fin 8192) : EReal := keys x0 x1 x2 x3 (ix2 (n0 := 256) (n1 := 8192) r j)

set_option maxRecDepth 20000 in
theorem thr0_eq : thr0 x0 x2 x1 x3 = (leastAbove (val_534 x0 x2 x1 x3))^[14] (least (val_534 x0 x2 x1 x3)) := by
  rfl

theorem iterate_at (x : FVec Ideal S256x384 .f32) (r : Fin 256) (n : ℕ) :
    (leastAbove x)^[n] (least x) (colIdx r) = Cert.Rows.nth (fun c => x (ix2 (n0 := 256) (n1 := 384) r c)) n := by
  induction n with
  | zero => rw [Function.iterate_zero, id_eq, least_at]; rfl
  | succ n ih => rw [Function.iterate_succ_apply', leastAbove_at, ih]; rfl

theorem thr0_at (r : Fin 256) : thr0 x0 x2 x1 x3 (colIdx r) = Cert.Rows.nth (cands x0 x1 x2 x3 r) 14 := by
  rw [thr0_eq, iterate_at]; rfl

end Block

end Cert.KernelIdeal.Hand

end
-- ==== Proof.Ideal.Blocks.lean ====
module

public import proofs.«01_k».proof.Proof.Ideal.Select

/-!
# The values of one block

What the two networks of the body give: `dist_lane_n` for the least distance per lane, `net_n` for the
three smallest keys per lane.
-/

@[expose] public section

noncomputable section

namespace Cert.KernelIdeal.Hand

open Idealize.ShloMosaic Cert.KernelIdeal Cert.KernelIdeal.Gen Cert.KernelIdeal.Facts

variable (x0 : Vec Ideal S256x256 .f32) (x1 : Vec Ideal S256x1 .f32) (x2 : Vec Ideal S8192x256 .f32) (x3 : Vec Ideal S1x8192 .f32)

theorem dist_lane_17 : FromLane (val_12 x0 x2 x1 x3) (val_17 x0 x2 x1 x3) := slice_lane (K := val_12 x0 x2 x1 x3) 0 0 slices_S256x8192_o0_0_S256x128 rfl

theorem dist_lane_18 : FromLane (val_12 x0 x2 x1 x3) (val_18 x0 x2 x1 x3) := slice_lane (K := val_12 x0 x2 x1 x3) 1 128 slices_S256x8192_o0_128_S256x128 rfl

theorem dist_lane_19 : FromLane (val_12 x0 x2 x1 x3) (val_19 x0 x2 x1 x3) := slice_lane (K := val_12 x0 x2 x1 x3) 2 256 slices_S256x8192_o0_256_S256x128 rfl

theorem dist_lane_20 : FromLane (val_12 x0 x2 x1 x3) (val_20 x0 x2 x1 x3) := slice_lane (K := val_12 x0 x2 x1 x3) 3 384 slices_S256x8192_o0_384_S256x128 rfl

theorem dist_lane_21 : FromLane (val_12 x0 x2 x1 x3) (val_21 x0 x2 x1 x3) := slice_lane (K := val_12 x0 x2 x1 x3) 4 512 slices_S256x8192_o0_512_S256x128 rfl

theorem dist_lane_22 : FromLane (val_12 x0 x2 x1 x3) (val_22 x0 x2 x1 x3) := slice_lane (K := val_12 x0 x2 x1 x3) 5 640 slices_S256x8192_o0_640_S256x128 rfl

theorem dist_lane_23 : FromLane (val_12 x0 x2 x1 x3) (val_23 x0 x2 x1 x3) := slice_lane (K := val_12 x0 x2 x1 x3) 6 768 slices_S256x8192_o0_768_S256x128 rfl

theorem dist_lane_24 : FromLane (val_12 x0 x2 x1 x3) (val_24 x0 x2 x1 x3) := slice_lane (K := val_12 x0 x2 x1 x3) 7 896 slices_S256x8192_o0_896_S256x128 rfl

theorem dist_lane_25 : FromLane (val_12 x0 x2 x1 x3) (val_25 x0 x2 x1 x3) := slice_lane (K := val_12 x0 x2 x1 x3) 8 1024 slices_S256x8192_o0_1024_S256x128 rfl

theorem dist_lane_26 : FromLane (val_12 x0 x2 x1 x3) (val_26 x0 x2 x1 x3) := slice_lane (K := val_12 x0 x2 x1 x3) 9 1152 slices_S256x8192_o0_1152_S256x128 rfl

theorem dist_lane_27 : FromLane (val_12 x0 x2 x1 x3) (val_27 x0 x2 x1 x3) := slice_lane (K := val_12 x0 x2 x1 x3) 10 1280 slices_S256x8192_o0_1280_S256x128 rfl

theorem dist_lane_28 : FromLane (val_12 x0 x2 x1 x3) (val_28 x0 x2 x1 x3) := slice_lane (K := val_12 x0 x2 x1 x3) 11 1408 slices_S256x8192_o0_1408_S256x128 rfl

theorem dist_lane_29 : FromLane (val_12 x0 x2 x1 x3) (val_29 x0 x2 x1 x3) := slice_lane (K := val_12 x0 x2 x1 x3) 12 1536 slices_S256x8192_o0_1536_S256x128 rfl

theorem dist_lane_30 : FromLane (val_12 x0 x2 x1 x3) (val_30 x0 x2 x1 x3) := slice_lane (K := val_12 x0 x2 x1 x3) 13 1664 slices_S256x8192_o0_1664_S256x128 rfl

theorem dist_lane_31 : FromLane (val_12 x0 x2 x1 x3) (val_31 x0 x2 x1 x3) := slice_lane (K := val_12 x0 x2 x1 x3) 14 1792 slices_S256x8192_o0_1792_S256x128 rfl

theorem dist_lane_32 : FromLane (val_12 x0 x2 x1 x3) (val_32 x0 x2 x1 x3) := slice_lane (K := val_12 x0 x2 x1 x3) 15 1920 slices_S256x8192_o0_1920_S256x128 rfl

theorem dist_lane_33 : FromLane (val_12 x0 x2 x1 x3) (val_33 x0 x2 x1 x3) := slice_lane (K := val_12 x0 x2 x1 x3) 16 2048 slices_S256x8192_o0_2048_S256x128 rfl

theorem dist_lane_34 : FromLane (val_12 x0 x2 x1 x3) (val_34 x0 x2 x1 x3) := slice_lane (K := val_12 x0 x2 x1 x3) 17 2176 slices_S256x8192_o0_2176_S256x128 rfl

theorem dist_lane_35 : FromLane (val_12 x0 x2 x1 x3) (val_35 x0 x2 x1 x3) := slice_lane (K := val_12 x0 x2 x1 x3) 18 2304 slices_S256x8192_o0_2304_S256x128 rfl

theorem dist_lane_36 : FromLane (val_12 x0 x2 x1 x3) (val_36 x0 x2 x1 x3) := slice_lane (K := val_12 x0 x2 x1 x3) 19 2432 slices_S256x8192_o0_2432_S256x128 rfl

theorem dist_lane_37 : FromLane (val_12 x0 x2 x1 x3) (val_37 x0 x2 x1 x3) := slice_lane (K := val_12 x0 x2 x1 x3) 20 2560 slices_S256x8192_o0_2560_S256x128 rfl

theorem dist_lane_38 : FromLane (val_12 x0 x2 x1 x3) (val_38 x0 x2 x1 x3) := slice_lane (K := val_12 x0 x2 x1 x3) 21 2688 slices_S256x8192_o0_2688_S256x128 rfl

theorem dist_lane_39 : FromLane (val_12 x0 x2 x1 x3) (val_39 x0 x2 x1 x3) := slice_lane (K := val_12 x0 x2 x1 x3) 22 2816 slices_S256x8192_o0_2816_S256x128 rfl

theorem dist_lane_40 : FromLane (val_12 x0 x2 x1 x3) (val_40 x0 x2 x1 x3) := slice_lane (K := val_12 x0 x2 x1 x3) 23 2944 slices_S256x8192_o0_2944_S256x128 rfl

theorem dist_lane_41 : FromLane (val_12 x0 x2 x1 x3) (val_41 x0 x2 x1 x3) := slice_lane (K := val_12 x0 x2 x1 x3) 24 3072 slices_S256x8192_o0_3072_S256x128 rfl

theorem dist_lane_42 : FromLane (val_12 x0 x2 x1 x3) (val_42 x0 x2 x1 x3) := slice_lane (K := val_12 x0 x2 x1 x3) 25 3200 slices_S256x8192_o0_3200_S256x128 rfl

theorem dist_lane_43 : FromLane (val_12 x0 x2 x1 x3) (val_43 x0 x2 x1 x3) := slice_lane (K := val_12 x0 x2 x1 x3) 26 3328 slices_S256x8192_o0_3328_S256x128 rfl

theorem dist_lane_44 : FromLane (val_12 x0 x2 x1 x3) (val_44 x0 x2 x1 x3) := slice_lane (K := val_12 x0 x2 x1 x3) 27 3456 slices_S256x8192_o0_3456_S256x128 rfl

theorem dist_lane_45 : FromLane (val_12 x0 x2 x1 x3) (val_45 x0 x2 x1 x3) := slice_lane (K := val_12 x0 x2 x1 x3) 28 3584 slices_S256x8192_o0_3584_S256x128 rfl

theorem dist_lane_46 : FromLane (val_12 x0 x2 x1 x3) (val_46 x0 x2 x1 x3) := slice_lane (K := val_12 x0 x2 x1 x3) 29 3712 slices_S256x8192_o0_3712_S256x128 rfl

theorem dist_lane_47 : FromLane (val_12 x0 x2 x1 x3) (val_47 x0 x2 x1 x3) := slice_lane (K := val_12 x0 x2 x1 x3) 30 3840 slices_S256x8192_o0_3840_S256x128 rfl

theorem dist_lane_48 : FromLane (val_12 x0 x2 x1 x3) (val_48 x0 x2 x1 x3) := slice_lane (K := val_12 x0 x2 x1 x3) 31 3968 slices_S256x8192_o0_3968_S256x128 rfl

theorem dist_lane_49 : FromLane (val_12 x0 x2 x1 x3) (val_49 x0 x2 x1 x3) := slice_lane (K := val_12 x0 x2 x1 x3) 32 4096 slices_S256x8192_o0_4096_S256x128 rfl

theorem dist_lane_50 : FromLane (val_12 x0 x2 x1 x3) (val_50 x0 x2 x1 x3) := slice_lane (K := val_12 x0 x2 x1 x3) 33 4224 slices_S256x8192_o0_4224_S256x128 rfl

theorem dist_lane_51 : FromLane (val_12 x0 x2 x1 x3) (val_51 x0 x2 x1 x3) := slice_lane (K := val_12 x0 x2 x1 x3) 34 4352 slices_S256x8192_o0_4352_S256x128 rfl

theorem dist_lane_52 : FromLane (val_12 x0 x2 x1 x3) (val_52 x0 x2 x1 x3) := slice_lane (K := val_12 x0 x2 x1 x3) 35 4480 slices_S256x8192_o0_4480_S256x128 rfl

theorem dist_lane_53 : FromLane (val_12 x0 x2 x1 x3) (val_53 x0 x2 x1 x3) := slice_lane (K := val_12 x0 x2 x1 x3) 36 4608 slices_S256x8192_o0_4608_S256x128 rfl

theorem dist_lane_54 : FromLane (val_12 x0 x2 x1 x3) (val_54 x0 x2 x1 x3) := slice_lane (K := val_12 x0 x2 x1 x3) 37 4736 slices_S256x8192_o0_4736_S256x128 rfl

theorem dist_lane_55 : FromLane (val_12 x0 x2 x1 x3) (val_55 x0 x2 x1 x3) := slice_lane (K := val_12 x0 x2 x1 x3) 38 4864 slices_S256x8192_o0_4864_S256x128 rfl

theorem dist_lane_56 : FromLane (val_12 x0 x2 x1 x3) (val_56 x0 x2 x1 x3) := slice_lane (K := val_12 x0 x2 x1 x3) 39 4992 slices_S256x8192_o0_4992_S256x128 rfl

theorem dist_lane_57 : FromLane (val_12 x0 x2 x1 x3) (val_57 x0 x2 x1 x3) := slice_lane (K := val_12 x0 x2 x1 x3) 40 5120 slices_S256x8192_o0_5120_S256x128 rfl

theorem dist_lane_58 : FromLane (val_12 x0 x2 x1 x3) (val_58 x0 x2 x1 x3) := slice_lane (K := val_12 x0 x2 x1 x3) 41 5248 slices_S256x8192_o0_5248_S256x128 rfl

theorem dist_lane_59 : FromLane (val_12 x0 x2 x1 x3) (val_59 x0 x2 x1 x3) := slice_lane (K := val_12 x0 x2 x1 x3) 42 5376 slices_S256x8192_o0_5376_S256x128 rfl

theorem dist_lane_60 : FromLane (val_12 x0 x2 x1 x3) (val_60 x0 x2 x1 x3) := slice_lane (K := val_12 x0 x2 x1 x3) 43 5504 slices_S256x8192_o0_5504_S256x128 rfl

theorem dist_lane_61 : FromLane (val_12 x0 x2 x1 x3) (val_61 x0 x2 x1 x3) := slice_lane (K := val_12 x0 x2 x1 x3) 44 5632 slices_S256x8192_o0_5632_S256x128 rfl

theorem dist_lane_62 : FromLane (val_12 x0 x2 x1 x3) (val_62 x0 x2 x1 x3) := slice_lane (K := val_12 x0 x2 x1 x3) 45 5760 slices_S256x8192_o0_5760_S256x128 rfl

theorem dist_lane_63 : FromLane (val_12 x0 x2 x1 x3) (val_63 x0 x2 x1 x3) := slice_lane (K := val_12 x0 x2 x1 x3) 46 5888 slices_S256x8192_o0_5888_S256x128 rfl

theorem dist_lane_64 : FromLane (val_12 x0 x2 x1 x3) (val_64 x0 x2 x1 x3) := slice_lane (K := val_12 x0 x2 x1 x3) 47 6016 slices_S256x8192_o0_6016_S256x128 rfl

theorem dist_lane_65 : FromLane (val_12 x0 x2 x1 x3) (val_65 x0 x2 x1 x3) := slice_lane (K := val_12 x0 x2 x1 x3) 48 6144 slices_S256x8192_o0_6144_S256x128 rfl

theorem dist_lane_66 : FromLane (val_12 x0 x2 x1 x3) (val_66 x0 x2 x1 x3) := slice_lane (K := val_12 x0 x2 x1 x3) 49 6272 slices_S256x8192_o0_6272_S256x128 rfl

theorem dist_lane_67 : FromLane (val_12 x0 x2 x1 x3) (val_67 x0 x2 x1 x3) := slice_lane (K := val_12 x0 x2 x1 x3) 50 6400 slices_S256x8192_o0_6400_S256x128 rfl

theorem dist_lane_68 : FromLane (val_12 x0 x2 x1 x3) (val_68 x0 x2 x1 x3) := slice_lane (K := val_12 x0 x2 x1 x3) 51 6528 slices_S256x8192_o0_6528_S256x128 rfl

theorem dist_lane_69 : FromLane (val_12 x0 x2 x1 x3) (val_69 x0 x2 x1 x3) := slice_lane (K := val_12 x0 x2 x1 x3) 52 6656 slices_S256x8192_o0_6656_S256x128 rfl

theorem dist_lane_70 : FromLane (val_12 x0 x2 x1 x3) (val_70 x0 x2 x1 x3) := slice_lane (K := val_12 x0 x2 x1 x3) 53 6784 slices_S256x8192_o0_6784_S256x128 rfl

theorem dist_lane_71 : FromLane (val_12 x0 x2 x1 x3) (val_71 x0 x2 x1 x3) := slice_lane (K := val_12 x0 x2 x1 x3) 54 6912 slices_S256x8192_o0_6912_S256x128 rfl

theorem dist_lane_72 : FromLane (val_12 x0 x2 x1 x3) (val_72 x0 x2 x1 x3) := slice_lane (K := val_12 x0 x2 x1 x3) 55 7040 slices_S256x8192_o0_7040_S256x128 rfl

theorem dist_lane_73 : FromLane (val_12 x0 x2 x1 x3) (val_73 x0 x2 x1 x3) := slice_lane (K := val_12 x0 x2 x1 x3) 56 7168 slices_S256x8192_o0_7168_S256x128 rfl

theorem dist_lane_74 : FromLane (val_12 x0 x2 x1 x3) (val_74 x0 x2 x1 x3) := slice_lane (K := val_12 x0 x2 x1 x3) 57 7296 slices_S256x8192_o0_7296_S256x128 rfl

theorem dist_lane_75 : FromLane (val_12 x0 x2 x1 x3) (val_75 x0 x2 x1 x3) := slice_lane (K := val_12 x0 x2 x1 x3) 58 7424 slices_S256x8192_o0_7424_S256x128 rfl

theorem dist_lane_76 : FromLane (val_12 x0 x2 x1 x3) (val_76 x0 x2 x1 x3) := slice_lane (K := val_12 x0 x2 x1 x3) 59 7552 slices_S256x8192_o0_7552_S256x128 rfl

theorem dist_lane_77 : FromLane (val_12 x0 x2 x1 x3) (val_77 x0 x2 x1 x3) := slice_lane (K := val_12 x0 x2 x1 x3) 60 7680 slices_S256x8192_o0_7680_S256x128 rfl

theorem dist_lane_78 : FromLane (val_12 x0 x2 x1 x3) (val_78 x0 x2 x1 x3) := slice_lane (K := val_12 x0 x2 x1 x3) 61 7808 slices_S256x8192_o0_7808_S256x128 rfl

theorem dist_lane_79 : FromLane (val_12 x0 x2 x1 x3) (val_79 x0 x2 x1 x3) := slice_lane (K := val_12 x0 x2 x1 x3) 62 7936 slices_S256x8192_o0_7936_S256x128 rfl

theorem dist_lane_80 : FromLane (val_12 x0 x2 x1 x3) (val_80 x0 x2 x1 x3) := slice_lane (K := val_12 x0 x2 x1 x3) 63 8064 slices_S256x8192_o0_8064_S256x128 rfl

theorem dist_lane_107 : FromLane (val_12 x0 x2 x1 x3) (val_107 x0 x2 x1 x3) := by
  have h81 := min_lane (dist_lane_17 x0 x1 x2 x3) (dist_lane_18 x0 x1 x2 x3)
  have h82 := min_lane h81 (dist_lane_19 x0 x1 x2 x3)
  have h83 := min_lane h82 (dist_lane_20 x0 x1 x2 x3)
  have h84 := min_lane h83 (dist_lane_21 x0 x1 x2 x3)
  have h85 := min_lane h84 (dist_lane_22 x0 x1 x2 x3)
  have h86 := min_lane h85 (dist_lane_23 x0 x1 x2 x3)
  have h87 := min_lane h86 (dist_lane_24 x0 x1 x2 x3)
  have h88 := min_lane h87 (dist_lane_25 x0 x1 x2 x3)
  have h89 := min_lane h88 (dist_lane_26 x0 x1 x2 x3)
  have h90 := min_lane h89 (dist_lane_27 x0 x1 x2 x3)
  have h91 := min_lane h90 (dist_lane_28 x0 x1 x2 x3)
  have h92 := min_lane h91 (dist_lane_29 x0 x1 x2 x3)
  have h93 := min_lane h92 (dist_lane_30 x0 x1 x2 x3)
  have h94 := min_lane h93 (dist_lane_31 x0 x1 x2 x3)
  have h95 := min_lane h94 (dist_lane_32 x0 x1 x2 x3)
  have h96 := min_lane h95 (dist_lane_33 x0 x1 x2 x3)
  have h97 := min_lane h96 (dist_lane_34 x0 x1 x2 x3)
  have h98 := min_lane h97 (dist_lane_35 x0 x1 x2 x3)
  have h99 := min_lane h98 (dist_lane_36 x0 x1 x2 x3)
  have h100 := min_lane h99 (dist_lane_37 x0 x1 x2 x3)
  have h101 := min_lane h100 (dist_lane_38 x0 x1 x2 x3)
  have h102 := min_lane h101 (dist_lane_39 x0 x1 x2 x3)
  have h103 := min_lane h102 (dist_lane_40 x0 x1 x2 x3)
  have h104 := min_lane h103 (dist_lane_41 x0 x1 x2 x3)
  have h105 := min_lane h104 (dist_lane_42 x0 x1 x2 x3)
  have h106 := min_lane h105 (dist_lane_43 x0 x1 x2 x3)
  have h107 := min_lane h106 (dist_lane_44 x0 x1 x2 x3)
  exact h107

/-- The least distance per lane. -/
theorem dist_lanes : ∃ x, FromLane (val_12 x0 x2 x1 x3) x ∧ keys x0 x1 x2 x3
    = addf (subf (val_12 x0 x2 x1 x3) (broadcastTo S256x8192 (shapeCast S256x1 (multiReduction .minimumf [1] S256 x 0x7F800000#32 reduces_S256x128_S256 (.inl rfl) rfl) shapeCasts_S256_S256x1) broadcasts_S256x1_S256x8192)) val_16 := by
  have h108 := min_lane (dist_lane_107 x0 x1 x2 x3) (dist_lane_45 x0 x1 x2 x3)
  have h109 := min_lane h108 (dist_lane_46 x0 x1 x2 x3)
  have h110 := min_lane h109 (dist_lane_47 x0 x1 x2 x3)
  have h111 := min_lane h110 (dist_lane_48 x0 x1 x2 x3)
  have h112 := min_lane h111 (dist_lane_49 x0 x1 x2 x3)
  have h113 := min_lane h112 (dist_lane_50 x0 x1 x2 x3)
  have h114 := min_lane h113 (dist_lane_51 x0 x1 x2 x3)
  have h115 := min_lane h114 (dist_lane_52 x0 x1 x2 x3)
  have h116 := min_lane h115 (dist_lane_53 x0 x1 x2 x3)
  have h117 := min_lane h116 (dist_lane_54 x0 x1 x2 x3)
  have h118 := min_lane h117 (dist_lane_55 x0 x1 x2 x3)
  have h119 := min_lane h118 (dist_lane_56 x0 x1 x2 x3)
  have h120 := min_lane h119 (dist_lane_57 x0 x1 x2 x3)
  have h121 := min_lane h120 (dist_lane_58 x0 x1 x2 x3)
  have h122 := min_lane h121 (dist_lane_59 x0 x1 x2 x3)
  have h123 := min_lane h122 (dist_lane_60 x0 x1 x2 x3)
  have h124 := min_lane h123 (dist_lane_61 x0 x1 x2 x3)
  have h125 := min_lane h124 (dist_lane_62 x0 x1 x2 x3)
  have h126 := min_lane h125 (dist_lane_63 x0 x1 x2 x3)
  have h127 := min_lane h126 (dist_lane_64 x0 x1 x2 x3)
  have h128 := min_lane h127 (dist_lane_65 x0 x1 x2 x3)
  have h129 := min_lane h128 (dist_lane_66 x0 x1 x2 x3)
  have h130 := min_lane h129 (dist_lane_67 x0 x1 x2 x3)
  have h131 := min_lane h130 (dist_lane_68 x0 x1 x2 x3)
  have h132 := min_lane h131 (dist_lane_69 x0 x1 x2 x3)
  have h133 := min_lane h132 (dist_lane_70 x0 x1 x2 x3)
  have h134 := min_lane h133 (dist_lane_71 x0 x1 x2 x3)
  have h135 := min_lane h134 (dist_lane_72 x0 x1 x2 x3)
  have h136 := min_lane h135 (dist_lane_73 x0 x1 x2 x3)
  have h137 := min_lane h136 (dist_lane_74 x0 x1 x2 x3)
  have h138 := min_lane h137 (dist_lane_75 x0 x1 x2 x3)
  have h139 := min_lane h138 (dist_lane_76 x0 x1 x2 x3)
  have h140 := min_lane h139 (dist_lane_77 x0 x1 x2 x3)
  have h141 := min_lane h140 (dist_lane_78 x0 x1 x2 x3)
  have h142 := min_lane h141 (dist_lane_79 x0 x1 x2 x3)
  have h143 := min_lane h142 (dist_lane_80 x0 x1 x2 x3)
  exact ⟨_, h143, rfl⟩

theorem net_160 : FromRow (val_148 x0 x2 x1 x3) (val_160 x0 x2 x1 x3) := from_81 (val_12 x0 x2 x1 x3) val_16 (val_45 x0 x2 x1 x3) (val_46 x0 x2 x1 x3) (val_47 x0 x2 x1 x3) (val_48 x0 x2 x1 x3) (val_49 x0 x2 x1 x3) (val_50 x0 x2 x1 x3) (val_51 x0 x2 x1 x3) (val_52 x0 x2 x1 x3) (val_53 x0 x2 x1 x3) (val_54 x0 x2 x1 x3) (val_55 x0 x2 x1 x3) (val_56 x0 x2 x1 x3) (val_57 x0 x2 x1 x3) (val_58 x0 x2 x1 x3) (val_59 x0 x2 x1 x3) (val_60 x0 x2 x1 x3) (val_61 x0 x2 x1 x3) (val_62 x0 x2 x1 x3) (val_63 x0 x2 x1 x3) (val_64 x0 x2 x1 x3) (val_65 x0 x2 x1 x3) (val_66 x0 x2 x1 x3) (val_67 x0 x2 x1 x3) (val_68 x0 x2 x1 x3) (val_69 x0 x2 x1 x3) (val_70 x0 x2 x1 x3) (val_71 x0 x2 x1 x3) (val_72 x0 x2 x1 x3) (val_73 x0 x2 x1 x3) (val_74 x0 x2 x1 x3) (val_75 x0 x2 x1 x3) (val_76 x0 x2 x1 x3) (val_77 x0 x2 x1 x3) (val_78 x0 x2 x1 x3) (val_79 x0 x2 x1 x3) (val_80 x0 x2 x1 x3) (val_107 x0 x2 x1 x3)

theorem net_161 : FromRow (val_148 x0 x2 x1 x3) (val_161 x0 x2 x1 x3) := from_82 (val_12 x0 x2 x1 x3) val_16 (val_45 x0 x2 x1 x3) (val_46 x0 x2 x1 x3) (val_47 x0 x2 x1 x3) (val_48 x0 x2 x1 x3) (val_49 x0 x2 x1 x3) (val_50 x0 x2 x1 x3) (val_51 x0 x2 x1 x3) (val_52 x0 x2 x1 x3) (val_53 x0 x2 x1 x3) (val_54 x0 x2 x1 x3) (val_55 x0 x2 x1 x3) (val_56 x0 x2 x1 x3) (val_57 x0 x2 x1 x3) (val_58 x0 x2 x1 x3) (val_59 x0 x2 x1 x3) (val_60 x0 x2 x1 x3) (val_61 x0 x2 x1 x3) (val_62 x0 x2 x1 x3) (val_63 x0 x2 x1 x3) (val_64 x0 x2 x1 x3) (val_65 x0 x2 x1 x3) (val_66 x0 x2 x1 x3) (val_67 x0 x2 x1 x3) (val_68 x0 x2 x1 x3) (val_69 x0 x2 x1 x3) (val_70 x0 x2 x1 x3) (val_71 x0 x2 x1 x3) (val_72 x0 x2 x1 x3) (val_73 x0 x2 x1 x3) (val_74 x0 x2 x1 x3) (val_75 x0 x2 x1 x3) (val_76 x0 x2 x1 x3) (val_77 x0 x2 x1 x3) (val_78 x0 x2 x1 x3) (val_79 x0 x2 x1 x3) (val_80 x0 x2 x1 x3) (val_107 x0 x2 x1 x3)

theorem net_163 : FromRow (val_148 x0 x2 x1 x3) (val_163 x0 x2 x1 x3) := from_84 (val_12 x0 x2 x1 x3) val_16 (val_45 x0 x2 x1 x3) (val_46 x0 x2 x1 x3) (val_47 x0 x2 x1 x3) (val_48 x0 x2 x1 x3) (val_49 x0 x2 x1 x3) (val_50 x0 x2 x1 x3) (val_51 x0 x2 x1 x3) (val_52 x0 x2 x1 x3) (val_53 x0 x2 x1 x3) (val_54 x0 x2 x1 x3) (val_55 x0 x2 x1 x3) (val_56 x0 x2 x1 x3) (val_57 x0 x2 x1 x3) (val_58 x0 x2 x1 x3) (val_59 x0 x2 x1 x3) (val_60 x0 x2 x1 x3) (val_61 x0 x2 x1 x3) (val_62 x0 x2 x1 x3) (val_63 x0 x2 x1 x3) (val_64 x0 x2 x1 x3) (val_65 x0 x2 x1 x3) (val_66 x0 x2 x1 x3) (val_67 x0 x2 x1 x3) (val_68 x0 x2 x1 x3) (val_69 x0 x2 x1 x3) (val_70 x0 x2 x1 x3) (val_71 x0 x2 x1 x3) (val_72 x0 x2 x1 x3) (val_73 x0 x2 x1 x3) (val_74 x0 x2 x1 x3) (val_75 x0 x2 x1 x3) (val_76 x0 x2 x1 x3) (val_77 x0 x2 x1 x3) (val_78 x0 x2 x1 x3) (val_79 x0 x2 x1 x3) (val_80 x0 x2 x1 x3) (val_107 x0 x2 x1 x3)

theorem net_164 : FromLane (val_148 x0 x2 x1 x3) (val_164 x0 x2 x1 x3) := from_85 (val_12 x0 x2 x1 x3) val_16 (val_45 x0 x2 x1 x3) (val_46 x0 x2 x1 x3) (val_47 x0 x2 x1 x3) (val_48 x0 x2 x1 x3) (val_49 x0 x2 x1 x3) (val_50 x0 x2 x1 x3) (val_51 x0 x2 x1 x3) (val_52 x0 x2 x1 x3) (val_53 x0 x2 x1 x3) (val_54 x0 x2 x1 x3) (val_55 x0 x2 x1 x3) (val_56 x0 x2 x1 x3) (val_57 x0 x2 x1 x3) (val_58 x0 x2 x1 x3) (val_59 x0 x2 x1 x3) (val_60 x0 x2 x1 x3) (val_61 x0 x2 x1 x3) (val_62 x0 x2 x1 x3) (val_63 x0 x2 x1 x3) (val_64 x0 x2 x1 x3) (val_65 x0 x2 x1 x3) (val_66 x0 x2 x1 x3) (val_67 x0 x2 x1 x3) (val_68 x0 x2 x1 x3) (val_69 x0 x2 x1 x3) (val_70 x0 x2 x1 x3) (val_71 x0 x2 x1 x3) (val_72 x0 x2 x1 x3) (val_73 x0 x2 x1 x3) (val_74 x0 x2 x1 x3) (val_75 x0 x2 x1 x3) (val_76 x0 x2 x1 x3) (val_77 x0 x2 x1 x3) (val_78 x0 x2 x1 x3) (val_79 x0 x2 x1 x3) (val_80 x0 x2 x1 x3) (val_107 x0 x2 x1 x3)

theorem net_165 : FromRow (val_148 x0 x2 x1 x3) (val_165 x0 x2 x1 x3) := from_86 (val_12 x0 x2 x1 x3) val_16 (val_45 x0 x2 x1 x3) (val_46 x0 x2 x1 x3) (val_47 x0 x2 x1 x3) (val_48 x0 x2 x1 x3) (val_49 x0 x2 x1 x3) (val_50 x0 x2 x1 x3) (val_51 x0 x2 x1 x3) (val_52 x0 x2 x1 x3) (val_53 x0 x2 x1 x3) (val_54 x0 x2 x1 x3) (val_55 x0 x2 x1 x3) (val_56 x0 x2 x1 x3) (val_57 x0 x2 x1 x3) (val_58 x0 x2 x1 x3) (val_59 x0 x2 x1 x3) (val_60 x0 x2 x1 x3) (val_61 x0 x2 x1 x3) (val_62 x0 x2 x1 x3) (val_63 x0 x2 x1 x3) (val_64 x0 x2 x1 x3) (val_65 x0 x2 x1 x3) (val_66 x0 x2 x1 x3) (val_67 x0 x2 x1 x3) (val_68 x0 x2 x1 x3) (val_69 x0 x2 x1 x3) (val_70 x0 x2 x1 x3) (val_71 x0 x2 x1 x3) (val_72 x0 x2 x1 x3) (val_73 x0 x2 x1 x3) (val_74 x0 x2 x1 x3) (val_75 x0 x2 x1 x3) (val_76 x0 x2 x1 x3) (val_77 x0 x2 x1 x3) (val_78 x0 x2 x1 x3) (val_79 x0 x2 x1 x3) (val_80 x0 x2 x1 x3) (val_107 x0 x2 x1 x3)

theorem net_220 : FromRow (val_148 x0 x2 x1 x3) (val_220 x0 x2 x1 x3) := from_123 (val_148 x0 x2 x1 x3) (net_160 x0 x1 x2 x3) (net_163 x0 x1 x2 x3) (net_164 x0 x1 x2 x3)

theorem net_221 : FromRow (val_148 x0 x2 x1 x3) (val_221 x0 x2 x1 x3) := from_124 (val_148 x0 x2 x1 x3) (net_160 x0 x1 x2 x3) (net_161 x0 x1 x2 x3) (net_163 x0 x1 x2 x3) (net_164 x0 x1 x2 x3) (net_165 x0 x1 x2 x3)

theorem net_223 : FromRow (val_148 x0 x2 x1 x3) (val_223 x0 x2 x1 x3) := from_126 (val_148 x0 x2 x1 x3) (net_164 x0 x1 x2 x3)

theorem net_224 : FromLane (val_148 x0 x2 x1 x3) (val_224 x0 x2 x1 x3) := from_127 (val_148 x0 x2 x1 x3) (net_164 x0 x1 x2 x3)

theorem net_225 : FromRow (val_148 x0 x2 x1 x3) (val_225 x0 x2 x1 x3) := from_128 (val_148 x0 x2 x1 x3) (net_160 x0 x1 x2 x3) (net_163 x0 x1 x2 x3) (net_164 x0 x1 x2 x3)

theorem net_280 : FromRow (val_148 x0 x2 x1 x3) (val_280 x0 x2 x1 x3) := from_165 (val_148 x0 x2 x1 x3) (net_220 x0 x1 x2 x3) (net_223 x0 x1 x2 x3) (net_224 x0 x1 x2 x3)

theorem net_281 : FromRow (val_148 x0 x2 x1 x3) (val_281 x0 x2 x1 x3) := from_166 (val_148 x0 x2 x1 x3) (net_220 x0 x1 x2 x3) (net_221 x0 x1 x2 x3) (net_223 x0 x1 x2 x3) (net_224 x0 x1 x2 x3) (net_225 x0 x1 x2 x3)

theorem net_283 : FromRow (val_148 x0 x2 x1 x3) (val_283 x0 x2 x1 x3) := from_168 (val_148 x0 x2 x1 x3) (net_224 x0 x1 x2 x3)

theorem net_284 : FromLane (val_148 x0 x2 x1 x3) (val_284 x0 x2 x1 x3) := from_169 (val_148 x0 x2 x1 x3) (net_224 x0 x1 x2 x3)

theorem net_285 : FromRow (val_148 x0 x2 x1 x3) (val_285 x0 x2 x1 x3) := from_170 (val_148 x0 x2 x1 x3) (net_220 x0 x1 x2 x3) (net_223 x0 x1 x2 x3) (net_224 x0 x1 x2 x3)

theorem net_340 : FromRow (val_148 x0 x2 x1 x3) (val_340 x0 x2 x1 x3) := from_207 (val_148 x0 x2 x1 x3) (net_280 x0 x1 x2 x3) (net_283 x0 x1 x2 x3) (net_284 x0 x1 x2 x3)

theorem net_341 : FromRow (val_148 x0 x2 x1 x3) (val_341 x0 x2 x1 x3) := from_208 (val_148 x0 x2 x1 x3) (net_280 x0 x1 x2 x3) (net_281 x0 x1 x2 x3) (net_283 x0 x1 x2 x3) (net_284 x0 x1 x2 x3) (net_285 x0 x1 x2 x3)

theorem net_343 : FromRow (val_148 x0 x2 x1 x3) (val_343 x0 x2 x1 x3) := from_210 (val_148 x0 x2 x1 x3) (net_284 x0 x1 x2 x3)

theorem net_344 : FromLane (val_148 x0 x2 x1 x3) (val_344 x0 x2 x1 x3) := from_211 (val_148 x0 x2 x1 x3) (net_284 x0 x1 x2 x3)

theorem net_345 : FromRow (val_148 x0 x2 x1 x3) (val_345 x0 x2 x1 x3) := from_212 (val_148 x0 x2 x1 x3) (net_280 x0 x1 x2 x3) (net_283 x0 x1 x2 x3) (net_284 x0 x1 x2 x3)

theorem net_400 : FromRow (val_148 x0 x2 x1 x3) (val_400 x0 x2 x1 x3) := from_249 (val_148 x0 x2 x1 x3) (net_340 x0 x1 x2 x3) (net_343 x0 x1 x2 x3) (net_344 x0 x1 x2 x3)

theorem net_401 : FromRow (val_148 x0 x2 x1 x3) (val_401 x0 x2 x1 x3) := from_250 (val_148 x0 x2 x1 x3) (net_340 x0 x1 x2 x3) (net_341 x0 x1 x2 x3) (net_343 x0 x1 x2 x3) (net_344 x0 x1 x2 x3) (net_345 x0 x1 x2 x3)

theorem net_403 : FromRow (val_148 x0 x2 x1 x3) (val_403 x0 x2 x1 x3) := from_252 (val_148 x0 x2 x1 x3) (net_344 x0 x1 x2 x3)

theorem net_404 : FromLane (val_148 x0 x2 x1 x3) (val_404 x0 x2 x1 x3) := from_253 (val_148 x0 x2 x1 x3) (net_344 x0 x1 x2 x3)

theorem net_405 : FromRow (val_148 x0 x2 x1 x3) (val_405 x0 x2 x1 x3) := from_254 (val_148 x0 x2 x1 x3) (net_340 x0 x1 x2 x3) (net_343 x0 x1 x2 x3) (net_344 x0 x1 x2 x3)

theorem net_460 : FromRow (val_148 x0 x2 x1 x3) (val_460 x0 x2 x1 x3) := from_291 (val_148 x0 x2 x1 x3) (net_400 x0 x1 x2 x3) (net_403 x0 x1 x2 x3) (net_404 x0 x1 x2 x3)

theorem net_461 : FromRow (val_148 x0 x2 x1 x3) (val_461 x0 x2 x1 x3) := from_292 (val_148 x0 x2 x1 x3) (net_400 x0 x1 x2 x3) (net_401 x0 x1 x2 x3) (net_403 x0 x1 x2 x3) (net_404 x0 x1 x2 x3) (net_405 x0 x1 x2 x3)

theorem net_463 : FromRow (val_148 x0 x2 x1 x3) (val_463 x0 x2 x1 x3) := from_294 (val_148 x0 x2 x1 x3) (net_404 x0 x1 x2 x3)

theorem net_464 : FromLane (val_148 x0 x2 x1 x3) (val_464 x0 x2 x1 x3) := from_295 (val_148 x0 x2 x1 x3) (net_404 x0 x1 x2 x3)

theorem net_465 : FromRow (val_148 x0 x2 x1 x3) (val_465 x0 x2 x1 x3) := from_296 (val_148 x0 x2 x1 x3) (net_400 x0 x1 x2 x3) (net_403 x0 x1 x2 x3) (net_404 x0 x1 x2 x3)

theorem net_520 : FromRow (val_148 x0 x2 x1 x3) (val_520 x0 x2 x1 x3) := from_333 (val_148 x0 x2 x1 x3) (net_460 x0 x1 x2 x3) (net_463 x0 x1 x2 x3) (net_464 x0 x1 x2 x3)

theorem net_521 : FromRow (val_148 x0 x2 x1 x3) (val_521 x0 x2 x1 x3) := from_334 (val_148 x0 x2 x1 x3) (net_460 x0 x1 x2 x3) (net_461 x0 x1 x2 x3) (net_463 x0 x1 x2 x3) (net_464 x0 x1 x2 x3) (net_465 x0 x1 x2 x3)

theorem net_523 : FromRow (val_148 x0 x2 x1 x3) (val_523 x0 x2 x1 x3) := from_336 (val_148 x0 x2 x1 x3) (net_464 x0 x1 x2 x3)

theorem net_524 : FromLane (val_148 x0 x2 x1 x3) (val_524 x0 x2 x1 x3) := from_337 (val_148 x0 x2 x1 x3) (net_464 x0 x1 x2 x3)

theorem net_525 : FromRow (val_148 x0 x2 x1 x3) (val_525 x0 x2 x1 x3) := from_338 (val_148 x0 x2 x1 x3) (net_460 x0 x1 x2 x3) (net_463 x0 x1 x2 x3) (net_464 x0 x1 x2 x3)

/-- The candidates of a row. -/
theorem cands_spec (r : Fin 256) : Cert.Rows.Candidates (keyRow x0 x1 x2 x3 r) (cands x0 x1 x2 x3 r) :=
  candidates_from (val_148 x0 x2 x1 x3) (net_520 x0 x1 x2 x3) (net_521 x0 x1 x2 x3) (net_523 x0 x1 x2 x3) (net_524 x0 x1 x2 x3) (net_525 x0 x1 x2 x3) r

end Cert.KernelIdeal.Hand

end
-- ==== Proof.Ideal.Row.lean ====
module

public import proofs.«01_k».proof.Proof.Ideal.Blocks
public import Idealize.ShloMosaic.Lib.Pointwise.Contract

/-!
# The loop's threshold

On a row whose keys are all different and finite, the loop ends at a threshold with exactly fifteen
keys at or below it. The three outputs of a block are then sums over these fifteen columns.
-/

@[expose] public section

noncomputable section

namespace Cert.KernelIdeal.Hand

open Idealize.ShloMosaic Cert.KernelIdeal Cert.KernelIdeal.Gen Cert.KernelIdeal.Facts

theorem cmp_olt (a b : EReal) : Ideal.cmp .olt a b = BitVec.ofBool (decide (a < b)) := rfl
theorem cmp_ole (a b : EReal) : Ideal.cmp .ole a b = BitVec.ofBool (decide (a ≤ b)) := rfl

theorem toNat_ofBool (b : Bool) : (BitVec.ofBool b).toNat = if b then 1 else 0 := by
  cases b <;> rfl

theorem select_ofBool {α : Type} (p : Prop) [Decidable p] (x y : α) :
    Scalar.select (BitVec.ofBool (decide p)) x y = if p then x else y := by
  by_cases h : p
  · rw [decide_eq_true h, if_pos h]; rfl
  · rw [decide_eq_false h, if_neg h]; rfl

/-- The number of marked keys of a row. -/
theorem marked_eq (K : FVec Ideal S256x8192 .f32) (t : FVec Ideal S256x1 .f32) (r : Fin 256) :
    marked (atMost K t) r = (Cert.Rows.atOrBelow (fun j => K (ix2 (n0 := 256) (n1 := 8192) r j)) (t (colIdx r))).card := by
  unfold marked Cert.Rows.atOrBelow
  rw [Finset.card_filter]
  refine Finset.sum_congr rfl fun k _ => ?_
  show (Ideal.cmp .ole (K (ix2 (n0 := 256) (n1 := 8192) r k)) (broadcastTo S256x8192 t broadcasts_S256x1_S256x8192 (ix2 (n0 := 256) (n1 := 8192) r k))).toNat = _
  rw [spread_wide, cmp_ole, toNat_ofBool]
  by_cases h : (K (ix2 (n0 := 256) (n1 := 8192) r k) : EReal) ≤ t (colIdx r)
  · rw [if_pos (by simpa using h), if_pos h]
  · rw [if_neg (by simpa using h), if_neg h]

theorem zero_sub_top : Scalar.subf (F := Ideal) (φ := .f32) (Scalar.ofBits .f32 0x00000000#32) (Scalar.ofBits .f32 0x7F800000#32) = (⊥ : EReal) := by
  show Ideal.ofBits .f32 0x00000000#32 - Ideal.ofBits .f32 0x7F800000#32 = (⊥ : EReal)
  rw [ofBits_inf, Ideal.ofBits_zero_f32]
  rfl

/-- One trip on one threshold. -/
theorem trip_at (K : FVec Ideal S256x8192 .f32) (t : FVec Ideal S256x1 .f32) (f : S256x1.Idx → ℕ)
    (hf : ∀ i, f i ≤ 8192) (r : Fin 256) :
    k0_pay3 K (Scalar.ofBits .f32 0x7F800000#32) t (fun i => natE (f i)) (colIdx r)
      = if 15 < f (colIdx r) then Cert.Rows.prev (fun j => K (ix2 (n0 := 256) (n1 := 8192) r j)) (t (colIdx r)) else t (colIdx r) := by
  let below : FVec Ideal S256x8192 .f32 := select (cmpf .olt K (broadcastTo S256x8192 t broadcasts_S256x1_S256x8192)) K
    (broadcast S256x8192 (Scalar.subf (Scalar.ofBits .f32 0x00000000#32) (Scalar.ofBits .f32 0x7F800000#32)))
  have hb : ∀ j, below (ix2 (n0 := 256) (n1 := 8192) r j)
      = if (K (ix2 (n0 := 256) (n1 := 8192) r j) : EReal) < t (colIdx r) then (K (ix2 (n0 := 256) (n1 := 8192) r j) : EReal) else ⊥ := by
    intro j
    show Scalar.select (Ideal.cmp .olt (K (ix2 (n0 := 256) (n1 := 8192) r j)) (broadcastTo S256x8192 t broadcasts_S256x1_S256x8192 (ix2 (n0 := 256) (n1 := 8192) r j)))
      (K (ix2 (n0 := 256) (n1 := 8192) r j)) (Scalar.subf (F := Ideal) (φ := .f32) (Scalar.ofBits .f32 0x00000000#32) (Scalar.ofBits .f32 0x7F800000#32)) = _
    rw [spread_wide, cmp_olt, zero_sub_top, select_ofBool]
  have hm : shapeCast S256x1 (multiReduction .maximumf [1] S256 below 0xFF800000#32 reduces_S256x8192_S256 (.inl rfl) rfl) shapeCasts_S256_S256x1 (colIdx r)
      = Cert.Rows.prev (fun j => K (ix2 (n0 := 256) (n1 := 8192) r j)) (t (colIdx r)) := by
    rw [column_at]
    have h : multiReduction .maximumf [1] S256 below 0xFF800000#32 reduces_S256x8192_S256 (.inl rfl) rfl (ix1 (n0 := 256) r)
        = Finset.univ.fold max (Ideal.ofBits .f32 0xFF800000#32) (fun c : Fin 8192 => (below (ix2 (n0 := 256) (n1 := 8192) r c) : EReal)) := by
      generalize below = b
      pointwise
    rw [h, ofBits_negInf]
    unfold Cert.Rows.prev
    simp only [hb]
    rfl
  show Scalar.select (FloatOps.cmpf (F := Ideal) (φ := .f32) .ogt (natE (f (colIdx r))) (FloatOps.ofBits .f32 0x41700000#32))
    (shapeCast S256x1 (multiReduction .maximumf [1] S256 below 0xFF800000#32 reduces_S256x8192_S256 (.inl rfl) rfl) shapeCasts_S256_S256x1 (colIdx r))
    (t (colIdx r)) = _
  rw [counting.aboveV _ (hf _), hm, select_ofBool]

theorem trip_iterate_counts (K : FVec Ideal S256x8192 .f32) (top : Ideal .f32) (t c : FVec Ideal S256x1 .f32) (n : ℕ) :
    ((trip K top)^[n] (t, c)).2 = k0_pay4^[n] c := by
  induction n with
  | zero => rfl
  | succ n ih => rw [Function.iterate_succ_apply', Function.iterate_succ_apply', ← ih]; rfl

theorem step1_iterate_le (n a : ℕ) : step1^[n] a ≤ a := by
  induction n with
  | zero => exact le_refl _
  | succ n ih => rw [Function.iterate_succ_apply']; exact le_trans (step1_le _) ih

/-- After any number of trips a row's threshold is one of its keys, its count is right and at least fifteen. -/
theorem held_trips (K : FVec Ideal S256x8192 .f32) (t : FVec Ideal S256x1 .f32) (f : S256x1.Idx → ℕ) (hf : ∀ i, f i ≤ 8192)
    (r : Fin 256) (hinj : Function.Injective fun j : Fin 8192 => (K (ix2 (n0 := 256) (n1 := 8192) r j) : EReal))
    (h0 : Cert.Rows.Held (fun j => K (ix2 (n0 := 256) (n1 := 8192) r j)) (t (colIdx r)) (f (colIdx r))) (n : ℕ) :
    Cert.Rows.Held (fun j => K (ix2 (n0 := 256) (n1 := 8192) r j))
      (((trip K (Scalar.ofBits .f32 0x7F800000#32))^[n] (t, fun i => natE (f i))).1 (colIdx r)) (step1^[n] (f (colIdx r))) := by
  induction n with
  | zero => exact h0
  | succ n ih =>
    rw [Function.iterate_succ_apply', Function.iterate_succ_apply']
    have hc := trip_iterate_counts K (Scalar.ofBits .f32 0x7F800000#32) t (fun i => natE (f i)) n
    rw [counting.trips_counts n f hf] at hc
    generalize ((trip K (Scalar.ofBits .f32 0x7F800000#32))^[n] (t, fun i => natE (f i))) = p at ih hc
    unfold trip
    dsimp only
    rw [hc, trip_at _ _ _ (fun i => le_trans (step1_iterate_le _ _) (hf i))]
    exact ih.step hinj

section Block
variable (x0 : Vec Ideal S256x256 .f32) (x1 : Vec Ideal S256x1 .f32) (x2 : Vec Ideal S8192x256 .f32) (x3 : Vec Ideal S1x8192 .f32)

/-- How many keys of each row the loop's first thresholds leave. -/
def count0 : S256x1.Idx → ℕ := fun i => marked (atMost (val_148 x0 x2 x1 x3) (thr0 x0 x2 x1 x3)) (i 0)

theorem count0_le (i : S256x1.Idx) : count0 x0 x1 x2 x3 i ≤ 8192 := marked_le _ _

theorem cnt0_eq : cnt0 x0 x2 x1 x3 = fun i => natE (count0 x0 x1 x2 x3 i) := counting.counts _ _ _ _

theorem held_first (r : Fin 256) (hinj : Function.Injective (keyRow x0 x1 x2 x3 r)) (hfin : ∀ j, keyRow x0 x1 x2 x3 r j ≠ ⊤) :
    Cert.Rows.Held (keyRow x0 x1 x2 x3 r) (thr0 x0 x2 x1 x3 (colIdx r)) (count0 x0 x1 x2 x3 (colIdx r)) := by
  obtain ⟨h1, h2, -⟩ := Cert.Rows.nth_spec hinj hfin (cands_spec x0 x1 x2 x3 r) 14 (by norm_num)
  rw [← thr0_at] at h1 h2
  have h3 : count0 x0 x1 x2 x3 (colIdx r) = (Cert.Rows.atOrBelow (keyRow x0 x1 x2 x3 r) (thr0 x0 x2 x1 x3 (colIdx r))).card :=
    marked_eq (val_148 x0 x2 x1 x3) (thr0 x0 x2 x1 x3) r
  exact ⟨h1, h3, h3 ▸ h2⟩

/-- The columns whose keys are at or below the row's threshold. -/
def chosen (r : Fin 256) : Finset (Fin 8192) := Cert.Rows.atOrBelow (keyRow x0 x1 x2 x3 r) (thr x0 x1 x2 x3 (colIdx r))

/-- They are fifteen. -/
theorem chosen_card (r : Fin 256) (hinj : Function.Injective (keyRow x0 x1 x2 x3 r)) (hfin : ∀ j, keyRow x0 x1 x2 x3 r j ≠ ⊤) :
    (chosen x0 x1 x2 x3 r).card = 15 := by
  have hstop : Stops (cnt0 x0 x2 x1 x3) := halting _ _ _ _
  have hno := not_more_trips _ hstop
  have h := held_trips (val_148 x0 x2 x1 x3) (thr0 x0 x2 x1 x3) (count0 x0 x1 x2 x3) (count0_le x0 x1 x2 x3) r hinj
    (held_first x0 x1 x2 x3 r hinj hfin) (trips (cnt0 x0 x2 x1 x3))
  rw [← cnt0_eq] at h
  generalize hn : trips (cnt0 x0 x2 x1 x3) = n at h hno
  rw [cnt0_eq, counting.trips_counts n _ (count0_le x0 x1 x2 x3),
    counting.more_iff _ (fun i => le_trans (step1_iterate_le _ _) (count0_le x0 x1 x2 x3 i))] at hno
  obtain ⟨h1, h2, h3⟩ := h
  have h4 : ¬ 15 < step1^[n] (count0 x0 x1 x2 x3 (colIdx r)) := fun h => hno ⟨colIdx r, h⟩
  have h5 : (chosen x0 x1 x2 x3 r).card = step1^[n] (count0 x0 x1 x2 x3 (colIdx r)) := by
    rw [h2]; unfold chosen thr loopOut; rw [hn]; rfl
  omega

theorem chosen_lower (r : Fin 256) : ∀ i ∈ chosen x0 x1 x2 x3 r, ∀ j, j ∉ chosen x0 x1 x2 x3 r →
    keyRow x0 x1 x2 x3 r i < keyRow x0 x1 x2 x3 r j := Cert.Rows.atOrBelow_lower _ _

/-- The third result marks the chosen columns. -/
theorem hotOut_at (r : Fin 256) (j : Fin 8192) :
    hotOut x0 x1 x2 x3 (ix2 (n0 := 256) (n1 := 8192) r j) = if j ∈ chosen x0 x1 x2 x3 r then (1 : EReal) else 0 := by
  show ((((((atMost (val_148 x0 x2 x1 x3) (thr x0 x1 x2 x3)) (ix2 (n0 := 256) (n1 := 8192) r j)).setWidth 32).toInt : ℤ) : ℝ) : EReal) = _
  have e : (atMost (val_148 x0 x2 x1 x3) (thr x0 x1 x2 x3)) (ix2 (n0 := 256) (n1 := 8192) r j)
      = BitVec.ofBool (decide (keyRow x0 x1 x2 x3 r j ≤ thr x0 x1 x2 x3 (colIdx r))) := by
    show Ideal.cmp .ole (val_148 x0 x2 x1 x3 (ix2 (n0 := 256) (n1 := 8192) r j)) (broadcastTo S256x8192 (thr x0 x1 x2 x3) broadcasts_S256x1_S256x8192 (ix2 (n0 := 256) (n1 := 8192) r j)) = _
    rw [spread_wide, cmp_ole]; rfl
  rw [e]
  unfold chosen
  simp only [Cert.Rows.mem_atOrBelow]
  by_cases h : keyRow x0 x1 x2 x3 r j ≤ thr x0 x1 x2 x3 (colIdx r)
  · rw [decide_eq_true h, if_pos h]; simp
  · rw [decide_eq_false h, if_neg h]; simp

/-- The sum of the chosen code vectors. -/
def pick (r : Fin 256) (c : Fin 256) : EReal := ∑ k ∈ chosen x0 x1 x2 x3 r, (x2 (ix2 (n0 := 8192) (n1 := 256) k c) : EReal)

theorem picked_at (r : Fin 256) (c : Fin 256) :
    k0_pay346 x2 (val_148 x0 x2 x1 x3) (thr x0 x1 x2 x3) (ix2 (n0 := 256) (n1 := 256) r c) = pick x0 x1 x2 x3 r c := by
  have h : k0_pay346 x2 (val_148 x0 x2 x1 x3) (thr x0 x1 x2 x3) (ix2 (n0 := 256) (n1 := 256) r c)
      = ∑ k : Fin 8192, (hotOut x0 x1 x2 x3 (ix2 (n0 := 256) (n1 := 8192) r k) : EReal) * x2 (ix2 (n0 := 8192) (n1 := 256) k c) := by
    unfold k0_pay346
    show _ = ∑ k : Fin 8192, (k0_pay345 (val_148 x0 x2 x1 x3) (thr x0 x1 x2 x3) (ix2 (n0 := 256) (n1 := 8192) r k) : EReal) * x2 (ix2 (n0 := 8192) (n1 := 256) k c)
    generalize k0_pay345 (val_148 x0 x2 x1 x3) (thr x0 x1 x2 x3) = hot
    pointwise
  rw [h]
  unfold pick
  rw [← Finset.sum_filter_add_sum_filter_not Finset.univ (fun k => k ∈ chosen x0 x1 x2 x3 r)]
  have h1 : ∑ k ∈ Finset.univ.filter (fun k => k ∉ chosen x0 x1 x2 x3 r), (hotOut x0 x1 x2 x3 (ix2 (n0 := 256) (n1 := 8192) r k) : EReal) * x2 (ix2 (n0 := 8192) (n1 := 256) k c) = 0 := by
    refine Finset.sum_eq_zero fun k hk => ?_
    rw [hotOut_at, if_neg (Finset.mem_filter.mp hk).2]; exact zero_mul _
  rw [h1, add_zero]
  rw [Finset.filter_mem_eq_inter, Finset.univ_inter]
  refine Finset.sum_congr rfl fun k hk => ?_
  rw [hotOut_at, if_pos hk]; exact one_mul _

theorem rowsOut_at (r : Fin 256) (c : Fin 256) :
    rowsOut x0 x1 x2 x3 (ix2 (n0 := 256) (n1 := 256) r c)
      = (x0 (ix2 (n0 := 256) (n1 := 256) r c) : EReal) + (pick x0 x1 x2 x3 r c - x0 (ix2 (n0 := 256) (n1 := 256) r c)) := by
  rw [← picked_at]; rfl

theorem square_sum (x : FVec Ideal S256x256 .f32) (i : S1x1.Idx) :
    (broadcast S1x1 (extractAt ![0, 0, 0] (shapeCast S1x1x1 (multiReduction .add [1, 2] S1 (shapeCast S1x256x256 x shapeCasts_S256x256_S1x256x256) 0x00000000#32 reduces_S1x256x256_S1 (.inl rfl) rfl) shapeCasts_S1_S1x1x1) inpos_S1x1x1_p0_0_0) : FVec Ideal S1x1 .f32) i
      = ∑ r : Fin 256, ∑ c : Fin 256, (x (ix2 (n0 := 256) (n1 := 256) r c) : EReal) := by
  pointwise

/-- The block's squared error. -/
theorem errOut_at (i : S1x1.Idx) : errOut x0 x1 x2 x3 i
    = ∑ r : Fin 256, ∑ c : Fin 256, ((pick x0 x1 x2 x3 r c - x0 (ix2 (n0 := 256) (n1 := 256) r c)) * (pick x0 x1 x2 x3 r c - x0 (ix2 (n0 := 256) (n1 := 256) r c)) : EReal) := by
  have h := square_sum (mulf (subf (k0_pay346 x2 (val_148 x0 x2 x1 x3) (thr x0 x1 x2 x3)) x0) (subf (k0_pay346 x2 (val_148 x0 x2 x1 x3) (thr x0 x1 x2 x3)) x0)) i
  refine h.trans (Finset.sum_congr rfl fun r _ => Finset.sum_congr rfl fun c _ => ?_)
  rw [← picked_at]; rfl

theorem errAdd_at (acc : FVec Ideal S1x1 .f32) (i : S1x1.Idx) :
    errAdd x0 x1 x2 x3 acc i = (acc i : EReal) + errOut x0 x1 x2 x3 i := by
  have h : shapeCast S1x1 acc shapeCasts_S1x1_S1x1 i = acc i := by pointwise
  show (shapeCast S1x1 acc shapeCasts_S1x1_S1x1 i : EReal) + _ = _
  rw [h]; rfl

/-- A key is the column's distance less the least one, with the column's number scaled. -/
theorem key_eq (r : Fin 256) : ∃ j0 : Fin 8192, ∀ j, keyRow x0 x1 x2 x3 r j
    = ((val_12 x0 x2 x1 x3 (ix2 (n0 := 256) (n1 := 8192) r j) : EReal) - val_12 x0 x2 x1 x3 (ix2 (n0 := 256) (n1 := 8192) r j0))
      + val_16 (F := Ideal) (ix2 (n0 := 256) (n1 := 8192) r j) := by
  obtain ⟨x, hx, hk⟩ := dist_lanes x0 x1 x2 x3
  have h : multiReduction .minimumf [1] S256 x 0x7F800000#32 reduces_S256x128_S256 (.inl rfl) rfl (ix1 (n0 := 256) r)
      = Finset.univ.fold min (Ideal.ofBits .f32 0x7F800000#32) (fun c : Fin 128 => (x (ix2 (n0 := 256) (n1 := 128) r c) : EReal)) := by
    pointwise
  rw [ofBits_inf] at h
  obtain ⟨l, -, hl⟩ := Finset.exists_mem_eq_inf (Finset.univ : Finset (Fin 128)) ⟨0, Finset.mem_univ 0⟩
    (fun c => (x (ix2 (n0 := 256) (n1 := 128) r c) : EReal))
  obtain ⟨k, hk'⟩ := hx r l
  refine ⟨⟨128 * k.val + l.val, by omega⟩, fun j => ?_⟩
  unfold keyRow
  rw [hk]
  show ((val_12 x0 x2 x1 x3 (ix2 (n0 := 256) (n1 := 8192) r j) : EReal) - broadcastTo S256x8192 _ broadcasts_S256x1_S256x8192 (ix2 (n0 := 256) (n1 := 8192) r j)) + _ = _
  rw [spread_wide, column_at, h]
  have : (Finset.univ.fold min (⊤ : EReal) fun c : Fin 128 => (x (ix2 (n0 := 256) (n1 := 128) r c) : EReal)) = _ := hl.trans hk'
  rw [this]; rfl

end Block

end Cert.KernelIdeal.Hand

end
-- ==== Proof.Math.Dist.lean ====
module

public import Idealize.ShloMosaic.Lib.Pointwise.Tactic

/-!
# The squared distance

The three functions (kernel, reference, precondition) compute one matrix of squared distances, read
here as one formula at a row and a column.
-/

@[expose] public section

noncomputable section

namespace Cert.Math

open Idealize.ShloMosaic

/-- The squared distance of row `r` of `z` and row `j` of `w`, in the order in which all three
    programs add it up. -/
def dist (z : (⟨2, ![9216, 256]⟩ : Shape).Idx → EReal) (w : (⟨2, ![8192, 256]⟩ : Shape).Idx → EReal)
    (r : Fin 9216) (j : Fin 8192) : EReal :=
  ((∑ c : Fin 256, z (ix2 (n0 := 9216) (n1 := 256) r c) * z (ix2 (n0 := 9216) (n1 := 256) r c))
    - Ideal.ofBits .f32 0x40000000#32 * ∑ c : Fin 256, z (ix2 (n0 := 9216) (n1 := 256) r c) * w (ix2 (n0 := 8192) (n1 := 256) j c))
    + ∑ c : Fin 256, w (ix2 (n0 := 8192) (n1 := 256) j c) * w (ix2 (n0 := 8192) (n1 := 256) j c)

end Cert.Math

end
-- ==== Proof.Ideal.Inputs.lean ====
module

public import proofs.«01_k».proof.Proof.Ideal.Frame
public import proofs.«01_k».proof.Proof.Ideal.Row
public import proofs.«01_k».proof.Proof.Math.Dist
public import Idealize.ShloMosaic.Lib.Pointwise.Tactic
public import Idealize.ShloMosaic.Lib.Pointwise.Reduce
public import Idealize.ShloMosaic.Lib.Pointwise.Contract
public import Idealize.ShloMosaic.Lib.Pointwise.IndexBridge
public import Idealize.ShloMosaic.Lib.Pipeline.ValueKit

/-!
# What a point reads

The four input blocks of a point, each at an index, in terms of the two arguments.
-/

@[expose] public section

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- The first argument. -/
abbrev argZ (c : Dev nD) : FVec Ideal S9216x256 .f32 := m ((c : Thread nD τ).loc main_arg0)
/-- The second argument. -/
abbrev argW (c : Dev nD) : FVec Ideal S8192x256 .f32 := m ((c : Thread nD τ).loc main_arg1)

/-- The squared norms of the rows, as a column. -/
def zNorms (z : FVec Ideal S9216x256 .f32) : FVec Ideal S9216x1 .f32 :=
  broadcastInDim S9216x1 ![0] bcast_S9216_S9216x1_0 (Host.reduceAdd (mulf z z) (constant S_ .f32 0x00000000#32) reducesTo_S9216x256_S9216_d1 h_S_)

/-- The squared norms of the codes, as a row. -/
def wNorms (w : FVec Ideal S8192x256 .f32) : FVec Ideal S1x8192 .f32 :=
  broadcastInDim S1x8192 ![1] bcast_S8192_S1x8192_1 (Host.reduceAdd (mulf w w) (constant S_ .f32 0x00000000#32) reducesTo_S8192x256_S8192_d1 h_S_)

theorem V_zNorms (c : Dev nD) : V m c main_call0_v2 = zNorms (argZ m c) := by
  show StableHlo.after (List.flatten [hostOps0]) (fun b => m (c, b)) (Proc.devRef .tc main_call0_v2) = _
  simp only [List.flatten_cons, List.flatten_nil, List.append_nil]
  after_results
  rfl

theorem V_wNorms (c : Dev nD) : V m c main_call0_v5 = wNorms (argW m c) := by
  show StableHlo.after (List.flatten [hostOps0]) (fun b => m (c, b)) (Proc.devRef .tc main_call0_v5) = _
  simp only [List.flatten_cons, List.flatten_nil, List.append_nil]
  after_results
  rfl

theorem zNorms_at (z : FVec Ideal S9216x256 .f32) (r : Fin 9216) (k : Fin 1) :
    zNorms z (ix2 (n0 := 9216) (n1 := 1) r k) = (∑ c : Fin 256, z (ix2 (n0 := 9216) (n1 := 256) r c) * z (ix2 (n0 := 9216) (n1 := 256) r c) : EReal) := by
  pointwise [zNorms]

theorem wNorms_at (w : FVec Ideal S8192x256 .f32) (k : Fin 1) (j : Fin 8192) :
    wNorms w (ix2 (n0 := 1) (n1 := 8192) k j) = (∑ c : Fin 256, w (ix2 (n0 := 8192) (n1 := 256) j c) * w (ix2 (n0 := 8192) (n1 := 256) j c) : EReal) := by
  pointwise [wNorms]

/-- Where the blocks of a point lie. -/
theorem idx : ∀ t : Fin (cfg0 (F := Ideal)).N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0] :=
  (by decide +kernel : ∀ t : Fin grid0.N, _)

/-- The row of the whole array that a point's block has at `r`. -/
def rowOf (t : Fin (cfg0 (F := Ideal)).N) (r : Fin 256) : Fin 9216 :=
  ⟨256 * t.val + r.val, by have : t.val < 36 := lt_of_lt_of_eq t.isLt N_0; omega⟩

theorem iblk_0 (c : Dev nD) (t : Fin (cfg0 (F := Ideal)).N) (r : Fin 256) (k : Fin 256) :
    (show FVec Ideal S256x256 .f32 from iblk m c 0 t) (ix2 (n0 := 256) (n1 := 256) r k) = argZ m c (ix2 (n0 := 9216) (n1 := 256) (rowOf t r) k) := by
  have e := V_main_arg0 m c
  blk_simp [iblk, idx t]
  rw [e]
  unfold rowOf
  blk_ext [idx t]

theorem iblk_1 (c : Dev nD) (t : Fin (cfg0 (F := Ideal)).N) (r : Fin 256) (k : Fin 1) :
    (show FVec Ideal S256x1 .f32 from iblk m c 1 t) (ix2 (n0 := 256) (n1 := 1) r k) = zNorms (argZ m c) (ix2 (n0 := 9216) (n1 := 1) (rowOf t r) k) := by
  have e := V_zNorms m c
  blk_simp [iblk, idx t]
  rw [e]
  generalize zNorms (argZ m c) = B
  unfold rowOf
  blk_ext [idx t]

theorem iblk_2 (c : Dev nD) (t : Fin (cfg0 (F := Ideal)).N) (j : Fin 8192) (k : Fin 256) :
    (show FVec Ideal S8192x256 .f32 from iblk m c 2 t) (ix2 (n0 := 8192) (n1 := 256) j k) = argW m c (ix2 (n0 := 8192) (n1 := 256) j k) := by
  have e := V_main_arg1 m c
  blk_simp [iblk, idx t]
  rw [e]
  blk_ext [idx t]

theorem iblk_3 (c : Dev nD) (t : Fin (cfg0 (F := Ideal)).N) (k : Fin 1) (j : Fin 8192) :
    (show FVec Ideal S1x8192 .f32 from iblk m c 3 t) (ix2 (n0 := 1) (n1 := 8192) k j) = wNorms (argW m c) (ix2 (n0 := 1) (n1 := 8192) k j) := by
  have e := V_wNorms m c
  blk_simp [iblk, idx t]
  rw [e]
  generalize wNorms (argW m c) = B
  blk_ext [idx t]

/-- The distances a block computes. -/
theorem dist_block (x0 : FVec Ideal S256x256 .f32) (x1 : FVec Ideal S256x1 .f32) (x2 : FVec Ideal S8192x256 .f32) (x3 : FVec Ideal S1x8192 .f32)
    (r : Fin 256) (j : Fin 8192) :
    val_12 x0 x2 x1 x3 (ix2 (n0 := 256) (n1 := 8192) r j)
      = (x1 (ix2 (n0 := 256) (n1 := 1) r 0) - Ideal.ofBits .f32 0x40000000#32
          * ∑ c : Fin 256, x0 (ix2 (n0 := 256) (n1 := 256) r c) * x2 (ix2 (n0 := 8192) (n1 := 256) j c) : EReal)
        + x3 (ix2 (n0 := 1) (n1 := 8192) 0 j) := by
  pointwise [val_12, k0_pay5]

theorem step_block (r : Fin 256) (j : Fin 8192) :
    (val_16 (F := Ideal)) (ix2 (n0 := 256) (n1 := 8192) r j)
      = FloatOps.sitofp (F := Ideal) .f32 (BitVec.ofNat 32 j.val) * Ideal.ofBits .f32 0x31000000#32 := by
  pointwise [val_16, k0_pay6]

end Cert.KernelIdeal.Hand

end
-- ==== Proof.Math.TopK.lean ====
module

public import Idealize.ShloMosaic.Lib.Pointwise.Tactic
public import Idealize.ShloMosaic.Lib.Pipeline.Value
public import Idealize.ShloMosaic.Lib.SortFacts

/-!
# The greatest of each row, read at a row and a place

`Host.topK` along the second axis of a matrix: the value and the column at a place are those of the
stable sort's position at that place.
-/

@[expose] public section

noncomputable section

namespace Cert.Math

open Idealize.ShloMosaic

/-- The column that the stable sort of row `r` puts at a place. -/
def sortedColumn {α : Type} {R C : ℕ} (gt : α → α → BitVec 1) (x : (⟨2, ![R, C]⟩ : Shape).Idx → α) (r : Fin R) : Fin C → Fin C :=
  sortedFrom fun a b => gt (x (ix2 (n0 := R) (n1 := C) r a)) (x (ix2 (n0 := R) (n1 := C) r b)) == 1#1

theorem along_one {R C : ℕ} (r : Fin R) (k a : Fin C) :
    Shape.Idx.along (s := ⟨2, ![R, C]⟩) (ix2 (n0 := R) (n1 := C) r k) 1 a = ix2 (n0 := R) (n1 := C) r a := by
  funext b
  unfold Shape.Idx.along
  match b with
  | ⟨0, _⟩ => rfl
  | ⟨1, _⟩ => rfl

theorem topK_at {α : Type} {R C K : ℕ} (gt : α → α → BitVec 1) (x : (⟨2, ![R, C]⟩ : Shape).Idx → α)
    (h : (⟨2, ![R, C]⟩ : Shape).Slices (fun _ => 0) ⟨2, ![R, K]⟩) (hK : K ≤ C) (r : Fin R) (k : Fin K) :
    (Host.topK ⟨2, ![R, K]⟩ 1 gt x h).1 (ix2 (n0 := R) (n1 := K) r k) = x (ix2 (n0 := R) (n1 := C) r (sortedColumn gt x r (k.castLE hK)))
      ∧ (Host.topK ⟨2, ![R, K]⟩ 1 gt x h).2 (ix2 (n0 := R) (n1 := K) r k) = BitVec.ofNat 32 (sortedColumn gt x r (k.castLE hK)).val := by
  have hz : ∀ (β : Type) (v : (⟨2, ![R, C]⟩ : Shape).Idx → β),
      extractStridedSlice ⟨2, ![R, K]⟩ (fun _ => 0) v h (ix2 (n0 := R) (n1 := K) r k) = v (ix2 (n0 := R) (n1 := C) r (k.castLE hK)) := by
    intro β v
    refine extractStridedSlice_apply _ _ _ _ _ fun a => ?_
    match a with
    | ⟨0, _⟩ => exact (Nat.zero_add _).symm
    | ⟨1, _⟩ => exact (Nat.zero_add _).symm
  have e : ∀ a b : Fin C, (gt (x (Shape.Idx.along (s := ⟨2, ![R, C]⟩) (ix2 (n0 := R) (n1 := C) r (k.castLE hK)) 1 a)) (x (Shape.Idx.along (s := ⟨2, ![R, C]⟩) (ix2 (n0 := R) (n1 := C) r (k.castLE hK)) 1 b)) == 1#1)
      = (gt (x (ix2 (n0 := R) (n1 := C) r a)) (x (ix2 (n0 := R) (n1 := C) r b)) == 1#1) := fun a b => by
    rw [along_one, along_one]
  have e' : sortedFrom (fun a b : Fin C => gt (x (Shape.Idx.along (s := ⟨2, ![R, C]⟩) (ix2 (n0 := R) (n1 := C) r (k.castLE hK)) 1 a)) (x (Shape.Idx.along (s := ⟨2, ![R, C]⟩) (ix2 (n0 := R) (n1 := C) r (k.castLE hK)) 1 b)) == 1#1)
      = sortedColumn gt x r := congrArg sortedFrom (funext fun a => funext fun b => e a b)
  constructor
  · refine Eq.trans (b := extractStridedSlice ⟨2, ![R, K]⟩ (fun _ => 0) (Host.sort2 ⟨2, ![R, C]⟩ 1 (fun l r : α × BitVec 32 => gt l.1 r.1) x (fun i => if hd : 1 < (⟨2, ![R, C]⟩ : Shape).rank then iotaInDim (⟨2, ![R, C]⟩ : Shape) 32 ⟨1, hd⟩ i else 0#32)).1 h (ix2 (n0 := R) (n1 := K) r k)) rfl ((hz _ _).trans ?_)
    unfold Host.sort2
    rw [dif_pos (show 1 < (⟨2, ![R, C]⟩ : Shape).rank from Nat.one_lt_two)]
    exact (congrArg (fun f : Fin C → Fin C => x (Shape.Idx.along (s := ⟨2, ![R, C]⟩) (ix2 (n0 := R) (n1 := C) r (k.castLE hK)) 1 (f (k.castLE hK)))) e').trans (congrArg x (along_one r _ _))
  · refine Eq.trans (b := extractStridedSlice ⟨2, ![R, K]⟩ (fun _ => 0) (Host.sort2 ⟨2, ![R, C]⟩ 1 (fun l r : α × BitVec 32 => gt l.1 r.1) x (fun i => if hd : 1 < (⟨2, ![R, C]⟩ : Shape).rank then iotaInDim (⟨2, ![R, C]⟩ : Shape) 32 ⟨1, hd⟩ i else 0#32)).2 h (ix2 (n0 := R) (n1 := K) r k)) rfl ((hz _ _).trans ?_)
    unfold Host.sort2
    rw [dif_pos (show 1 < (⟨2, ![R, C]⟩ : Shape).rank from Nat.one_lt_two)]
    exact (congrArg (fun f : Fin C → Fin C => (iotaInDim (⟨2, ![R, C]⟩ : Shape) 32 1) (Shape.Idx.along (s := ⟨2, ![R, C]⟩) (ix2 (n0 := R) (n1 := C) r (k.castLE hK)) 1 (f (k.castLE hK)))) e').trans (congrArg (iotaInDim (⟨2, ![R, C]⟩ : Shape) 32 1) (along_one r _ _))

end Cert.Math

end
-- ==== Proof.Math.Order.lean ====
module

public import proofs.«01_k».proof.Proof.Math.Rows
public import Idealize.ShloMosaic.Lib.SortPrefix

/-!
# The fifteen least of a row, by sorting and by the kernel's key

The reference sorts a row of distances stably and keeps the first fifteen columns. The kernel keeps
the fifteen columns whose distance plus a small multiple of the column is least. Where every
distance either equals the fifteenth or is farther from it than the greatest such multiple, the
two keep the same columns.
-/

@[expose] public section

noncomputable section

namespace Cert.Order

open Idealize.ShloMosaic

/-- Before, by the key alone. -/
def before {n : ℕ} (d : Fin n → ℝ) (k k' : Fin n) : Bool := decide (d k < d k')

/-- Before, by the key and then by the position. -/
def beforeTie {n : ℕ} (d : Fin n → ℝ) (k k' : Fin n) : Bool :=
  decide (d k < d k') || (decide (d k = d k') && decide (k < k'))

/-- The stable sort of a list in increasing order only asks of a later element whether it comes
    before an earlier one. -/
theorem stableSort_increasing {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    show insertBefore R a (stableSort R l) = insertBefore R' a (stableSort R' l)
    rw [stableSort_increasing R R' h l hl.2]
    exact insertBefore_congr R R' a _ fun b hb => h a b (hl.1 b ((perm_stableSort R' l).mem_iff.mp hb))

theorem sortedFrom_before {n : ℕ} (d : Fin n → ℝ) : sortedFrom (before d) = sortedFrom (beforeTie d) := by
  funext k
  have e : sortPositions n (before d) = sortPositions n (beforeTie d) := by
    refine stableSort_increasing _ _ (fun a b hab => ?_) _ (List.pairwise_lt_finRange n)
    unfold before beforeTie
    rw [decide_eq_false (not_lt.2 hab.le), Bool.and_false, Bool.or_false]
  unfold sortedFrom
  rw [List.get_of_eq e]
  rfl

/-- The order by key and position is a strict total one. -/
theorem beforeTie_total {n : ℕ} (d : Fin n → ℝ) : StrictTotalBefore (beforeTie d) :=
  StrictTotalBefore.of_key_then_position (fun a b : ℝ => decide (a < b)) d (fun a => by simp)
    (fun a b c h h' => by
      rw [decide_eq_true_eq] at h h' ⊢
      exact h.trans h')
    (fun a b => by
      rcases lt_trichotomy a b with h | h | h
      · exact Or.inl (by simpa using h)
      · exact Or.inr (Or.inl h)
      · exact Or.inr (Or.inr (by simpa using h)))

/-- An earlier place of the sort holds a smaller key, or the same key at a smaller position. -/
theorem sorted_lt {n : ℕ} (d : Fin n → ℝ) (a b : Fin n) (h : a < b) :
    d (sortedFrom (before d) a) < d (sortedFrom (before d) b) ∨
      (d (sortedFrom (before d) a) = d (sortedFrom (before d) b) ∧ sortedFrom (before d) a < sortedFrom (before d) b) := by
  have hne : sortedFrom (before d) a ≠ sortedFrom (before d) b := fun e => h.ne (sortedFrom_injective _ e)
  have hf : beforeTie d (sortedFrom (before d) b) (sortedFrom (before d) a) = false := by
    rw [sortedFrom_before]
    exact sortedFrom_noInversion (beforeTie d) (beforeTie d) (fun a b h => (beforeTie_total d).asymm a b h)
      (fun _ _ h => h) (beforeTie_total d).negTrans a b h
  rcases (beforeTie_total d).total _ _ hne with ht | ht
  · unfold beforeTie at ht
    simp only [Bool.or_eq_true, Bool.and_eq_true, decide_eq_true_eq] at ht
    exact ht
  · rw [hf] at ht
    exact absurd ht (by decide)

/-- The fifteen columns a sort keeps. -/
def kept (d : Fin 8192 → ℝ) (i : Fin 15) : Fin 8192 := sortedFrom (before d) (i.castLE (by norm_num))

theorem kept_injective (d : Fin 8192 → ℝ) : Function.Injective (kept d) := fun i j e => by
  have h := sortedFrom_injective (before d) e
  exact Fin.ext (by simpa using congrArg Fin.val h)

def keptSet (d : Fin 8192 → ℝ) : Finset (Fin 8192) := Finset.univ.image (kept d)

theorem keptSet_card (d : Fin 8192 → ℝ) : (keptSet d).card = 15 := by
  unfold keptSet
  rw [Finset.card_image_of_injective _ (kept_injective d)]
  rfl

theorem mem_keptSet (d : Fin 8192 → ℝ) (j : Fin 8192) : j ∈ keptSet d ↔ ∃ i, kept d i = j := by
  unfold keptSet
  simp

/-- A kept column has the lesser key, against every column left out. -/
theorem keptSet_lower (d : Fin 8192 → ℝ)
    (gap : ∀ j, d j = d (kept d 14) ∨ (1 / 65536 : ℝ) ≤ |d j - d (kept d 14)|)
    (i : Fin 8192) (hi : i ∈ keptSet d) (j : Fin 8192) (hj : j ∉ keptSet d) :
    d i + (i.val : ℝ) * (1 / 536870912) < d j + (j.val : ℝ) * (1 / 536870912) := by
  obtain ⟨a, rfl⟩ := (mem_keptSet d i).1 hi
  obtain ⟨b, rfl⟩ := sortedFrom_surjective (before d) j
  have hb : 15 ≤ b.val := by
    by_contra hlt
    exact hj ((mem_keptSet d _).2 ⟨⟨b.val, by omega⟩, rfl⟩)
  have hab := sorted_lt d (a.castLE (by norm_num : 15 ≤ 8192)) b (by
    show a.val < b.val
    omega)
  have h14b := sorted_lt d ((14 : Fin 15).castLE (by norm_num : 15 ≤ 8192)) b (by
    show 14 < b.val
    omega)
  have ha14 : d (kept d a) ≤ d (kept d 14) := by
    rcases eq_or_ne a 14 with e | e
    · rw [e]
    · have hlt := sorted_lt d (a.castLE (by norm_num : 15 ≤ 8192)) ((14 : Fin 15).castLE (by norm_num : 15 ≤ 8192)) (by
        show a.val < 14
        have := a.isLt
        have : a.val ≠ 14 := fun h => e (Fin.ext h)
        omega)
      rcases hlt with h | h
      · exact h.le
      · exact h.1.le
  change d (kept d a) < d (sortedFrom (before d) b) ∨ (d (kept d a) = d (sortedFrom (before d) b) ∧ kept d a < sortedFrom (before d) b) at hab
  change d (kept d 14) < d (sortedFrom (before d) b) ∨ (d (kept d 14) = d (sortedFrom (before d) b) ∧ kept d 14 < sortedFrom (before d) b) at h14b
  have h14 : d (kept d 14) ≤ d (sortedFrom (before d) b) := by
    rcases h14b with h | h
    · exact h.le
    · exact h.1.le
  have g1 := gap (kept d a)
  have g2 := gap (sortedFrom (before d) b)
  revert g2
  revert g1
  revert h14
  revert ha14
  revert hab
  generalize kept d a = i
  generalize sortedFrom (before d) b = j
  generalize d (kept d 14) = t
  intro hab ha14 h14 g1 g2
  have hi8 : (i.val : ℝ) ≤ 8191 := by
    have := i.isLt
    exact_mod_cast (by omega : i.val ≤ 8191)
  have hj0 : (0 : ℝ) ≤ (j.val : ℝ) := Nat.cast_nonneg _
  rcases hab with h | ⟨h, h'⟩
  · have hgap : (1 / 65536 : ℝ) ≤ d j - d i := by
      rcases g1 with e1 | e1
      · rcases g2 with e2 | e2
        · rw [e1, e2] at h
          exact absurd h (lt_irrefl _)
        · rw [abs_of_nonneg (by linarith)] at e2
          linarith
      · rw [abs_of_nonpos (by linarith)] at e1
        linarith
    linarith
  · have hij : (i.val : ℝ) < (j.val : ℝ) := by exact_mod_cast h'
    rw [h]
    linarith

end Cert.Order

end
-- ==== Proof.Reference.Separated.lean ====
module

public import proofs.«01_k».proof.Proof.Gen.Pre_separated
public import proofs.«01_k».proof.Proof.Math.Dist
public import proofs.«01_k».proof.Proof.Math.TopK
public import proofs.«01_k».proof.Proof.Math.Order
public import Idealize.ShloMosaic.Lib.Pointwise.Contract
public import Idealize.ShloMosaic.Lib.Pointwise.Reduce
public import Idealize.ShloMosaic.Lib.ReduceAll
public import Idealize.ShloMosaic.Lib.Routing.OpsPair

/-!
# What the precondition says

Where `separated` holds, the distances are real numbers, each either equals the fifteenth least of its
row or is 2⁻¹⁶ away from it, and a row's keys are all different.
-/

@[expose] public section

noncomputable section

namespace Cert.Pre_separated.Hand

open Idealize.ShloMosaic Cert.Pre_separated Cert.Pre_separated.Facts

/-- The matrix of squared distances. -/
def distances (z : FVec Ideal S9216x256 .f32) (w : FVec Ideal S8192x256 .f32) : FVec Ideal S9216x8192 .f32 :=
  addf (subf (broadcastInDim S9216x8192 ![0, 1] bcast_S9216x1_S9216x8192_0_1 (broadcastInDim S9216x1 ![0] bcast_S9216_S9216x1_0 (Host.reduceAdd (mulf z z) (constant S_ .f32 0x00000000#32) reducesTo_S9216x256_S9216_d1 h_S_))) (mulf (broadcastInDim S9216x8192 ![] bcast_S_S9216x8192 (constant S_ .f32 0x40000000#32)) (Host.dotGeneral dot_S9216x256_S256x8192_S9216x8192_1_0_0_1_n_n none z (transpose S256x8192 [1, 0] w transposes_S8192x256_S256x8192_1_0)))) (broadcastInDim S9216x8192 ![0, 1] bcast_S1x8192_S9216x8192_0_1 (broadcastInDim S1x8192 ![1] bcast_S8192_S1x8192_1 (Host.reduceAdd (mulf w w) (constant S_ .f32 0x00000000#32) reducesTo_S8192x256_S8192_d1 h_S_)))

/-- The fifteenth greatest negated distance of each row, in every column. -/
def fifteenth (D : FVec Ideal S9216x8192 .f32) : FVec Ideal S9216x8192 .f32 :=
  broadcastInDim S9216x8192 ![0, 1] bcast_S9216x1_S9216x8192_0_1 (extractStridedSlice S9216x1 ![0, 14]
    (Host.topK S9216x15 1 (FloatOps.cmpfTotal .gt) (Host.negf D) sliceFits_S9216x8192_S9216x15).1 slices_S9216x15_S9216x1_0_14)

def finite (D : FVec Ideal S9216x8192 .f32) : IVec S9216x8192 1 :=
  cmpf .olt (Host.absf D) (broadcastInDim S9216x8192 ![] bcast_S_S9216x8192 (constant S_ .f32 0x7F800000#32))

def apart (D : FVec Ideal S9216x8192 .f32) : IVec S9216x8192 1 :=
  ori (cmpf .oeq (Host.negf D) (fifteenth D))
    (cmpf .oge (Host.absf (subf (Host.negf D) (fifteenth D))) (broadcastInDim S9216x8192 ![] bcast_S_S9216x8192 (constant S_ .f32 0x37800000#32)))

/-- The keys: the distance plus a small multiple of the column. -/
def keyed (D : FVec Ideal S9216x8192 .f32) : FVec Ideal S9216x8192 .f32 :=
  addf D (broadcastInDim S9216x8192 ![0, 1] bcast_S1x8192_S9216x8192_0_1 (broadcastInDim S1x8192 ![1] bcast_S8192_S1x8192_1
    (mulf (sitofp .f32 (iotaInDim S8192 32 0)) (broadcastInDim S8192 ![] bcast_S_S8192 (constant S_ .f32 0x31000000#32)))))

/-- The keys of each row, greatest first. -/
def descending (K : FVec Ideal S9216x8192 .f32) : FVec Ideal S9216x8192 .f32 :=
  (Host.topK S9216x8192 1 (FloatOps.cmpfTotal .gt) K sliceFits_S9216x8192_S9216x8192).1

def strict (V : FVec Ideal S9216x8192 .f32) : IVec S9216x8191 1 :=
  cmpf .olt (extractStridedSlice S9216x8191 ![0, 1] V slices_S9216x8192_S9216x8191_0_1)
    (extractStridedSlice S9216x8191 ![0, 0] V slices_S9216x8192_S9216x8191_0_0)

theorem fn_eq (z : FVec Ideal S9216x256 .f32) (w : FVec Ideal S8192x256 .f32) :
    fn (F := Ideal) z w = andi
      (Host.reduce IntOp.andi (andi (finite (distances z w)) (apart (distances z w))) (constantI S_ 1 1#1) reducesTo_S9216x8192_S_d0_1 h_S_)
      (Host.reduce IntOp.andi (strict (descending (keyed (distances z w)))) (constantI S_ 1 1#1) reducesTo_S9216x8191_S_d0_1 h_S_) := by
  unfold fn fn_part1 fn_part2
  rfl

theorem distances_at (z : FVec Ideal S9216x256 .f32) (w : FVec Ideal S8192x256 .f32) (r : Fin 9216) (j : Fin 8192) :
    distances z w (ix2 (n0 := 9216) (n1 := 8192) r j) = Cert.Math.dist z w r j := by
  unfold distances Cert.Math.dist
  pointwise

theorem fifteenth_at (D : FVec Ideal S9216x8192 .f32) (r : Fin 9216) (j : Fin 8192) :
    fifteenth D (ix2 (n0 := 9216) (n1 := 8192) r j)
      = (Host.topK S9216x15 1 (FloatOps.cmpfTotal .gt) (Host.negf D) sliceFits_S9216x8192_S9216x15).1 (ix2 (n0 := 9216) (n1 := 15) r 14) := by
  unfold fifteenth
  generalize (Host.topK S9216x15 1 (FloatOps.cmpfTotal .gt) (Host.negf D) sliceFits_S9216x8192_S9216x15).1 = T
  pointwise

theorem keyed_at (D : FVec Ideal S9216x8192 .f32) (r : Fin 9216) (j : Fin 8192) :
    keyed D (ix2 (n0 := 9216) (n1 := 8192) r j)
      = D (ix2 (n0 := 9216) (n1 := 8192) r j) + FloatOps.sitofp (F := Ideal) .f32 (BitVec.ofNat 32 j.val) * Ideal.ofBits .f32 0x31000000#32 := by
  unfold keyed
  pointwise

theorem strict_at (V : FVec Ideal S9216x8192 .f32) (r : Fin 9216) (k : Fin 8191) :
    strict V (ix2 (n0 := 9216) (n1 := 8191) r k)
      = Ideal.cmp .olt (V (ix2 (n0 := 9216) (n1 := 8192) r k.succ)) (V (ix2 (n0 := 9216) (n1 := 8192) r k.castSucc)) := by
  have h1 : extractStridedSlice S9216x8191 ![0, 1] V slices_S9216x8192_S9216x8191_0_1 (ix2 (n0 := 9216) (n1 := 8191) r k) = V (ix2 (n0 := 9216) (n1 := 8192) r k.succ) := by
    refine extractStridedSlice_apply _ _ _ _ _ fun a => ?_
    match a with
    | ⟨0, _⟩ => exact (Nat.zero_add _).symm
    | ⟨1, _⟩ => exact Nat.add_comm _ _
  have h0 : extractStridedSlice S9216x8191 ![0, 0] V slices_S9216x8192_S9216x8191_0_0 (ix2 (n0 := 9216) (n1 := 8191) r k) = V (ix2 (n0 := 9216) (n1 := 8192) r k.castSucc) := by
    refine extractStridedSlice_apply _ _ _ _ _ fun a => ?_
    match a with
    | ⟨0, _⟩ => exact (Nat.zero_add _).symm
    | ⟨1, _⟩ => exact (Nat.zero_add _).symm
  unfold strict
  show Ideal.cmp .olt (extractStridedSlice S9216x8191 ![0, 1] V slices_S9216x8192_S9216x8191_0_1 (ix2 (n0 := 9216) (n1 := 8191) r k))
    (extractStridedSlice S9216x8191 ![0, 0] V slices_S9216x8192_S9216x8191_0_0 (ix2 (n0 := 9216) (n1 := 8191) r k)) = _
  rw [h1, h0]

theorem finite_at (D : FVec Ideal S9216x8192 .f32) (i : S9216x8192.Idx) :
    finite D i = BitVec.ofBool (decide (max (D i : EReal) (-(D i : EReal)) < Ideal.ofBits .f32 0x7F800000#32)) := rfl

theorem apart_at (D : FVec Ideal S9216x8192 .f32) (i : S9216x8192.Idx) :
    apart D i = IntOp.ori (BitVec.ofBool (decide (-(D i : EReal) = fifteenth D i)))
      (BitVec.ofBool (decide (Ideal.ofBits .f32 0x37800000#32 ≤ max (-(D i : EReal) - fifteenth D i) (-(-(D i : EReal) - fifteenth D i))))) := by
  unfold apart
  generalize fifteenth D = T
  rfl

/-! ## The constants -/

theorem ofBits_inf : Ideal.ofBits .f32 0x7F800000#32 = (⊤ : EReal) := by
  simp [Ideal.ofBits, Ideal.ieee]

theorem gap_const : Ideal.ofBits .f32 0x37800000#32 = (((1 / 65536 : ℝ) : ℝ) : EReal) := by
  simp [Ideal.ofBits, Ideal.ieee, -EReal.coe_mul]
  norm_num

theorem step_const : Ideal.ofBits .f32 0x31000000#32 = (((1 / 536870912 : ℝ) : ℝ) : EReal) := by
  simp [Ideal.ofBits, Ideal.ieee, -EReal.coe_mul]
  norm_num

/-- The column's small multiple, as a real number. -/
theorem column_step (j : Fin 8192) :
    FloatOps.sitofp (F := Ideal) .f32 (BitVec.ofNat 32 j.val) * Ideal.ofBits .f32 0x31000000#32
      = (((j.val : ℝ) * (1 / 536870912) : ℝ) : EReal) := by
  have hj := j.isLt
  have e : FloatOps.sitofp (F := Ideal) .f32 (BitVec.ofNat 32 j.val) = (((j.val : ℝ) : ℝ) : EReal) := by
    show (((BitVec.ofNat 32 j.val).toInt : ℝ) : EReal) = _
    rw [StableHlo.Predicate.toInt_ofNat_small _ (by omega)]
    norm_cast
  rw [e, step_const, EReal.coe_mul]

/-! ## The meaning -/

/-- The distances are the real numbers `d`, each at the fifteenth least of its row or 2⁻¹⁶ away from
    it, and the keys of a row are all different. -/
structure Separated (z : FVec Ideal S9216x256 .f32) (w : FVec Ideal S8192x256 .f32) (d : Fin 9216 → Fin 8192 → ℝ) : Prop where
  dist_eq : ∀ r j, Cert.Math.dist z w r j = ((d r j : ℝ) : EReal)
  gap : ∀ r j, d r j = d r (Cert.Order.kept (d r) 14) ∨ (1 / 65536 : ℝ) ≤ |d r j - d r (Cert.Order.kept (d r) 14)|
  inj : ∀ r, Function.Injective fun j : Fin 8192 => d r j + (j.val : ℝ) * (1 / 536870912)

theorem ofBool_one {p : Prop} [Decidable p] (h : BitVec.ofBool (decide p) = 1#1) : p := by
  by_contra hn
  rw [decide_eq_false hn] at h
  exact absurd h (by decide)

theorem abs_real (x : EReal) (h : max x (-x) < ⊤) : ∃ y : ℝ, x = (y : EReal) := by
  induction x with
  | bot => exact absurd h (by simp)
  | coe y => exact ⟨y, rfl⟩
  | top => exact absurd h (by simp)

theorem gt_neg (a b : ℝ) : (FloatOps.cmpfTotal (F := Ideal) (φ := .f32) .gt (-(a : EReal)) (-(b : EReal)) == 1#1) = decide (a < b) := by
  show (BitVec.ofBool (decide (-(b : EReal) < -(a : EReal))) == 1#1) = _
  have h : (-(b : EReal) < -(a : EReal)) ↔ a < b := by
    rw [EReal.neg_lt_neg_iff]
    exact EReal.coe_lt_coe_iff
  by_cases hab : a < b
  · rw [decide_eq_true (h.2 hab), decide_eq_true hab]
    rfl
  · rw [decide_eq_false (fun g => hab (h.1 g)), decide_eq_false hab]
    rfl

/-- The fifteenth, where the distances are real numbers. -/
theorem fifteenth_eq (D : FVec Ideal S9216x8192 .f32) (d : Fin 9216 → Fin 8192 → ℝ)
    (hD : ∀ r j, D (ix2 (n0 := 9216) (n1 := 8192) r j) = ((d r j : ℝ) : EReal)) (r : Fin 9216) (j : Fin 8192) :
    fifteenth D (ix2 (n0 := 9216) (n1 := 8192) r j) = -((d r (Cert.Order.kept (d r) 14) : ℝ) : EReal) := by
  rw [fifteenth_at]
  refine (Cert.Math.topK_at (FloatOps.cmpfTotal (F := Ideal) (φ := .f32) .gt) (Host.negf D) sliceFits_S9216x8192_S9216x15 (by norm_num) r 14).1.trans ?_
  have e : Cert.Math.sortedColumn (FloatOps.cmpfTotal (F := Ideal) (φ := .f32) .gt) (Host.negf D) r = sortedFrom (Cert.Order.before (d r)) := by
    refine congrArg sortedFrom (funext fun a => funext fun b => ?_)
    refine Eq.trans (b := FloatOps.cmpfTotal (F := Ideal) (φ := .f32) .gt (-(D (ix2 (n0 := 9216) (n1 := 8192) r a) : EReal)) (-(D (ix2 (n0 := 9216) (n1 := 8192) r b) : EReal)) == 1#1) rfl ?_
    rw [hD, hD]
    exact gt_neg _ _
  rw [e]
  exact congrArg (fun x : EReal => -x) (hD r _)

theorem separated_of (z : FVec Ideal S9216x256 .f32) (w : FVec Ideal S8192x256 .f32) (h : fn (F := Ideal) z w = fun _ => 1#1) :
    ∃ d, Separated z w d := by
  rw [fn_eq] at h
  have h0 := congrFun h ix0
  obtain ⟨hl, hr⟩ := IntOp.andi_eq_one.1 h0
  have hall : ∀ i, IntOp.andi (finite (distances z w) i) (apart (distances z w) i) = 1#1 :=
    fun i => Host.reduce_andi_all (andi (finite (distances z w)) (apart (distances z w))) _ _ _ _ hl i
  have hstrict : ∀ i, strict (descending (keyed (distances z w))) i = 1#1 :=
    fun i => Host.reduce_andi_all (strict (descending (keyed (distances z w)))) _ _ _ _ hr i
  have hreal : ∀ r j, ∃ y : ℝ, distances z w (ix2 (n0 := 9216) (n1 := 8192) r j) = (y : EReal) := by
    intro r j
    have hf := (IntOp.andi_eq_one.1 (hall (ix2 (n0 := 9216) (n1 := 8192) r j))).1
    refine abs_real _ ?_
    rw [finite_at] at hf
    have := ofBool_one hf
    rwa [ofBits_inf] at this
  choose d hd using hreal
  refine ⟨d, ⟨fun r j => (distances_at z w r j).symm.trans (hd r j), fun r j => ?_, fun r => ?_⟩⟩
  · have ha := (IntOp.andi_eq_one.1 (hall (ix2 (n0 := 9216) (n1 := 8192) r j))).2
    have h15 := fifteenth_eq (distances z w) d hd r j
    have ha' := (apart_at (distances z w) (ix2 (n0 := 9216) (n1 := 8192) r j)).symm.trans ha
    rw [h15, hd, gap_const] at ha'
    generalize d r (Cert.Order.kept (d r) 14) = t at ha' ⊢
    generalize d r j = x at ha' ⊢
    by_cases hx : x = t
    · exact Or.inl hx
    · right
      have hne : ¬ (-(x : EReal) = -(t : EReal)) := fun e => hx (EReal.coe_injective (neg_injective e))
      rw [decide_eq_false hne] at ha'
      have h2 : (((1 / 65536 : ℝ) : ℝ) : EReal) ≤ max (-(x : EReal) - -(t : EReal)) (-(-(x : EReal) - -(t : EReal))) := by
        by_contra hn
        rw [decide_eq_false hn] at ha'
        exact absurd ha' (by decide)
      have e1 : (-(x : EReal) - -(t : EReal)) = ((-x - -t : ℝ) : EReal) := by push_cast; rfl
      rw [e1, ← EReal.coe_neg] at h2
      rcases le_max_iff.1 h2 with h3 | h3
      · have h4 := EReal.coe_le_coe_iff.1 h3
        exact h4.trans (by
          rw [abs_sub_comm]
          exact (by ring : -x - -t = t - x).le.trans (le_abs_self _))
      · have h4 := EReal.coe_le_coe_iff.1 h3
        exact h4.trans ((by ring : -(-x - -t) = x - t).le.trans (le_abs_self _))
  · -- the sorted keys fall strictly, so no two columns share a key
    let K := keyed (distances z w)
    let σ := Cert.Math.sortedColumn (FloatOps.cmpfTotal (F := Ideal) (φ := .f32) .gt) K r
    have hV : ∀ k : Fin 8192, (descending K (ix2 (n0 := 9216) (n1 := 8192) r k) : EReal) = K (ix2 (n0 := 9216) (n1 := 8192) r (σ k)) :=
      fun k => (Cert.Math.topK_at (FloatOps.cmpfTotal (F := Ideal) (φ := .f32) .gt) K sliceFits_S9216x8192_S9216x8192 (le_refl _) r k).1
    have hanti : StrictAnti fun k : Fin (8191 + 1) => (descending K (ix2 (n0 := 9216) (n1 := 8192) r k) : EReal) := by
      refine Fin.strictAnti_iff_succ_lt.2 fun k => ?_
      have hk := hstrict (ix2 (n0 := 9216) (n1 := 8191) r k)
      rw [strict_at] at hk
      exact ofBool_one hk
    have hK : ∀ j, (K (ix2 (n0 := 9216) (n1 := 8192) r j) : EReal) = ((d r j + (j.val : ℝ) * (1 / 536870912) : ℝ) : EReal) := by
      intro j
      refine (keyed_at (distances z w) r j).trans ?_
      rw [column_step, hd, EReal.coe_add]
    intro a b hab
    obtain ⟨p, rfl⟩ := sortedFrom_surjective (fun a b => FloatOps.cmpfTotal (F := Ideal) (φ := .f32) .gt (K (ix2 (n0 := 9216) (n1 := 8192) r a)) (K (ix2 (n0 := 9216) (n1 := 8192) r b)) == 1#1) a
    obtain ⟨q, rfl⟩ := sortedFrom_surjective (fun a b => FloatOps.cmpfTotal (F := Ideal) (φ := .f32) .gt (K (ix2 (n0 := 9216) (n1 := 8192) r a)) (K (ix2 (n0 := 9216) (n1 := 8192) r b)) == 1#1) b
    have hpq : p = q := hanti.injective (by
      refine (hV p).trans (Eq.trans ?_ (hV q).symm)
      rw [hK, hK]
      exact congrArg _ hab)
    rw [hpq]

end Cert.Pre_separated.Hand

end
-- ==== Proof.Ideal.Match.lean ====
module

public import proofs.«01_k».proof.Proof.Ideal.Inputs
public import proofs.«01_k».proof.Proof.Reference.Separated

/-!
# The columns a block keeps

Where the arguments are `Separated`, the fifteen columns a row of a block keeps are the fifteen
nearest ones of that row of the whole array.
-/

@[expose] public section

noncomputable section

namespace Cert.KernelIdeal.Hand

open Cert.KernelIdeal Cert.KernelIdeal.Gen
open Idealize.ShloMosaic Idealize.ShloMosaic.TcCoe Idealize.ShloMosaic.Tactic
open Cert.Pre_separated.Hand (Separated column_step)
open Cert.Order (keptSet keptSet_card keptSet_lower)

/-- A row whose distances are real and apart keeps its fifteen nearest columns. -/
theorem chosen_eq (x0 : Vec Ideal S256x256 .f32) (x1 : Vec Ideal S256x1 .f32) (x2 : Vec Ideal S8192x256 .f32) (x3 : Vec Ideal S1x8192 .f32)
    (r : Fin 256) (d : Fin 8192 → ℝ)
    (hd : ∀ j, val_12 x0 x2 x1 x3 (ix2 (n0 := 256) (n1 := 8192) r j) = ((d j : ℝ) : EReal))
    (gap : ∀ j, d j = d (Cert.Order.kept d 14) ∨ (1 / 65536 : ℝ) ≤ |d j - d (Cert.Order.kept d 14)|)
    (inj : Function.Injective fun j : Fin 8192 => d j + (j.val : ℝ) * (1 / 536870912)) :
    chosen x0 x1 x2 x3 r = keptSet d := by
  obtain ⟨j0, h0⟩ := key_eq x0 x1 x2 x3 r
  have hk : ∀ j, keyRow x0 x1 x2 x3 r j = (((d j + (j.val : ℝ) * (1 / 536870912)) - d j0 : ℝ) : EReal) := by
    intro j
    rw [h0 j, hd j, hd j0, step_block, column_step, ← EReal.coe_sub, ← EReal.coe_add]
    congr 1; ring
  have hinj : Function.Injective (keyRow x0 x1 x2 x3 r) := by
    intro a b hab
    rw [hk a, hk b, EReal.coe_eq_coe_iff] at hab
    exact inj (by simpa using hab)
  have hfin : ∀ j, keyRow x0 x1 x2 x3 r j ≠ ⊤ := fun j => by rw [hk j]; exact EReal.coe_ne_top _
  refine Cert.Rows.lower_unique ((chosen_card x0 x1 x2 x3 r hinj hfin).trans (keptSet_card d).symm)
    (chosen_lower x0 x1 x2 x3 r) fun i hi j hj => ?_
  rw [hk i, hk j, EReal.coe_lt_coe_iff]
  exact sub_lt_sub_right (keptSet_lower d gap i hi j hj) _

variable (m : (ℓ : Loc nD τ sig) → Buf (Elt Ideal) ℓ)

/-- The distances of a point's block are those of its rows. -/
theorem dist_at (c : Dev nD) (t : Fin (cfg0 (F := Ideal)).N) (r : Fin 256) (j : Fin 8192) :
    val_12 (F := Ideal) (iblk m c 0 t) (iblk m c 2 t) (iblk m c 1 t) (iblk m c 3 t) (ix2 (n0 := 256) (n1 := 8192) r j)
      = Cert.Math.dist (argZ m c) (argW m c) (rowOf t r) j := by
  refine (dist_block _ _ _ _ r j).trans ?_
  exact congrArg₂ (fun a b : EReal => a + b)
    (congrArg₂ (fun a b : EReal => a - b) ((iblk_1 m c t r 0).trans (zNorms_at _ _ _))
      (congrArg (fun a : EReal => Ideal.ofBits .f32 0x40000000#32 * a)
        (Finset.sum_congr rfl fun k _ => congrArg₂ (fun a b : EReal => a * b) (iblk_0 m c t r k) (iblk_2 m c t j k))))
    ((iblk_3 m c t 0 j).trans (wNorms_at _ _ _))

section Kept
variable {d : Fin 9216 → Fin 8192 → ℝ}

/-- A point's rows keep their nearest columns. -/
theorem chosen_point (c : Dev nD) (hsep : Separated (argZ m c) (argW m c) d) (t : Fin (cfg0 (F := Ideal)).N) (r : Fin 256) :
    chosen (iblk m c 0 t) (iblk m c 1 t) (iblk m c 2 t) (iblk m c 3 t) r = keptSet (d (rowOf t r)) :=
  chosen_eq _ _ _ _ r (d (rowOf t r)) (fun j => (dist_at m c t r j).trans (hsep.dist_eq _ j)) (hsep.gap _) (hsep.inj _)

/-- The sum of the codes a row keeps. -/
def codeSum (w : FVec Ideal S8192x256 .f32) (d : Fin 9216 → Fin 8192 → ℝ) (r : Fin 9216) (k : Fin 256) : EReal :=
  ∑ j ∈ keptSet (d r), (w (ix2 (n0 := 8192) (n1 := 256) j k) : EReal)

theorem pick_point (c : Dev nD) (hsep : Separated (argZ m c) (argW m c) d) (t : Fin (cfg0 (F := Ideal)).N) (r : Fin 256) (k : Fin 256) :
    pick (iblk m c 0 t) (iblk m c 1 t) (iblk m c 2 t) (iblk m c 3 t) r k = codeSum (argW m c) d (rowOf t r) k := by
  unfold pick codeSum
  rw [chosen_point m c hsep t r]
  exact Finset.sum_congr rfl fun j _ => iblk_2 m c t j k

end Kept

end Cert.KernelIdeal.Hand

end
-- ==== Proof.Ideal.Arrays.lean ====
module

public import proofs.«01_k».proof.Proof.Ideal.Match

/-!
# The arrays after all points

The blocks of the 36 points put together: the rows, the marks, and the squared error added up.
-/

@[expose] public section

noncomputable section

namespace Cert.KernelIdeal.Hand

open Cert.KernelIdeal Cert.KernelIdeal.Gen
open Idealize.ShloMosaic Idealize.ShloMosaic.TcCoe Idealize.ShloMosaic.Tactic
open Cert.Pre_separated.Hand (Separated)
open Cert.Order (keptSet)

/-- The first result: each row moved to the sum of its codes. -/
def rowsAll (z : FVec Ideal S9216x256 .f32) (w : FVec Ideal S8192x256 .f32) (d : Fin 9216 → Fin 8192 → ℝ) : FVec Ideal S9216x256 .f32 :=
  fun i => (z i : EReal) + (codeSum w d (i 0) (i 1) - z i)

/-- The mark of a column: one at the row's nearest columns. -/
def hotMark (d : Fin 9216 → Fin 8192 → ℝ) (r : Fin 9216) (j : Fin 8192) : EReal :=
  if j ∈ keptSet (d r) then 1 else 0

/-- The third result: the marks of the nearest columns. -/
def hotAll (d : Fin 9216 → Fin 8192 → ℝ) : FVec Ideal S9216x8192 .f32 := fun i => hotMark d (i 0) (i 1)

/-- A row's squared error. -/
def rowErr (z : FVec Ideal S9216x256 .f32) (w : FVec Ideal S8192x256 .f32) (d : Fin 9216 → Fin 8192 → ℝ) (r : Fin 9216) : EReal :=
  ∑ k : Fin 256, (codeSum w d r k - z (ix2 (n0 := 9216) (n1 := 256) r k)) * (codeSum w d r k - z (ix2 (n0 := 9216) (n1 := 256) r k))

variable (m : (ℓ : Loc nD τ sig) → Buf (Elt Ideal) ℓ)

/-- A block of window 4 lies at its rows. -/
theorem place_4 (G : FVec Ideal S9216x256 .f32) (t : Fin (cfg0 (F := Ideal)).N) (r : Fin 256) (k : Fin 256) :
    G ((win0_4.blk t).view.emb (ix2 (n0 := 256) (n1 := 256) r k)) = G (ix2 (n0 := 9216) (n1 := 256) (rowOf t r) k) := by
  unfold rowOf
  blk_ext [idx t]

/-- A block of window 5 lies at its rows. -/
theorem place_5 (G : FVec Ideal S9216x8192 .f32) (t : Fin (cfg0 (F := Ideal)).N) (r : Fin 256) (j : Fin 8192) :
    G ((win0_5.blk t).view.emb (ix2 (n0 := 256) (n1 := 8192) r j)) = G (ix2 (n0 := 9216) (n1 := 8192) (rowOf t r) j) := by
  unfold rowOf
  blk_ext [idx t]

section Kept
variable {d : Fin 9216 → Fin 8192 → ℝ}

theorem rows_point (c : Dev nD) (hsep : Separated (argZ m c) (argW m c) d) (t : Fin (cfg0 (F := Ideal)).N) (r : Fin 256) (k : Fin 256) :
    rowsOut (F := Ideal) (iblk m c 0 t) (iblk m c 1 t) (iblk m c 2 t) (iblk m c 3 t) (ix2 (n0 := 256) (n1 := 256) r k)
      = rowsAll (argZ m c) (argW m c) d (ix2 (n0 := 9216) (n1 := 256) (rowOf t r) k) :=
  (rowsOut_at _ _ _ _ r k).trans (congrArg₂ (fun a b : EReal => a + (b - a)) (iblk_0 m c t r k) (pick_point m c hsep t r k))

theorem hot_point (c : Dev nD) (hsep : Separated (argZ m c) (argW m c) d) (t : Fin (cfg0 (F := Ideal)).N) (r : Fin 256) (j : Fin 8192) :
    hotOut (F := Ideal) (iblk m c 0 t) (iblk m c 1 t) (iblk m c 2 t) (iblk m c 3 t) (ix2 (n0 := 256) (n1 := 8192) r j)
      = hotAll d (ix2 (n0 := 9216) (n1 := 8192) (rowOf t r) j) := by
  refine (hotOut_at _ _ _ _ r j).trans ?_
  rw [chosen_point m c hsep t r]
  exact (show hotMark d (rowOf t r) j = hotAll d (ix2 (n0 := 9216) (n1 := 8192) (rowOf t r) j) from rfl)

theorem err_point (c : Dev nD) (hsep : Separated (argZ m c) (argW m c) d) (t : Fin (cfg0 (F := Ideal)).N) (i : S1x1.Idx) :
    errOut (F := Ideal) (iblk m c 0 t) (iblk m c 1 t) (iblk m c 2 t) (iblk m c 3 t) i
      = ∑ r : Fin 256, rowErr (argZ m c) (argW m c) d (rowOf t r) := by
  rw [errOut_at]
  exact Finset.sum_congr rfl fun r _ => Finset.sum_congr rfl fun k _ =>
    congrArg₂ (fun a b : EReal => (a - b) * (a - b)) (pick_point m c hsep t r k) (iblk_0 m c t r k)

/-- The first result's array. -/
theorem final_4 (c : Dev nD) (hsep : Separated (argZ m c) (argW m c) d) :
    (dats m 0 c).arrAt 4 (cfgs (F := Ideal) 0).N = rowsAll (argZ m c) (argW m c) d := by
  refine (dats m 0 c).arrAt_eq_of_covers 4 _ (by decide +kernel) fun t _ y => ?_
  blk_simp
  rw [after_4]
  obtain ⟨r, k, rfl⟩ : ∃ (r : Fin 256) (k : Fin 256), y = ix2 (n0 := 256) (n1 := 256) r k := ⟨y 0, y 1, eq_ix2 y⟩
  exact (rows_point m c hsep t r k).trans (place_4 _ t r k).symm

/-- The third result's array. -/
theorem final_5 (c : Dev nD) (hsep : Separated (argZ m c) (argW m c) d) :
    (dats m 0 c).arrAt 5 (cfgs (F := Ideal) 0).N = hotAll d := by
  refine (dats m 0 c).arrAt_eq_of_covers 5 _ (by decide +kernel) fun t _ y => ?_
  blk_simp
  rw [after_5]
  obtain ⟨r, j, rfl⟩ : ∃ (r : Fin 256) (j : Fin 8192), y = ix2 (n0 := 256) (n1 := 8192) r j := ⟨y 0, y 1, eq_ix2 y⟩
  exact (hot_point m c hsep t r j).trans (place_5 _ t r j).symm

/-- The row `256 t + r`, as a number below `9216` whatever `t` is. -/
def rowNat (t : Fin 36) (r : Fin 256) : Fin 9216 := ⟨256 * t.val + r.val, by omega⟩

/-- The points up to `n` have added up their rows' errors. -/
theorem errUpTo_at (c : Dev nD) (hsep : Separated (argZ m c) (argW m c) d) (i : S1x1.Idx) (n : ℕ) (hn : n < 36) :
    errUpTo m c n i = ∑ t : Fin (n + 1), ∑ r : Fin 256, rowErr (argZ m c) (argW m c) d (rowNat ⟨t.val, by omega⟩ r) := by
  induction n with
  | zero =>
    rw [Fin.sum_univ_one]
    exact (congrFun (errUpTo_first m c ⟨0, lt_of_lt_of_eq hn N_0.symm⟩ rfl) i).trans (err_point m c hsep _ i)
  | succ n ih =>
    rw [Fin.sum_univ_castSucc]
    refine (congrFun (errUpTo_later m c ⟨n + 1, lt_of_lt_of_eq hn N_0.symm⟩ (Nat.succ_le_succ (Nat.zero_le n))) i).trans ?_
    refine (errAdd_at _ _ _ _ _ i).trans ?_
    exact congrArg₂ (fun a b : EReal => a + b) (ih (by omega)) (err_point m c hsep _ i)

/-- All points' errors are all rows' errors. -/
theorem sum_rows (f : Fin 9216 → EReal) : ∑ t : Fin 36, ∑ r : Fin 256, f (rowNat t r) = ∑ r : Fin 9216, f r := by
  rw [← Fintype.sum_prod_type' (fun t r => f (rowNat t r))]
  refine Fintype.sum_equiv (finProdFinEquiv (m := 36) (n := 256)) _ _ fun x => ?_
  congr 1
  apply Fin.ext
  show 256 * x.1.val + x.2.val = x.2.val + 256 * x.1.val
  omega

/-- The squared error of all rows. -/
def errAll (z : FVec Ideal S9216x256 .f32) (w : FVec Ideal S8192x256 .f32) (d : Fin 9216 → Fin 8192 → ℝ) : EReal :=
  ∑ r : Fin 9216, rowErr z w d r

theorem errUpTo_last (c : Dev nD) (hsep : Separated (argZ m c) (argW m c) d) (i : S1x1.Idx) :
    errUpTo m c 35 i = errAll (argZ m c) (argW m c) d :=
  (errUpTo_at m c hsep i 35 (by norm_num)).trans (sum_rows (rowErr (argZ m c) (argW m c) d))

/-- The last point. -/
def tLast : Fin (cfg0 (F := Ideal)).N := ⟨35, by rw [show (cfg0 (F := Ideal)).N = 36 from N_0]; norm_num⟩

/-- The error's array. -/
theorem final_6 (c : Dev nD) (hsep : Separated (argZ m c) (argW m c) d) :
    (dats m 0 c).arrAt 6 (cfgs (F := Ideal) 0).N = fun _ => errAll (argZ m c) (argW m c) d := by
  refine (dats m 0 c).arrAt_eq_of_after_last 6 tLast (by decide +kernel) _ fun j => ?_
  blk_simp
  rw [after_6]
  exact errUpTo_last m c hsep _

end Kept

end Cert.KernelIdeal.Hand

end
-- ==== Proof.Ideal.Values.lean ====
module

public import proofs.«01_k».proof.Proof.Ideal.Arrays
public import proofs.«01_k».proof.Proof.Ideal.Halts
public import Idealize.ShloMosaic.Lib.Pipeline.FrameTail

/-!
# The results of the kernel

The three results as functions of the arguments, where the arguments are `Separated`.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Cert.Pre_separated.Hand (Separated)

/-- The second result, from the squared error of all rows. -/
def lossOf (e : FVec Ideal S1x1 .f32) : FVec Ideal S_ .f32 :=
  addf (Host.divf (shapeCast S_ e shapeCasts_S1x1_S_) (constant S_ .f32 0x4A100000#32))
    (mulf (constant S_ .f32 0x3E800000#32) (Host.divf (shapeCast S_ e shapeCasts_S1x1_S_) (constant S_ .f32 0x4A100000#32)))

theorem lossOf_at (e : EReal) (i : S_.Idx) : lossOf (fun _ => e) i
    = Ideal.div e (Ideal.ofBits .f32 0x4A100000#32) + Ideal.ofBits .f32 0x3E800000#32 * Ideal.div e (Ideal.ofBits .f32 0x4A100000#32) := by
  rfl

variable (m : (ℓ : Loc nD τ sig) → Buf (Elt Ideal) ℓ) (ρ : Dev nD → PrngReg)

/-- The later lines make the second result of the squared error. -/
theorem tail_of (X : Valuation τ sig (Elt Ideal)) :
    StableHlo.after (hostOps1 (F := Ideal)) X (Proc.devRef .tc main_v0_1) = lossOf (X (Proc.devRef .tc main_call0_v6_2)) := by
  after_results
  rfl

theorem tail_loss (c : Dev nD) :
    Pipeline.afterTail₀ cfgs (dats m) 0 (V0 m) [hostOps1] c main_v0_1 = lossOf ((dats m 0 c).arrAt 6 (cfgs (F := Ideal) 0).N) :=
  (tail_of _).trans (congrArg lossOf (Pipeline.withArrays_arr _ (launch0 (F := Ideal)).win.arr_inj c (V0 m c) _ 6))

/-- The loss of the whole array. -/
def lossAll (z : FVec Ideal S9216x256 .f32) (w : FVec Ideal S8192x256 .f32) (d : Fin 9216 → Fin 8192 → ℝ) : FVec Ideal S_ .f32 :=
  lossOf fun _ => errAll z w d

/-- Every run ends with the three results at these values and the arguments as they were. -/
theorem run_values {d : Dev nD → Fin 9216 → Fin 8192 → ℝ} (hsep : ∀ c, Separated (argZ m c) (argW m c) (d c)) :
    θ_run defs (onTc (τ := τ) (main (F := Ideal))) ⟨m, fun _ => 0, ρ⟩ (fun r => ∀ c : Dev nD,
      r.2.mem ((c.tc : Thread nD τ).loc main_v0_0) = rowsAll (argZ m c) (argW m c) (d c)
      ∧ r.2.mem ((c.tc : Thread nD τ).loc main_v0_1) = lossAll (argZ m c) (argW m c) (d c)
      ∧ r.2.mem ((c.tc : Thread nD τ).loc main_v0_2) = hotAll (d c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).1 4).trans (final_4 m c (hsep c)),
      ((h.1 c).2 main_v0_1 (by decide)).trans ((tail_loss m c).trans (congrArg lossOf (final_6 m c (hsep c)))),
      ((h.1 c).1 5).trans (final_5 m c (hsep c)),
      ((h.1 c).1 0).trans (((dats m 0 c).arrAt_in 0 rfl _).trans ((A_eq m c 0).trans (V_main_arg0 m c))),
      ((h.1 c).1 2).trans (((dats m 0 c).arrAt_in 2 rfl _).trans ((A_eq m c 2).trans (V_main_arg1 m c)))⟩)
    (run_main_quiescent m ρ halting)

end Cert.KernelIdeal.Hand

end
-- ==== Proof.Reference.Terms.lean ====
module

public import proofs.«01_k».proof.Proof.Gen.ReferenceIdeal.Run
public import proofs.«01_k».proof.Proof.Math.Dist
public import Idealize.ShloMosaic.Lib.Pointwise.Contract
public import Idealize.ShloMosaic.Lib.Pointwise.Reduce

/-!
# The reference's results, as named terms

The reference's three results are long terms of the two arguments. The parts they share are named
here, and each result is shown to be the term of these names.
-/

@[expose] public section

noncomputable section

namespace Cert.ReferenceIdeal.Hand

open Idealize.ShloMosaic Idealize.ShloMosaic.TcCoe Cert.ReferenceIdeal Cert.ReferenceIdeal.Gen Cert.ReferenceIdeal.Value

/-- The matrix of squared distances. -/
def distances (z : FVec Ideal S9216x256 .f32) (w : FVec Ideal S8192x256 .f32) : FVec Ideal S9216x8192 .f32 :=
  addf (subf (broadcastInDim S9216x8192 ![0, 1] bcast_S9216x1_S9216x8192_0_1 (broadcastInDim S9216x1 ![0] bcast_S9216_S9216x1_0 (Host.reduceAdd (mulf z z) (constant S_ .f32 0x00000000#32) reducesTo_S9216x256_S9216_d1 h_S_))) (mulf (broadcastInDim S9216x8192 ![] bcast_S_S9216x8192 (constant S_ .f32 0x40000000#32)) (Host.dotGeneral dot_S9216x256_S256x8192_S9216x8192_1_0_0_1_n_n none z (transpose S256x8192 [1, 0] w transposes_S8192x256_S256x8192_1_0)))) (broadcastInDim S9216x8192 ![0, 1] bcast_S1x8192_S9216x8192_0_1 (broadcastInDim S1x8192 ![1] bcast_S8192_S1x8192_1 (Host.reduceAdd (mulf w w) (constant S_ .f32 0x00000000#32) reducesTo_S8192x256_S8192_d1 h_S_)))

/-- The columns of the fifteen greatest negated distances, as words. -/
def columns (D : FVec Ideal S9216x8192 .f32) : IVec S9216x15 32 :=
  (Host.topK S9216x15 1 (FloatOps.cmpfTotal .gt) (Host.negf D) sliceFits_S9216x8192_S9216x15).2

/-- A column below zero counts from the end. -/
def wrapped (I : IVec S9216x15 32) : IVec S9216x15 32 :=
  select (cmpi .slt I (broadcastInDim S9216x15 ![] bcast_S_S9216x15 (constantI S_ 32 0#32)))
    (addi I (broadcastInDim S9216x15 ![] bcast_S_S9216x15 (constantI S_ 32 8192#32))) I

/-- The same with a last axis of one. -/
def starts (I : IVec S9216x15 32) : IVec S9216x15x1 32 :=
  broadcastInDim S9216x15x1 ![0, 1] bcast_S9216x15_S9216x15x1_0_1 (wrapped I)

/-- Whether a column is a column of the matrix. -/
def inRange (I : IVec S9216x15 32) : IVec S9216x15 1 :=
  Host.reduce IntOp.andi (andi (cmpi .sge (starts I) (broadcastInDim S9216x15x1 ![] bcast_S_S9216x15x1 (constantI S_ 32 0#32)))
    (cmpi .sle (starts I) (broadcastInDim S9216x15x1 ![0, 1, 2] bcast_S1x1x1_S9216x15x1_0_1_2 (broadcastInDim S1x1x1 ![2] bcast_S1_S1x1x1_2 (constantI S1 32 8191#32)))))
    (constantI S_ 1 1#1) reducesTo_S9216x15x1_S9216x15_d2 h_S_

/-- The rows of `w` at the fifteen columns. -/
def taken (w : FVec Ideal S8192x256 .f32) (I : IVec S9216x15 32) : FVec Ideal S9216x15x256 .f32 :=
  select (broadcastInDim S9216x15x256 ![0, 1] bcast_S9216x15_S9216x15x256_0_1 (inRange I))
    (Host.gather gather_S8192x256_S9216x15x1_S9216x15x256_2_0_n_n_0_2_1256 w (starts I))
    (broadcastInDim S9216x15x256 ![] bcast_S_S9216x15x256 (constant S_ .f32 0x7FC00000#32))

/-- Their sum. -/
def summed (w : FVec Ideal S8192x256 .f32) (I : IVec S9216x15 32) : FVec Ideal S9216x256 .f32 :=
  Host.reduceAdd (taken w I) (constant S_ .f32 0x00000000#32) reducesTo_S9216x15x256_S9216x256_d1 h_S_

/-- The row numbers. -/
def rowWords : IVec S9216x1 32 := broadcastInDim S9216x1 ![0] bcast_S9216_S9216x1_0 (iotaInDim S9216 32 0)

def rowWrapped : IVec S9216x1 32 :=
  select (cmpi .slt rowWords (broadcastInDim S9216x1 ![] bcast_S_S9216x1 (constantI S_ 32 0#32)))
    (addi rowWords (broadcastInDim S9216x1 ![] bcast_S_S9216x1 (constantI S_ 32 9216#32))) rowWords

def rowStarts : IVec S9216x15x1 32 :=
  broadcastInDim S9216x15x1 ![0, 1] bcast_S9216x15_S9216x15x1_0_1 (broadcastInDim S9216x15 ![0, 1] bcast_S9216x1_S9216x15_0_1 rowWrapped)

/-- The pairs of a row and a column. -/
def places (I : IVec S9216x15 32) : IVec S9216x15x2 32 :=
  concatenate S9216x15x2 2 [⟨S9216x15x1, rowStarts⟩, ⟨S9216x15x1, starts I⟩] concatenates_S9216x15x1_S9216x15x1_S9216x15x2_d2

/-- One at these places, zero elsewhere. -/
def hot (I : IVec S9216x15 32) : FVec Ideal S9216x8192 .f32 :=
  Host.scatter scatter_S9216x8192_S9216x15x2_S9216x15_n_01_01_2 (fun _ b => b) (broadcastInDim S9216x8192 ![] bcast_S_S9216x8192 (constant S_ .f32 0x00000000#32)) (places I)
    (broadcastInDim S9216x15 ![] bcast_S_S9216x15 (constant S_ .f32 0x3F800000#32))

/-- The loss of the sums `q` against `z`. -/
def loss (z q : FVec Ideal S9216x256 .f32) : FVec Ideal S_ .f32 :=
  addf (Host.divf (Host.reduceAdd (mulf (subf q z) (subf q z)) (constant S_ .f32 0x00000000#32) reducesTo_S9216x256_S_d0_1 h_S_) (constant S_ .f32 0x4A100000#32))
    (mulf (constant S_ .f32 0x3E800000#32)
      (Host.divf (Host.reduceAdd (mulf (subf z q) (subf z q)) (constant S_ .f32 0x00000000#32) reducesTo_S9216x256_S_d0_1 h_S_) (constant S_ .f32 0x4A100000#32)))

variable (m : (ℓ : Loc nD τ sig) → Buf (Elt Ideal) ℓ) (c : Dev nD)

theorem hot_result : res_main_v34 m c = hot (columns (distances (m ((c.tc : Thread nD τ).loc main_arg0)) (m ((c.tc : Thread nD τ).loc main_arg1)))) := by
  unfold res_main_v34
  rfl

theorem rows_result : res_main_v47 m c = addf (m ((c.tc : Thread nD τ).loc main_arg0))
    (subf (summed (m ((c.tc : Thread nD τ).loc main_arg1)) (columns (distances (m ((c.tc : Thread nD τ).loc main_arg0)) (m ((c.tc : Thread nD τ).loc main_arg1)))))
      (m ((c.tc : Thread nD τ).loc main_arg0))) := by
  unfold res_main_v47
  rfl

theorem loss_result : res_main_v45 m c = loss (m ((c.tc : Thread nD τ).loc main_arg0))
    (summed (m ((c.tc : Thread nD τ).loc main_arg1)) (columns (distances (m ((c.tc : Thread nD τ).loc main_arg0)) (m ((c.tc : Thread nD τ).loc main_arg1))))) := by
  unfold res_main_v45
  rfl

/-- The distances, at a row and a column. -/
theorem distances_at (z : FVec Ideal S9216x256 .f32) (w : FVec Ideal S8192x256 .f32) (r : Fin 9216) (j : Fin 8192) :
    distances z w (ix2 (n0 := 9216) (n1 := 8192) r j) = Cert.Math.dist z w r j := by
  unfold distances Cert.Math.dist
  pointwise

/-- The loss, at its one index. -/
theorem loss_at (z q : FVec Ideal S9216x256 .f32) (i : S_.Idx) :
    loss z q i = Ideal.div (∑ r : Fin 9216, ∑ c : Fin 256, (q (ix2 (n0 := 9216) (n1 := 256) r c) - z (ix2 (n0 := 9216) (n1 := 256) r c)) * (q (ix2 (n0 := 9216) (n1 := 256) r c) - z (ix2 (n0 := 9216) (n1 := 256) r c))) (Ideal.ofBits .f32 0x4A100000#32)
      + Ideal.ofBits .f32 0x3E800000#32 * Ideal.div (∑ r : Fin 9216, ∑ c : Fin 256, (z (ix2 (n0 := 9216) (n1 := 256) r c) - q (ix2 (n0 := 9216) (n1 := 256) r c)) * (z (ix2 (n0 := 9216) (n1 := 256) r c) - q (ix2 (n0 := 9216) (n1 := 256) r c))) (Ideal.ofBits .f32 0x4A100000#32) := by
  unfold loss
  pointwise

/-- The sum of the rows taken, at a row and a lane. -/
theorem summed_at (w : FVec Ideal S8192x256 .f32) (I : IVec S9216x15 32) (r : Fin 9216) (c : Fin 256) :
    summed w I (ix2 (n0 := 9216) (n1 := 256) r c) = ∑ k : Fin 15, taken w I (ix3 (n0 := 9216) (n1 := 15) (n2 := 256) r k c) := by
  unfold summed
  generalize taken w I = T
  pointwise

end Cert.ReferenceIdeal.Hand

end
-- ==== Proof.Math.Gather.lean ====
module

public import Idealize.ShloMosaic.Lib.Pointwise.Tactic
public import Idealize.ShloMosaic.Lib.Routing.OpsPair
public import Idealize.ShloMosaic.Lib.Routing.OpsSet

/-!
# The rows of a table at a matrix of row numbers

A gather whose start indices form a matrix of row numbers (with a last axis of one) reads, at a row,
a place and a lane, the table at the row number held there.
-/

@[expose] public section

namespace Cert.Math

open Idealize.ShloMosaic

theorem gather_rows {α : Type} {N B R K : ℕ} (d : GatherDims ⟨2, ![N, B]⟩ ⟨3, ![R, K, 1]⟩ ⟨3, ![R, K, B]⟩)
    (hoff : d.offsetDims = [2]) (hcoll : d.collapsedSliceDims = [0]) (hob : d.operandBatchingDims = [])
    (hsim : d.startIndexMap = [0]) (hivd : d.indexVectorDim = 2)
    (x : (⟨2, ![N, B]⟩ : Shape).Idx → α) (idx : IVec ⟨3, ![R, K, 1]⟩ 32) (r : Fin R) (k : Fin K) (y : Fin B) (b : Fin N)
    (hb : idx (ix3 (n0 := R) (n1 := K) (n2 := 1) r k 0) = BitVec.ofNat 32 b.val) (hN : N < 2 ^ 31) :
    Host.gather d x idx (ix3 (n0 := R) (n1 := K) (n2 := B) r k y) = x (ix2 (n0 := N) (n1 := B) b y) := by
  unfold Host.gather
  refine congrArg x (funext fun a => Fin.ext ?_)
  have hbN : ∀ a', a' ∉ d.operandBatchingDims := fun a' => by
    rw [hob]
    exact List.not_mem_nil
  -- the two first axes of the result run over the row numbers, the last over the lanes
  have hbatch : d.batchDims = [0, 1] := by
    show (List.finRange 3).filter (fun q => decide (q ∉ d.offsetDims)) = _
    rw [hoff]
    rfl
  have hlane : ∀ q ∈ d.offsetDims, q = (2 : Fin 3) := fun q hq => by
    rw [hoff] at hq
    exact List.mem_singleton.1 hq
  have hkept : d.siKept = [0, 1] := by
    show (List.finRange 3).filter (fun q => decide (q.val ≠ d.indexVectorDim)) = _
    rw [hivd]
    rfl
  have pick : ∀ (l : List (Fin 3)) (n : ℕ) (h : n < l.length) (q : Fin 2), l = [0, 1] → n = q.val → l[n]'h = q.castSucc := by
    intro l n h q hl hn
    subst hl
    subst hn
    fin_cases q <;> rfl
  have e0 : ∀ X : Fin 3, X = 0 → (ix3 (n0 := R) (n1 := K) (n2 := B) r k y X).val = r.val := fun X h => by
    subst h
    rfl
  have e1 : ∀ X : Fin 3, X = 1 → (ix3 (n0 := R) (n1 := K) (n2 := B) r k y X).val = k.val := fun X h => by
    subst h
    rfl
  have e2 : ∀ X : Fin 3, X = 2 → (ix3 (n0 := R) (n1 := K) (n2 := B) r k y X).val = y.val := fun X h => by
    subst h
    rfl
  match a with
  | ⟨0, _⟩ =>
    have hk : (0 : Fin 2) ∉ d.sKept := fun h => ((d.mem_sKept 0).1 h).1 (by
      rw [hcoll]
      exact List.mem_singleton.2 rfl)
    have hm : (0 : Fin 2) ∈ d.startIndexMap := by
      rw [hsim]
      exact List.mem_singleton.2 rfl
    have hsl : d.sliceSizes 0 = 1 := d.slice_collapsed 0 (by
      rw [hcoll]
      exact List.mem_singleton.2 rfl)
    show d.start (ix3 r k y) idx 0 + d.batchCoord (ix3 r k y) 0 + d.offCoord (ix3 r k y) 0 = b.val
    rw [d.batchCoord_eq_zero _ _ (hbN 0), d.offCoord_eq_zero _ _ hk]
    simp only [Nat.add_zero]
    unfold GatherDims.start
    rw [dif_pos hm]
    have hsi : d.siIdx (ix3 r k y) ⟨d.startIndexMap.idxOf 0, List.idxOf_lt_length_iff.2 hm⟩ = ix3 (n0 := R) (n1 := K) (n2 := 1) r k 0 := by
      funext b'
      apply Fin.ext
      match b' with
      | ⟨0, _⟩ =>
        unfold GatherDims.siIdx
        rw [dif_neg (by rw [hivd]; exact (by decide : (0 : ℕ) ≠ 2))]
        unfold GatherDims.siCoord
        simp only [Fin.val_cast]
        exact e0 _ (pick _ _ _ 0 hbatch (by
          show d.siKept.idxOf (0 : Fin 3) = 0
          rw [hkept]
          rfl))
      | ⟨1, _⟩ =>
        unfold GatherDims.siIdx
        rw [dif_neg (by rw [hivd]; exact (by decide : (1 : ℕ) ≠ 2))]
        unfold GatherDims.siCoord
        simp only [Fin.val_cast]
        exact e1 _ (pick _ _ _ 1 hbatch (by
          show d.siKept.idxOf (1 : Fin 3) = 1
          rw [hkept]
          rfl))
      | ⟨2, _⟩ =>
        unfold GatherDims.siIdx
        rw [dif_pos (by rw [hivd])]
        show List.idxOf (0 : Fin 2) d.startIndexMap = 0
        rw [hsim]
        simp
    have hbl := b.isLt
    rw [hsi, hb, hsl, StableHlo.Predicate.toInt_ofNat_small _ (by omega)]
    show min ((b.val : Int)).toNat (N - 1) = b.val
    omega
  | ⟨1, _⟩ =>
    have hk : (1 : Fin 2) ∈ d.sKept := (d.mem_sKept 1).2 ⟨by rw [hcoll]; simp, hbN 1⟩
    have hm : (1 : Fin 2) ∉ d.startIndexMap := by
      rw [hsim]
      simp
    show d.start (ix3 r k y) idx 1 + d.batchCoord (ix3 r k y) 1 + d.offCoord (ix3 r k y) 1 = y.val
    rw [d.batchCoord_eq_zero _ _ (hbN 1), Nat.add_zero]
    unfold GatherDims.start GatherDims.offCoord
    rw [dif_neg hm, dif_pos hk, Nat.zero_add]
    exact e2 _ (hlane _ (List.getElem_mem _))

end Cert.Math
-- ==== Proof.Reference.Reads.lean ====
module

public import proofs.«01_k».proof.Proof.Reference.Terms
public import proofs.«01_k».proof.Proof.Math.Gather
public import proofs.«01_k».proof.Proof.Math.TopK
public import proofs.«01_k».proof.Proof.Math.Order
public import Idealize.ShloMosaic.Lib.Pointwise.IndexBridge
public import Idealize.ShloMosaic.Lib.Pointwise.Select
public import Idealize.ShloMosaic.Lib.ReduceAll
public import Idealize.ShloMosaic.Lib.WordCmp

/-!
# The reference's results, at an index

Where the words of the fifteen columns are known, the rows taken, their sum and the matrix of ones
are read at an index.
-/

@[expose] public section

noncomputable section

namespace Cert.ReferenceIdeal.Hand

open Idealize.ShloMosaic Cert.ReferenceIdeal Cert.ReferenceIdeal.Gen

/-- A word below half the range is not below zero. -/
theorem slt_zero (b : ℕ) (hb : b < 9216) : IntOp.cmpi .slt (BitVec.ofNat 32 b) 0#32 = 0#1 := by
  rw [WordCmp.cmpi_slt_eq, StableHlo.Predicate.toInt_ofNat_small _ (by omega)]
  rw [decide_eq_false (by
    show ¬ ((b : Int) < 0)
    omega)]
  rfl

section
variable (I : IVec S9216x15 32) (col : Fin 9216 → Fin 15 → Fin 8192)
  (hI : ∀ r k, I (ix2 (n0 := 9216) (n1 := 15) r k) = BitVec.ofNat 32 (col r k).val)
include hI

theorem wrapped_at (r : Fin 9216) (k : Fin 15) :
    wrapped I (ix2 (n0 := 9216) (n1 := 15) r k) = BitVec.ofNat 32 (col r k).val := by
  have e : wrapped I (ix2 (n0 := 9216) (n1 := 15) r k) = Scalar.select (IntOp.cmpi .slt (I (ix2 (n0 := 9216) (n1 := 15) r k)) 0#32)
      (IntOp.addi (I (ix2 (n0 := 9216) (n1 := 15) r k)) 8192#32) (I (ix2 (n0 := 9216) (n1 := 15) r k)) := by
    unfold wrapped
    pointwise
  have := (col r k).isLt
  rw [e, hI, slt_zero _ (by omega)]
  rfl

theorem starts_at (r : Fin 9216) (k : Fin 15) :
    starts I (ix3 (n0 := 9216) (n1 := 15) (n2 := 1) r k 0) = BitVec.ofNat 32 (col r k).val := by
  rw [← wrapped_at I col hI r k]
  unfold starts
  generalize wrapped I = W
  pointwise

theorem starts_at' (i : S9216x15x1.Idx) :
    starts I i = BitVec.ofNat 32 (col (i 0) (i 1)).val := by
  have e : i = ix3 (n0 := 9216) (n1 := 15) (n2 := 1) (i 0) (i 1) 0 := by
    funext a
    match a with
    | ⟨0, _⟩ => rfl
    | ⟨1, _⟩ => rfl
    | ⟨2, _⟩ => exact Subsingleton.elim (α := Fin 1) _ _
  exact (congrArg (starts I) e).trans (starts_at I col hI _ _)

theorem inRange_at (i : S9216x15.Idx) : inRange I i = 1#1 := by
  unfold inRange
  refine Host.reduce_andi_one _ _ _ _ _ rfl fun q => ?_
  have hq := (col (q 0) (q 1)).isLt
  have e : andi (cmpi .sge (starts I) (broadcastInDim S9216x15x1 ![] bcast_S_S9216x15x1 (constantI S_ 32 0#32)))
      (cmpi .sle (starts I) (broadcastInDim S9216x15x1 ![0, 1, 2] bcast_S1x1x1_S9216x15x1_0_1_2 (broadcastInDim S1x1x1 ![2] bcast_S1_S1x1x1_2 (constantI S1 32 8191#32)))) q
      = IntOp.andi (IntOp.cmpi .sge (starts I q) 0#32) (IntOp.cmpi .sle (starts I q) 8191#32) := by
    generalize starts I = W
    rfl
  have t : (BitVec.ofNat 32 (col (q 0) (q 1)).val).toInt = ((col (q 0) (q 1)).val : Int) :=
    StableHlo.Predicate.toInt_ofNat_small _ (by omega)
  have t0 : (0#32 : BitVec 32).toInt = 0 := by decide
  have t1 : (8191#32 : BitVec 32).toInt = 8191 := by decide
  rw [e, starts_at' I col hI, WordCmp.cmpi_sge_eq, WordCmp.cmpi_sle_eq, t0, t1, decide_eq_true (t.symm ▸ (by omega)),
    decide_eq_true (t.symm ▸ (by omega))]
  rfl

theorem taken_at (w : FVec Ideal S8192x256 .f32) (r : Fin 9216) (k : Fin 15) (c : Fin 256) :
    taken w I (ix3 (n0 := 9216) (n1 := 15) (n2 := 256) r k c) = w (ix2 (n0 := 8192) (n1 := 256) (col r k) c) := by
  have e : taken w I (ix3 (n0 := 9216) (n1 := 15) (n2 := 256) r k c)
      = Scalar.select (inRange I (ix2 (n0 := 9216) (n1 := 15) r k))
          (Host.gather gather_S8192x256_S9216x15x1_S9216x15x256_2_0_n_n_0_2_1256 w (starts I) (ix3 (n0 := 9216) (n1 := 15) (n2 := 256) r k c))
          (Ideal.ofBits .f32 0x7FC00000#32) := by
    unfold taken
    generalize inRange I = M
    generalize Host.gather gather_S8192x256_S9216x15x1_S9216x15x256_2_0_n_n_0_2_1256 w (starts I) = G
    pointwise
  rw [e, inRange_at I col hI]
  exact Cert.Math.gather_rows gather_S8192x256_S9216x15x1_S9216x15x256_2_0_n_n_0_2_1256 rfl rfl rfl rfl rfl w (starts I) r k c (col r k)
    (starts_at I col hI r k) (by norm_num)

theorem sum_at (w : FVec Ideal S8192x256 .f32) (r : Fin 9216) (c : Fin 256) :
    summed w I (ix2 (n0 := 9216) (n1 := 256) r c) = ∑ k : Fin 15, w (ix2 (n0 := 8192) (n1 := 256) (col r k) c) := by
  rw [summed_at]
  exact Finset.sum_congr rfl fun k _ => taken_at I col hI w r k c

end

theorem rowWords_at (r : Fin 9216) : rowWrapped (ix2 (n0 := 9216) (n1 := 1) r 0) = BitVec.ofNat 32 r.val := by
  have e : rowWrapped (ix2 (n0 := 9216) (n1 := 1) r 0) = Scalar.select (IntOp.cmpi .slt (rowWords (ix2 (n0 := 9216) (n1 := 1) r 0)) 0#32)
      (IntOp.addi (rowWords (ix2 (n0 := 9216) (n1 := 1) r 0)) 9216#32) (rowWords (ix2 (n0 := 9216) (n1 := 1) r 0)) := by
    unfold rowWrapped
    generalize rowWords = W
    pointwise
  have e' : rowWords (ix2 (n0 := 9216) (n1 := 1) r 0) = BitVec.ofNat 32 r.val := by
    unfold rowWords
    pointwise
  rw [e, e', slt_zero _ r.isLt]
  rfl

theorem rowStarts_at (r : Fin 9216) (k : Fin 15) :
    rowStarts (ix3 (n0 := 9216) (n1 := 15) (n2 := 1) r k 0) = BitVec.ofNat 32 r.val := by
  rw [← rowWords_at r]
  unfold rowStarts
  generalize rowWrapped = W
  pointwise

theorem places_row (I : IVec S9216x15 32) (r : Fin 9216) (k : Fin 15) :
    places I (ix3 (n0 := 9216) (n1 := 15) (n2 := 2) r k 0) = rowStarts (ix3 (n0 := 9216) (n1 := 15) (n2 := 1) r k 0) := by
  unfold places
  generalize rowStarts = A
  generalize starts I = B
  pointwise

theorem places_column (I : IVec S9216x15 32) (r : Fin 9216) (k : Fin 15) :
    places I (ix3 (n0 := 9216) (n1 := 15) (n2 := 2) r k 1) = starts I (ix3 (n0 := 9216) (n1 := 15) (n2 := 1) r k 0) := by
  unfold places
  generalize rowStarts = A
  generalize starts I = B
  pointwise

theorem hot_at (I : IVec S9216x15 32) (col : Fin 9216 → Fin 15 → Fin 8192)
    (hI : ∀ r k, I (ix2 (n0 := 9216) (n1 := 15) r k) = BitVec.ofNat 32 (col r k).val) (r : Fin 9216) (j : Fin 8192) :
    ((∃ k, col r k = j) → hot I (ix2 (n0 := 9216) (n1 := 8192) r j) = (1 : EReal))
      ∧ ((¬ ∃ k, col r k = j) → hot I (ix2 (n0 := 9216) (n1 := 8192) r j) = (0 : EReal)) := by
  have lands : ∀ (a : Fin 9216) (b : Fin 15),
      scatter_S9216x8192_S9216x15x2_S9216x15_n_01_01_2.resultIdx? (ix2 (n0 := 9216) (n1 := 15) a b) (places I) = some (ix2 (n0 := 9216) (n1 := 8192) r j)
        ↔ a = r ∧ col a b = j := by
    intro a b
    have h := Routing.scatter_lands2 scatter_S9216x8192_S9216x15x2_S9216x15_n_01_01_2 rfl rfl rfl (places I) a b r j
    have p0 := (places_row I a b).trans (rowStarts_at a b)
    have p1 := (places_column I a b).trans (starts_at I col hI a b)
    rw [ix3_eq_valueIdx] at p0 p1
    rw [ix2_eq_valueIdx, ix2_eq_valueIdx]
    refine h.trans ?_
    have ha := a.isLt
    have hc := (col a b).isLt
    have q0 : (places I (ValueIdx.ix3 a b 0)).toInt = (a.val : Int) := by
      refine (congrArg BitVec.toInt p0).trans ?_
      rw [StableHlo.Predicate.toInt_ofNat_small _ (by omega)]
    have q1 : (places I (ValueIdx.ix3 a b 1)).toInt = ((col a b).val : Int) := by
      refine (congrArg BitVec.toInt p1).trans ?_
      rw [StableHlo.Predicate.toInt_ofNat_small _ (by omega)]
    constructor
    · intro g
      exact ⟨Fin.ext (by exact_mod_cast q0.symm.trans g.1), Fin.ext (by exact_mod_cast q1.symm.trans g.2)⟩
    · rintro ⟨rfl, rfl⟩
      exact ⟨q0, q1⟩
  constructor
  · rintro ⟨k, hk⟩
    unfold hot
    refine Routing.scatter_set_hit _ _ _ _ _ _ (fun q _ => ?_) (ix2 (n0 := 9216) (n1 := 15) r k) ((lands r k).2 ⟨rfl, hk⟩)
    exact Ideal.ofBits_one_f32
  · intro hno
    unfold hot
    refine (Routing.scatter_set_miss _ _ _ _ _ fun q hq => ?_).trans Ideal.ofBits_zero_f32
    rw [eq_ix2 q] at hq
    obtain ⟨e, e'⟩ := (lands _ _).1 hq
    exact hno ⟨q 1, by rw [← e]; exact e'⟩

/-! ## The columns -/

/-- Negated finite distances are in the order of the distances, reversed. -/
theorem gt_neg (a b : ℝ) : (FloatOps.cmpfTotal (F := Ideal) (φ := .f32) .gt (-(a : EReal)) (-(b : EReal)) == 1#1) = decide (a < b) := by
  show (BitVec.ofBool (decide (-(b : EReal) < -(a : EReal))) == 1#1) = _
  have h : (-(b : EReal) < -(a : EReal)) ↔ a < b := by
    rw [EReal.neg_lt_neg_iff]
    exact EReal.coe_lt_coe_iff
  by_cases hab : a < b
  · rw [decide_eq_true (h.2 hab), decide_eq_true hab]
    rfl
  · rw [decide_eq_false (fun g => hab (h.1 g)), decide_eq_false hab]
    rfl

theorem columns_at (D : FVec Ideal S9216x8192 .f32) (d : Fin 9216 → Fin 8192 → ℝ)
    (hD : ∀ r j, D (ix2 (n0 := 9216) (n1 := 8192) r j) = ((d r j : ℝ) : EReal)) (r : Fin 9216) (k : Fin 15) :
    columns D (ix2 (n0 := 9216) (n1 := 15) r k) = BitVec.ofNat 32 (Cert.Order.kept (d r) k).val := by
  refine (Cert.Math.topK_at (FloatOps.cmpfTotal (F := Ideal) (φ := .f32) .gt) (Host.negf D) sliceFits_S9216x8192_S9216x15 (by norm_num) r k).2.trans ?_
  have e : Cert.Math.sortedColumn (FloatOps.cmpfTotal (F := Ideal) (φ := .f32) .gt) (Host.negf D) r = sortedFrom (Cert.Order.before (d r)) := by
    refine congrArg sortedFrom (funext fun a => funext fun b => ?_)
    refine Eq.trans (b := FloatOps.cmpfTotal (F := Ideal) (φ := .f32) .gt (-(D (ix2 (n0 := 9216) (n1 := 8192) r a) : EReal)) (-(D (ix2 (n0 := 9216) (n1 := 8192) r b) : EReal)) == 1#1) rfl ?_
    rw [hD, hD]
    exact gt_neg _ _
  rw [e]
  rfl

end Cert.ReferenceIdeal.Hand

end
-- ==== Proof.Reference.Values.lean ====
module

public import proofs.«01_k».proof.Proof.Reference.Reads
public import proofs.«01_k».proof.Proof.Reference.Separated

/-!
# The results of the reference

The three results at an index, where the arguments are `Separated`: sums over the fifteen nearest
columns of each row.
-/

@[expose] public section

noncomputable section

namespace Cert.ReferenceIdeal.Hand

open Idealize.ShloMosaic Cert.ReferenceIdeal Cert.ReferenceIdeal.Gen
open Cert.Pre_separated.Hand (Separated)
open Cert.Order (kept keptSet kept_injective mem_keptSet)

/-- A square does not see the order of a difference. -/
theorem sq_comm (a b : EReal) : (a - b) * (a - b) = (b - a) * (b - a) := by
  induction a <;> induction b <;> first
    | rfl
    | (rw [← EReal.coe_sub, ← EReal.coe_sub, ← EReal.coe_mul, ← EReal.coe_mul]; congr 1; ring)
    | simp

section
variable (z : FVec Ideal S9216x256 .f32) (w : FVec Ideal S8192x256 .f32) {d : Fin 9216 → Fin 8192 → ℝ} (hsep : Separated z w d)
include hsep

/-- The columns the reference takes. -/
theorem columns_kept (r : Fin 9216) (k : Fin 15) :
    columns (distances z w) (ix2 (n0 := 9216) (n1 := 15) r k) = BitVec.ofNat 32 (kept (d r) k).val :=
  columns_at _ d (fun r j => (distances_at z w r j).trans (hsep.dist_eq r j)) r k

/-- The sum of the codes of a row's fifteen columns. -/
theorem summed_kept (r : Fin 9216) (c : Fin 256) :
    summed w (columns (distances z w)) (ix2 (n0 := 9216) (n1 := 256) r c) = ∑ j ∈ keptSet (d r), (w (ix2 (n0 := 8192) (n1 := 256) j c) : EReal) := by
  refine (sum_at _ (fun r => kept (d r)) (columns_kept z w hsep) w r c).trans ?_
  unfold keptSet
  rw [Finset.sum_image fun a _ b _ hab => kept_injective (d r) hab]

/-- The marks of a row. -/
theorem hot_kept (r : Fin 9216) (j : Fin 8192) :
    hot (columns (distances z w)) (ix2 (n0 := 9216) (n1 := 8192) r j) = if j ∈ keptSet (d r) then (1 : EReal) else 0 := by
  have h := hot_at _ (fun r => kept (d r)) (columns_kept z w hsep) r j
  by_cases hj : j ∈ keptSet (d r)
  · rw [if_pos hj]; exact h.1 ((mem_keptSet (d r) j).1 hj)
  · rw [if_neg hj]; exact h.2 fun hk => hj ((mem_keptSet (d r) j).2 hk)

end

end Cert.ReferenceIdeal.Hand

end
-- ==== Proof.Algebraic.lean ====
module

public import proofs.«01_k».proof.Defs
public import proofs.«01_k».proof.Proof.Ideal.Values
public import proofs.«01_k».proof.Proof.Reference.Values
public import proofs.«01_k».proof.Proof.Gen.Pre_separated

/-!
# The kernel's results are the reference's

All three results agree at every index, where the arguments are `Separated`.
-/

@[expose] public section

noncomputable section

namespace Cert.Proof

open Idealize.ShloMosaic Idealize.SL.Sem
open Cert.Pre_separated.Hand (Separated separated_of)
open Cert.KernelIdeal.Hand (rowsAll lossAll hotAll hotMark codeSum rowErr errAll lossOf_at run_values)
open Cert.ReferenceIdeal.Hand (distances columns summed hot loss loss_at summed_kept hot_kept sq_comm hot_result rows_result loss_result)

section
variable (z : FVec Ideal Cert.ReferenceIdeal.S9216x256 .f32) (w : FVec Ideal Cert.ReferenceIdeal.S8192x256 .f32)
  {d : Fin 9216 → Fin 8192 → ℝ} (hsep : Separated z w d)
include hsep

theorem rows_agree : addf z (subf (summed w (columns (distances z w))) z) = rowsAll z w d := by
  funext i
  obtain ⟨r, c, rfl⟩ : ∃ (r : Fin 9216) (c : Fin 256), i = ix2 (n0 := 9216) (n1 := 256) r c := ⟨i 0, i 1, eq_ix2 i⟩
  exact congrArg (fun s : EReal => (z (ix2 (n0 := 9216) (n1 := 256) r c) : EReal) + (s - z (ix2 (n0 := 9216) (n1 := 256) r c))) (summed_kept z w hsep r c)

theorem hot_agree : hot (columns (distances z w)) = hotAll d := by
  funext i
  obtain ⟨r, j, rfl⟩ : ∃ (r : Fin 9216) (j : Fin 8192), i = ix2 (n0 := 9216) (n1 := 8192) r j := ⟨i 0, i 1, eq_ix2 i⟩
  exact hot_kept z w hsep r j

theorem loss_agree : loss z (summed w (columns (distances z w))) = lossAll z w d := by
  funext i
  have e : (∑ r : Fin 9216, ∑ c : Fin 256,
      (summed w (columns (distances z w)) (ix2 (n0 := 9216) (n1 := 256) r c) - z (ix2 (n0 := 9216) (n1 := 256) r c))
        * (summed w (columns (distances z w)) (ix2 (n0 := 9216) (n1 := 256) r c) - z (ix2 (n0 := 9216) (n1 := 256) r c)) : EReal) = errAll z w d :=
    Finset.sum_congr rfl fun r _ => Finset.sum_congr rfl fun c _ =>
      congrArg (fun s : EReal => (s - z (ix2 (n0 := 9216) (n1 := 256) r c)) * (s - z (ix2 (n0 := 9216) (n1 := 256) r c))) (summed_kept z w hsep r c)
  have e' : (∑ r : Fin 9216, ∑ c : Fin 256,
      (z (ix2 (n0 := 9216) (n1 := 256) r c) - summed w (columns (distances z w)) (ix2 (n0 := 9216) (n1 := 256) r c))
        * (z (ix2 (n0 := 9216) (n1 := 256) r c) - summed w (columns (distances z w)) (ix2 (n0 := 9216) (n1 := 256) r c)) : EReal) = errAll z w d :=
    (Finset.sum_congr rfl fun r _ => Finset.sum_congr rfl fun c _ => sq_comm _ _).trans e
  refine (loss_at z _ i).trans ?_
  rw [e, e']
  exact (lossOf_at (errAll z w d) i).symm

end

theorem kernel_is_reference : Cert.algebraic_KernelIdeal_ReferenceIdeal_pre_separated
    (hKernelIdeal := Cert.KernelIdeal.Gen.facts) (hReferenceIdeal := Cert.ReferenceIdeal.Gen.facts) (hPre_separated := Cert.Pre_separated.Gen.facts) := by
  intro m g m' g' hpre harg
  have hs : ∀ c : Dev Cert.KernelIdeal.nD, ∃ d, Separated (Cert.KernelIdeal.Hand.argZ m c) (Cert.KernelIdeal.Hand.argW m c) d :=
    fun c => separated_of _ _ (hpre c)
  choose d hd using hs
  refine ⟨_, _, _, run_values m g hd, ?_⟩
  refine (θ_run Cert.ReferenceIdeal.defs _ _).mono (fun r h c => ?_) (Cert.ReferenceIdeal.Value.run m' g')
  obtain ⟨h47, h45, h34, h0, h1⟩ := h c
  refine ⟨h47.trans ((rows_result m' c).trans ?_), h45.trans ((loss_result m' c).trans ?_), h34.trans ((hot_result m' c).trans ?_), h0, h1⟩
  · rw [(harg c).1, (harg c).2]
    exact rows_agree (Cert.KernelIdeal.Hand.argZ m c) (Cert.KernelIdeal.Hand.argW m c) (hd c)
  · rw [(harg c).1, (harg c).2]
    exact loss_agree (Cert.KernelIdeal.Hand.argZ m c) (Cert.KernelIdeal.Hand.argW m c) (hd c)
  · rw [(harg c).1, (harg c).2]
    exact hot_agree (Cert.KernelIdeal.Hand.argZ m c) (Cert.KernelIdeal.Hand.argW m c) (hd c)

end Cert.Proof

end
-- ==== Proof.lean ====
/- The proof of the claim: the runs end well (Proof/Frames.lean), the idealisation rewrites nothing, and the
   kernel's three results are the reference's (Proof/Algebraic.lean). -/
module

public import proofs.«01_k».proof.Defs
public import proofs.«01_k».proof.Proof.Frames
public import proofs.«01_k».proof.Proof.Algebraic

@[expose] public section

namespace Cert.Proof

theorem claim : Cert.Claim :=
  ⟨Cert.Kernel.Gen.facts, Cert.KernelIdeal.Gen.facts, Cert.ReferenceIdeal.Gen.facts, Cert.Pre_separated.Gen.facts,
    kernel_quiescent, ideal_quiescent, ideal_quiescent_pre, reference_quiescent, reference_quiescent_pre, trivial,
    kernel_is_reference⟩

end Cert.Proof

end
